-- ==== Defs.lean ====
def Pre_Kernel [hPre_in_bytes : Cert.Pre_in_bytes.Facts] (m : (ℓ : Loc Cert.Kernel.nD Cert.Kernel.τ Cert.Kernel.sig) → Buf (Elt Bits) ℓ) : Prop :=
  ∀ c : Dev Cert.Kernel.nD,
    (Cert.Pre_in_bytes.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_bytes : Cert.Pre_in_bytes.Facts] (m : (ℓ : Loc Cert.KernelIdeal.nD Cert.KernelIdeal.τ Cert.KernelIdeal.sig) → Buf (Elt Ideal) ℓ) : Prop :=
  ∀ c : Dev Cert.KernelIdeal.nD,
    (Cert.Pre_in_bytes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_bytes [hPre_in_bytes : Cert.Pre_in_bytes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_bytes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Reference [hPre_in_bytes : Cert.Pre_in_bytes.Facts] (m : (ℓ : Loc Cert.Reference.nD Cert.Reference.τ Cert.Reference.sig) → Buf (Elt Bits) ℓ) : Prop :=
  ∀ c : Dev Cert.Reference.nD,
    (Cert.Pre_in_bytes.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3))) = (fun _ => 1#1)

def quiescent_Kernel [hKernel : Cert.Kernel.Facts] [hPre_in_bytes : Cert.Pre_in_bytes.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_bytes : Cert.Pre_in_bytes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_bytes [hReferenceIdeal : Cert.ReferenceIdeal.Facts] [hPre_in_bytes : Cert.Pre_in_bytes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_bytes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Reference [hReference : Cert.Reference.Facts] [hPre_in_bytes : Cert.Pre_in_bytes.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_bytes : Cert.Pre_in_bytes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1186) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def bitexact_Kernel_Reference [hKernel : Cert.Kernel.Facts] [hReference : Cert.Reference.Facts] [hPre_in_bytes : Cert.Pre_in_bytes.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v0)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v1186) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3))

def Claim : Prop :=
  ∃ (hKernel : Cert.Kernel.Facts) (hKernelIdeal : Cert.KernelIdeal.Facts) (hReferenceIdeal : Cert.ReferenceIdeal.Facts) (hReference : Cert.Reference.Facts) (hPre_in_bytes : Cert.Pre_in_bytes.Facts),
    quiescent_Kernel (hKernel := hKernel) (hPre_in_bytes := hPre_in_bytes)
    ∧ quiescent_KernelIdeal (hKernelIdeal := hKernelIdeal) (hPre_in_bytes := hPre_in_bytes)
    ∧ quiescent_ReferenceIdeal (hReferenceIdeal := hReferenceIdeal)
    ∧ quiescent_ReferenceIdeal_pre_in_bytes (hReferenceIdeal := hReferenceIdeal) (hPre_in_bytes := hPre_in_bytes)
    ∧ quiescent_Reference (hReference := hReference) (hPre_in_bytes := hPre_in_bytes)
    ∧ preserves_Kernel_KernelIdeal
    ∧ algebraic_KernelIdeal_ReferenceIdeal (hKernelIdeal := hKernelIdeal) (hReferenceIdeal := hReferenceIdeal) (hPre_in_bytes := hPre_in_bytes)
    ∧ bitexact_Kernel_Reference (hKernel := hKernel) (hReference := hReference) (hPre_in_bytes := hPre_in_bytes)
-- ==== Pre_in_bytes.lean ====
abbrev S16 : Shape := ⟨1, ![16]⟩
abbrev S256 : Shape := ⟨1, ![256]⟩
abbrev S10 : Shape := ⟨1, ![10]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel
  bcast_S_S256 : S_.BroadcastsInDim S256 (![] : Fin 0 → Fin S256.rank)
  reducesTo_S256_S_d0 : S256.ReducesTo [0] S_
  bcast_S_S10 : S_.BroadcastsInDim S10 (![] : Fin 0 → Fin S10.rank)
  reducesTo_S10_S_d0 : S10.ReducesTo [0] S_

variable [Facts]

def fn_part1 {F : FTy → Type} [FloatOps F] (main_arg2 : IVec S256 32) (main_arg3 : IVec S10 32) (main_v12 : IVec S_ 1) (main_v14 : IVec S256 1) (main_v15 : IVec S256 32) : IVec S_ 1 :=
  let main_v16 : IVec S256 1 := cmpi .slt main_arg2 main_v15
  let main_v17 : IVec S256 1 := andi main_v14 main_v16
  let main_c_7 : IVec S_ 1 := constantI S_ 1 1#1
  let main_v18 : IVec S_ 1 := (fun x v => Host.reduce IntOp.andi x v reducesTo_S256_S_d0 h_S_) main_v17 main_c_7
  let main_v19 : IVec S_ 1 := andi main_v12 main_v18
  let main_c_8 : IVec S_ 32 := constantI S_ 32 0#32
  let main_v20 : IVec S10 32 := broadcastInDim S10 ![] bcast_S_S10 main_c_8
  let main_v21 : IVec S10 1 := cmpi .sge main_arg3 main_v20
  let main_c_9 : IVec S_ 32 := constantI S_ 32 256#32
  let main_v22 : IVec S10 32 := broadcastInDim S10 ![] bcast_S_S10 main_c_9
  let main_v23 : IVec S10 1 := cmpi .slt main_arg3 main_v22
  let main_v24 : IVec S10 1 := andi main_v21 main_v23
  let main_c_10 : IVec S_ 1 := constantI S_ 1 1#1
  let main_v25 : IVec S_ 1 := (fun x v => Host.reduce IntOp.andi x v reducesTo_S10_S_d0 h_S_) main_v24 main_c_10
  let main_v26 : IVec S_ 1 := andi main_v19 main_v25
  main_v26

def fn {F : FTy → Type} [FloatOps F] (main_arg0 : IVec S16 32) (main_arg1 : IVec S16 32) (main_arg2 : IVec S256 32) (main_arg3 : IVec S10 32) : IVec S_ 1 :=
  let main_c : IVec S_ 32 := constantI S_ 32 0#32
  let main_v0 : IVec S16 32 := broadcastInDim S16 ![] bcast_S_S16 main_c
  let main_v1 : IVec S16 1 := cmpi .sge main_arg0 main_v0
  let main_c_0 : IVec S_ 32 := constantI S_ 32 256#32
  let main_v2 : IVec S16 32 := broadcastInDim S16 ![] bcast_S_S16 main_c_0
  let main_v3 : IVec S16 1 := cmpi .slt main_arg0 main_v2
  let main_v4 : IVec S16 1 := andi main_v1 main_v3
  let main_c_1 : IVec S_ 1 := constantI S_ 1 1#1
  let main_v5 : IVec S_ 1 := (fun x v => Host.reduce IntOp.andi x v reducesTo_S16_S_d0 h_S_) main_v4 main_c_1
  let main_c_2 : IVec S_ 32 := constantI S_ 32 0#32
  let main_v6 : IVec S16 32 := broadcastInDim S16 ![] bcast_S_S16 main_c_2
  let main_v7 : IVec S16 1 := cmpi .sge main_arg1 main_v6
  let main_c_3 : IVec S_ 32 := constantI S_ 32 256#32
  let main_v8 : IVec S16 32 := broadcastInDim S16 ![] bcast_S_S16 main_c_3
  let main_v9 : IVec S16 1 := cmpi .slt main_arg1 main_v8
  let main_v10 : IVec S16 1 := andi main_v7 main_v9
  let main_c_4 : IVec S_ 1 := constantI S_ 1 1#1
  let main_v11 : IVec S_ 1 := (fun x v => Host.reduce IntOp.andi x v reducesTo_S16_S_d0 h_S_) main_v10 main_c_4
  let main_v12 : IVec S_ 1 := andi main_v5 main_v11
  let main_c_5 : IVec S_ 32 := constantI S_ 32 0#32
  let main_v13 : IVec S256 32 := broadcastInDim S256 ![] bcast_S_S256 main_c_5
  let main_v14 : IVec S256 1 := cmpi .sge main_arg2 main_v13
  let main_c_6 : IVec S_ 32 := constantI S_ 32 256#32
  let main_v15 : IVec S256 32 := broadcastInDim S256 ![] bcast_S_S256 main_c_6
  fn_part1 (F := F) main_arg2 main_arg3 main_v12 main_v14 main_v15
-- ==== Kernel.lean ====
abbrev S16 : Shape := ⟨1, ![16]⟩
abbrev S256 : Shape := ⟨1, ![256]⟩
abbrev S10 : Shape := ⟨1, ![10]⟩
abbrev S_ : Shape := ⟨0, ![]⟩
abbrev S1 : Shape := ⟨1, ![1]⟩

abbrev nBuf : Table → Nat
  | .hbm => 5
  | .local .scScalar .smem => 4
  | _ => 0

abbrev bufTy : (tb : Table) → Fin (nBuf tb) → BufTy
  | .hbm, ⟨0, _⟩ => ⟨S16, .i32⟩
  | .hbm, ⟨1, _⟩ => ⟨S16, .i32⟩
  | .hbm, ⟨2, _⟩ => ⟨S256, .i32⟩
  | .hbm, ⟨3, _⟩ => ⟨S10, .i32⟩
  | .hbm, ⟨4, _⟩ => ⟨S16, .i32⟩
  | .local .scScalar .smem, ⟨0, _⟩ => ⟨S256, .i32⟩
  | .local .scScalar .smem, ⟨1, _⟩ => ⟨S10, .i32⟩
  | .local .scScalar .smem, ⟨2, _⟩ => ⟨S16, .i32⟩
  | .local .scScalar .smem, ⟨3, _⟩ => ⟨S16, .i32⟩
  | _, _ => ⟨S16, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_arg0_scs : Ref sig .scScalar := ⟨.hbm, 0, rfl⟩
abbrev main_arg1_scs : Ref sig .scScalar := ⟨.hbm, 1, rfl⟩
abbrev main_arg2_scs : Ref sig .scScalar := ⟨.hbm, 2, rfl⟩
abbrev main_arg3_scs : Ref sig .scScalar := ⟨.hbm, 3, rfl⟩
abbrev main_v0_scs : Ref sig .scScalar := ⟨.hbm, 4, rfl⟩
abbrev cc0_scratch0 : Ref sig .scScalar := ⟨.smem, 0, rfl⟩
abbrev cc0_scratch1 : Ref sig .scScalar := ⟨.smem, 1, rfl⟩
abbrev cc0_scratch2 : Ref sig .scScalar := ⟨.smem, 2, rfl⟩
abbrev cc0_scratch3 : Ref sig .scScalar := ⟨.smem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

@[reducible] def k0_t1_loop : Scf.Loop 32 :=
  let c1_i32_16 : BitVec 32 := 1#32
  let c9_i32_17 : BitVec 32 := 9#32
  let v80 : BitVec 32 := Scalar.addi c1_i32_16 c9_i32_17
  let c1_i32_18 : BitVec 32 := 1#32
  ⟨c1_i32_16, v80, c1_i32_18⟩
def k0_off1 (k0_t1 : Fin k0_t1_loop.trips) : Fin 1 → Nat :=
  let c1_i32_16 : BitVec 32 := 1#32
  let c1_i32_18 : BitVec 32 := 1#32
  let arg13 : BitVec 32 := Scf.iv c1_i32_16 c1_i32_18 k0_t1
  let c1_i32_37 : BitVec 32 := 1#32
  let v189 : BitVec 32 := Scalar.subi arg13 c1_i32_37
  let v190 : Index := Scalar.indexCast v189
  ![v190.toNat]
def k0_off2 (arg43 : BitVec 32) : Fin 1 → Nat :=
  let v192 : Index := Scalar.indexCast arg43
  ![v192.toNat]

def k0_chk1 (arg43 : BitVec 32) : Prop :=
  (∀ a, (k0_off2 arg43) a + S1.size a ≤ S256.size a)
theorem k0_off2_inb : ∀ (arg43 : BitVec 32) (k0_hw1 : k0_chk1 arg43), ∀ a, (k0_off2 arg43) a + S1.size a ≤ S256.size a := fun arg43 k0_hw1 => k0_hw1

def k0_off3 (arg44 : BitVec 32) : Fin 1 → Nat :=
  let v195 : Index := Scalar.indexCast arg44
  ![v195.toNat]

def k0_chk2 (arg44 : BitVec 32) : Prop :=
  (∀ a, (k0_off3 arg44) a + S1.size a ≤ S256.size a)
theorem k0_off3_inb : ∀ (arg44 : BitVec 32) (k0_hw2 : k0_chk2 arg44), ∀ a, (k0_off3 arg44) a + S1.size a ≤ S256.size a := fun arg44 k0_hw2 => k0_hw2

def k0_off4 (arg45 : BitVec 32) : Fin 1 → Nat :=
  let v197 : Index := Scalar.indexCast arg45
  ![v197.toNat]

def k0_chk3 (arg45 : BitVec 32) : Prop :=
  (∀ a, (k0_off4 arg45) a + S1.size a ≤ S256.size a)
theorem k0_off4_inb : ∀ (arg45 : BitVec 32) (k0_hw3 : k0_chk3 arg45), ∀ a, (k0_off4 arg45) a + S1.size a ≤ S256.size a := fun arg45 k0_hw3 => k0_hw3

def k0_off5 (arg42 : BitVec 32) : Fin 1 → Nat :=
  let v199 : Index := Scalar.indexCast arg42
  ![v199.toNat]

def k0_chk4 (arg42 : BitVec 32) : Prop :=
  (∀ a, (k0_off5 arg42) a + S1.size a ≤ S256.size a)
theorem k0_off5_inb : ∀ (arg42 : BitVec 32) (k0_hw4 : k0_chk4 arg42), ∀ a, (k0_off5 arg42) a + S1.size a ≤ S256.size a := fun arg42 k0_hw4 => k0_hw4

def k0_off6 (arg14 : BitVec 32) : Fin 1 → Nat :=
  let v217 : Index := Scalar.indexCast arg14
  ![v217.toNat]

def k0_chk5 (arg14 : BitVec 32) : Prop :=
  (∀ a, (k0_off6 arg14) a + S1.size a ≤ S256.size a)
theorem k0_off6_inb : ∀ (arg14 : BitVec 32) (k0_hw5 : k0_chk5 arg14), ∀ a, (k0_off6 arg14) a + S1.size a ≤ S256.size a := fun arg14 k0_hw5 => k0_hw5

def k0_off7 (arg19 : BitVec 32) : Fin 1 → Nat :=
  let v219 : Index := Scalar.indexCast arg19
  ![v219.toNat]

def k0_chk6 (arg19 : BitVec 32) : Prop :=
  (∀ a, (k0_off7 arg19) a + S1.size a ≤ S256.size a)
theorem k0_off7_inb : ∀ (arg19 : BitVec 32) (k0_hw6 : k0_chk6 arg19), ∀ a, (k0_off7 arg19) a + S1.size a ≤ S256.size a := fun arg19 k0_hw6 => k0_hw6

def k0_off8 (arg24 : BitVec 32) : Fin 1 → Nat :=
  let v221 : Index := Scalar.indexCast arg24
  ![v221.toNat]

def k0_chk7 (arg24 : BitVec 32) : Prop :=
  (∀ a, (k0_off8 arg24) a + S1.size a ≤ S256.size a)
theorem k0_off8_inb : ∀ (arg24 : BitVec 32) (k0_hw7 : k0_chk7 arg24), ∀ a, (k0_off8 arg24) a + S1.size a ≤ S256.size a := fun arg24 k0_hw7 => k0_hw7

def k0_off9 (arg29 : BitVec 32) : Fin 1 → Nat :=
  let v223 : Index := Scalar.indexCast arg29
  ![v223.toNat]

def k0_chk8 (arg29 : BitVec 32) : Prop :=
  (∀ a, (k0_off9 arg29) a + S1.size a ≤ S256.size a)
theorem k0_off9_inb : ∀ (arg29 : BitVec 32) (k0_hw8 : k0_chk8 arg29), ∀ a, (k0_off9 arg29) a + S1.size a ≤ S256.size a := fun arg29 k0_hw8 => k0_hw8

def k0_off10 (arg18 : BitVec 32) : Fin 1 → Nat :=
  let v225 : Index := Scalar.indexCast arg18
  ![v225.toNat]

def k0_chk9 (arg18 : BitVec 32) : Prop :=
  (∀ a, (k0_off10 arg18) a + S1.size a ≤ S256.size a)
theorem k0_off10_inb : ∀ (arg18 : BitVec 32) (k0_hw9 : k0_chk9 arg18), ∀ a, (k0_off10 arg18) a + S1.size a ≤ S256.size a := fun arg18 k0_hw9 => k0_hw9

def k0_off11 (arg23 : BitVec 32) : Fin 1 → Nat :=
  let v227 : Index := Scalar.indexCast arg23
  ![v227.toNat]

def k0_chk10 (arg23 : BitVec 32) : Prop :=
  (∀ a, (k0_off11 arg23) a + S1.size a ≤ S256.size a)
theorem k0_off11_inb : ∀ (arg23 : BitVec 32) (k0_hw10 : k0_chk10 arg23), ∀ a, (k0_off11 arg23) a + S1.size a ≤ S256.size a := fun arg23 k0_hw10 => k0_hw10

def k0_off12 (arg28 : BitVec 32) : Fin 1 → Nat :=
  let v229 : Index := Scalar.indexCast arg28
  ![v229.toNat]

def k0_chk11 (arg28 : BitVec 32) : Prop :=
  (∀ a, (k0_off12 arg28) a + S1.size a ≤ S256.size a)
theorem k0_off12_inb : ∀ (arg28 : BitVec 32) (k0_hw11 : k0_chk11 arg28), ∀ a, (k0_off12 arg28) a + S1.size a ≤ S256.size a := fun arg28 k0_hw11 => k0_hw11

def k0_off13 (arg17 : BitVec 32) : Fin 1 → Nat :=
  let v231 : Index := Scalar.indexCast arg17
  ![v231.toNat]

def k0_chk12 (arg17 : BitVec 32) : Prop :=
  (∀ a, (k0_off13 arg17) a + S1.size a ≤ S256.size a)
theorem k0_off13_inb : ∀ (arg17 : BitVec 32) (k0_hw12 : k0_chk12 arg17), ∀ a, (k0_off13 arg17) a + S1.size a ≤ S256.size a := fun arg17 k0_hw12 => k0_hw12

def k0_off14 (arg22 : BitVec 32) : Fin 1 → Nat :=
  let v233 : Index := Scalar.indexCast arg22
  ![v233.toNat]

def k0_chk13 (arg22 : BitVec 32) : Prop :=
  (∀ a, (k0_off14 arg22) a + S1.size a ≤ S256.size a)
theorem k0_off14_inb : ∀ (arg22 : BitVec 32) (k0_hw13 : k0_chk13 arg22), ∀ a, (k0_off14 arg22) a + S1.size a ≤ S256.size a := fun arg22 k0_hw13 => k0_hw13

def k0_off15 (arg27 : BitVec 32) : Fin 1 → Nat :=
  let v235 : Index := Scalar.indexCast arg27
  ![v235.toNat]

def k0_chk14 (arg27 : BitVec 32) : Prop :=
  (∀ a, (k0_off15 arg27) a + S1.size a ≤ S256.size a)
theorem k0_off15_inb : ∀ (arg27 : BitVec 32) (k0_hw14 : k0_chk14 arg27), ∀ a, (k0_off15 arg27) a + S1.size a ≤ S256.size a := fun arg27 k0_hw14 => k0_hw14

def k0_off16 (arg16 : BitVec 32) : Fin 1 → Nat :=
  let v237 : Index := Scalar.indexCast arg16
  ![v237.toNat]

def k0_chk15 (arg16 : BitVec 32) : Prop :=
  (∀ a, (k0_off16 arg16) a + S1.size a ≤ S256.size a)
theorem k0_off16_inb : ∀ (arg16 : BitVec 32) (k0_hw15 : k0_chk15 arg16), ∀ a, (k0_off16 arg16) a + S1.size a ≤ S256.size a := fun arg16 k0_hw15 => k0_hw15

def k0_off17 (arg21 : BitVec 32) : Fin 1 → Nat :=
  let v239 : Index := Scalar.indexCast arg21
  ![v239.toNat]

def k0_chk16 (arg21 : BitVec 32) : Prop :=
  (∀ a, (k0_off17 arg21) a + S1.size a ≤ S256.size a)
theorem k0_off17_inb : ∀ (arg21 : BitVec 32) (k0_hw16 : k0_chk16 arg21), ∀ a, (k0_off17 arg21) a + S1.size a ≤ S256.size a := fun arg21 k0_hw16 => k0_hw16

def k0_off18 (arg26 : BitVec 32) : Fin 1 → Nat :=
  let v241 : Index := Scalar.indexCast arg26
  ![v241.toNat]

def k0_chk17 (arg26 : BitVec 32) : Prop :=
  (∀ a, (k0_off18 arg26) a + S1.size a ≤ S256.size a)
theorem k0_off18_inb : ∀ (arg26 : BitVec 32) (k0_hw17 : k0_chk17 arg26), ∀ a, (k0_off18 arg26) a + S1.size a ≤ S256.size a := fun arg26 k0_hw17 => k0_hw17

def k0_off19 (arg15 : BitVec 32) : Fin 1 → Nat :=
  let v243 : Index := Scalar.indexCast arg15
  ![v243.toNat]

def k0_chk18 (arg15 : BitVec 32) : Prop :=
  (∀ a, (k0_off19 arg15) a + S1.size a ≤ S256.size a)
theorem k0_off19_inb : ∀ (arg15 : BitVec 32) (k0_hw18 : k0_chk18 arg15), ∀ a, (k0_off19 arg15) a + S1.size a ≤ S256.size a := fun arg15 k0_hw18 => k0_hw18

def k0_off20 (arg20 : BitVec 32) : Fin 1 → Nat :=
  let v245 : Index := Scalar.indexCast arg20
  ![v245.toNat]

def k0_chk19 (arg20 : BitVec 32) : Prop :=
  (∀ a, (k0_off20 arg20) a + S1.size a ≤ S256.size a)
theorem k0_off20_inb : ∀ (arg20 : BitVec 32) (k0_hw19 : k0_chk19 arg20), ∀ a, (k0_off20 arg20) a + S1.size a ≤ S256.size a := fun arg20 k0_hw19 => k0_hw19

def k0_off21 (arg25 : BitVec 32) : Fin 1 → Nat :=
  let v247 : Index := Scalar.indexCast arg25
  ![v247.toNat]

def k0_chk20 (arg25 : BitVec 32) : Prop :=
  (∀ a, (k0_off21 arg25) a + S1.size a ≤ S256.size a)
theorem k0_off21_inb : ∀ (arg25 : BitVec 32) (k0_hw20 : k0_chk20 arg25), ∀ a, (k0_off21 arg25) a + S1.size a ≤ S256.size a := fun arg25 k0_hw20 => k0_hw20

def k0_off22 (v81_29 : BitVec 32) : Fin 1 → Nat :=
  let v84 : Index := Scalar.indexCast v81_29
  ![v84.toNat]

def k0_chk21 (v81_29 : BitVec 32) : Prop :=
  (∀ a, (k0_off22 v81_29) a + S1.size a ≤ S256.size a)
theorem k0_off22_inb : ∀ (v81_29 : BitVec 32) (k0_hw21 : k0_chk21 v81_29), ∀ a, (k0_off22 v81_29) a + S1.size a ≤ S256.size a := fun v81_29 k0_hw21 => k0_hw21

def k0_off23 (v81_30 : BitVec 32) : Fin 1 → Nat :=
  let v87 : Index := Scalar.indexCast v81_30
  ![v87.toNat]

def k0_chk22 (v81_30 : BitVec 32) : Prop :=
  (∀ a, (k0_off23 v81_30) a + S1.size a ≤ S256.size a)
theorem k0_off23_inb : ∀ (v81_30 : BitVec 32) (k0_hw22 : k0_chk22 v81_30), ∀ a, (k0_off23 v81_30) a + S1.size a ≤ S256.size a := fun v81_30 k0_hw22 => k0_hw22

def k0_off24 (v81_31 : BitVec 32) : Fin 1 → Nat :=
  let v89 : Index := Scalar.indexCast v81_31
  ![v89.toNat]

def k0_chk23 (v81_31 : BitVec 32) : Prop :=
  (∀ a, (k0_off24 v81_31) a + S1.size a ≤ S256.size a)
theorem k0_off24_inb : ∀ (v81_31 : BitVec 32) (k0_hw23 : k0_chk23 v81_31), ∀ a, (k0_off24 v81_31) a + S1.size a ≤ S256.size a := fun v81_31 k0_hw23 => k0_hw23

def k0_off25 (v81_28 : BitVec 32) : Fin 1 → Nat :=
  let v91 : Index := Scalar.indexCast v81_28
  ![v91.toNat]

def k0_chk24 (v81_28 : BitVec 32) : Prop :=
  (∀ a, (k0_off25 v81_28) a + S1.size a ≤ S256.size a)
theorem k0_off25_inb : ∀ (v81_28 : BitVec 32) (k0_hw24 : k0_chk24 v81_28), ∀ a, (k0_off25 v81_28) a + S1.size a ≤ S256.size a := fun v81_28 k0_hw24 => k0_hw24

def k0_off26 (v81_0 : BitVec 32) : Fin 1 → Nat :=
  let v109 : Index := Scalar.indexCast v81_0
  ![v109.toNat]

def k0_chk25 (v81_0 : BitVec 32) : Prop :=
  (∀ a, (k0_off26 v81_0) a + S1.size a ≤ S256.size a)
theorem k0_off26_inb : ∀ (v81_0 : BitVec 32) (k0_hw25 : k0_chk25 v81_0), ∀ a, (k0_off26 v81_0) a + S1.size a ≤ S256.size a := fun v81_0 k0_hw25 => k0_hw25

def k0_off27 (v81_5 : BitVec 32) : Fin 1 → Nat :=
  let v114 : Index := Scalar.indexCast v81_5
  ![v114.toNat]

def k0_chk26 (v81_5 : BitVec 32) : Prop :=
  (∀ a, (k0_off27 v81_5) a + S1.size a ≤ S256.size a)
theorem k0_off27_inb : ∀ (v81_5 : BitVec 32) (k0_hw26 : k0_chk26 v81_5), ∀ a, (k0_off27 v81_5) a + S1.size a ≤ S256.size a := fun v81_5 k0_hw26 => k0_hw26

def k0_off28 (v81_10 : BitVec 32) : Fin 1 → Nat :=
  let v119 : Index := Scalar.indexCast v81_10
  ![v119.toNat]

def k0_chk27 (v81_10 : BitVec 32) : Prop :=
  (∀ a, (k0_off28 v81_10) a + S1.size a ≤ S256.size a)
theorem k0_off28_inb : ∀ (v81_10 : BitVec 32) (k0_hw27 : k0_chk27 v81_10), ∀ a, (k0_off28 v81_10) a + S1.size a ≤ S256.size a := fun v81_10 k0_hw27 => k0_hw27

def k0_off29 (v81_15 : BitVec 32) : Fin 1 → Nat :=
  let v124 : Index := Scalar.indexCast v81_15
  ![v124.toNat]

def k0_chk28 (v81_15 : BitVec 32) : Prop :=
  (∀ a, (k0_off29 v81_15) a + S1.size a ≤ S256.size a)
theorem k0_off29_inb : ∀ (v81_15 : BitVec 32) (k0_hw28 : k0_chk28 v81_15), ∀ a, (k0_off29 v81_15) a + S1.size a ≤ S256.size a := fun v81_15 k0_hw28 => k0_hw28

def k0_off30 (v81_4 : BitVec 32) : Fin 1 → Nat :=
  let v129 : Index := Scalar.indexCast v81_4
  ![v129.toNat]

def k0_chk29 (v81_4 : BitVec 32) : Prop :=
  (∀ a, (k0_off30 v81_4) a + S1.size a ≤ S256.size a)
theorem k0_off30_inb : ∀ (v81_4 : BitVec 32) (k0_hw29 : k0_chk29 v81_4), ∀ a, (k0_off30 v81_4) a + S1.size a ≤ S256.size a := fun v81_4 k0_hw29 => k0_hw29

def k0_off31 (v81_9 : BitVec 32) : Fin 1 → Nat :=
  let v134 : Index := Scalar.indexCast v81_9
  ![v134.toNat]

def k0_chk30 (v81_9 : BitVec 32) : Prop :=
  (∀ a, (k0_off31 v81_9) a + S1.size a ≤ S256.size a)
theorem k0_off31_inb : ∀ (v81_9 : BitVec 32) (k0_hw30 : k0_chk30 v81_9), ∀ a, (k0_off31 v81_9) a + S1.size a ≤ S256.size a := fun v81_9 k0_hw30 => k0_hw30

def k0_off32 (v81_14 : BitVec 32) : Fin 1 → Nat :=
  let v139 : Index := Scalar.indexCast v81_14
  ![v139.toNat]

def k0_chk31 (v81_14 : BitVec 32) : Prop :=
  (∀ a, (k0_off32 v81_14) a + S1.size a ≤ S256.size a)
theorem k0_off32_inb : ∀ (v81_14 : BitVec 32) (k0_hw31 : k0_chk31 v81_14), ∀ a, (k0_off32 v81_14) a + S1.size a ≤ S256.size a := fun v81_14 k0_hw31 => k0_hw31

def k0_off33 (v81_3 : BitVec 32) : Fin 1 → Nat :=
  let v144 : Index := Scalar.indexCast v81_3
  ![v144.toNat]

def k0_chk32 (v81_3 : BitVec 32) : Prop :=
  (∀ a, (k0_off33 v81_3) a + S1.size a ≤ S256.size a)
theorem k0_off33_inb : ∀ (v81_3 : BitVec 32) (k0_hw32 : k0_chk32 v81_3), ∀ a, (k0_off33 v81_3) a + S1.size a ≤ S256.size a := fun v81_3 k0_hw32 => k0_hw32

def k0_off34 (v81_8 : BitVec 32) : Fin 1 → Nat :=
  let v149 : Index := Scalar.indexCast v81_8
  ![v149.toNat]

def k0_chk33 (v81_8 : BitVec 32) : Prop :=
  (∀ a, (k0_off34 v81_8) a + S1.size a ≤ S256.size a)
theorem k0_off34_inb : ∀ (v81_8 : BitVec 32) (k0_hw33 : k0_chk33 v81_8), ∀ a, (k0_off34 v81_8) a + S1.size a ≤ S256.size a := fun v81_8 k0_hw33 => k0_hw33

def k0_off35 (v81_13 : BitVec 32) : Fin 1 → Nat :=
  let v154 : Index := Scalar.indexCast v81_13
  ![v154.toNat]

def k0_chk34 (v81_13 : BitVec 32) : Prop :=
  (∀ a, (k0_off35 v81_13) a + S1.size a ≤ S256.size a)
theorem k0_off35_inb : ∀ (v81_13 : BitVec 32) (k0_hw34 : k0_chk34 v81_13), ∀ a, (k0_off35 v81_13) a + S1.size a ≤ S256.size a := fun v81_13 k0_hw34 => k0_hw34

def k0_off36 (v81_2 : BitVec 32) : Fin 1 → Nat :=
  let v159 : Index := Scalar.indexCast v81_2
  ![v159.toNat]

def k0_chk35 (v81_2 : BitVec 32) : Prop :=
  (∀ a, (k0_off36 v81_2) a + S1.size a ≤ S256.size a)
theorem k0_off36_inb : ∀ (v81_2 : BitVec 32) (k0_hw35 : k0_chk35 v81_2), ∀ a, (k0_off36 v81_2) a + S1.size a ≤ S256.size a := fun v81_2 k0_hw35 => k0_hw35

def k0_off37 (v81_7 : BitVec 32) : Fin 1 → Nat :=
  let v164 : Index := Scalar.indexCast v81_7
  ![v164.toNat]

def k0_chk36 (v81_7 : BitVec 32) : Prop :=
  (∀ a, (k0_off37 v81_7) a + S1.size a ≤ S256.size a)
theorem k0_off37_inb : ∀ (v81_7 : BitVec 32) (k0_hw36 : k0_chk36 v81_7), ∀ a, (k0_off37 v81_7) a + S1.size a ≤ S256.size a := fun v81_7 k0_hw36 => k0_hw36

def k0_off38 (v81_12 : BitVec 32) : Fin 1 → Nat :=
  let v169 : Index := Scalar.indexCast v81_12
  ![v169.toNat]

def k0_chk37 (v81_12 : BitVec 32) : Prop :=
  (∀ a, (k0_off38 v81_12) a + S1.size a ≤ S256.size a)
theorem k0_off38_inb : ∀ (v81_12 : BitVec 32) (k0_hw37 : k0_chk37 v81_12), ∀ a, (k0_off38 v81_12) a + S1.size a ≤ S256.size a := fun v81_12 k0_hw37 => k0_hw37

def k0_off39 (v81_1 : BitVec 32) : Fin 1 → Nat :=
  let v174 : Index := Scalar.indexCast v81_1
  ![v174.toNat]

def k0_chk38 (v81_1 : BitVec 32) : Prop :=
  (∀ a, (k0_off39 v81_1) a + S1.size a ≤ S256.size a)
theorem k0_off39_inb : ∀ (v81_1 : BitVec 32) (k0_hw38 : k0_chk38 v81_1), ∀ a, (k0_off39 v81_1) a + S1.size a ≤ S256.size a := fun v81_1 k0_hw38 => k0_hw38

def k0_off40 (v81_6 : BitVec 32) : Fin 1 → Nat :=
  let v179 : Index := Scalar.indexCast v81_6
  ![v179.toNat]

def k0_chk39 (v81_6 : BitVec 32) : Prop :=
  (∀ a, (k0_off40 v81_6) a + S1.size a ≤ S256.size a)
theorem k0_off40_inb : ∀ (v81_6 : BitVec 32) (k0_hw39 : k0_chk39 v81_6), ∀ a, (k0_off40 v81_6) a + S1.size a ≤ S256.size a := fun v81_6 k0_hw39 => k0_hw39

def k0_off41 (v81_11 : BitVec 32) : Fin 1 → Nat :=
  let v184 : Index := Scalar.indexCast v81_11
  ![v184.toNat]

def k0_chk40 (v81_11 : BitVec 32) : Prop :=
  (∀ a, (k0_off41 v81_11) a + S1.size a ≤ S256.size a)
theorem k0_off41_inb : ∀ (v81_11 : BitVec 32) (k0_hw40 : k0_chk40 v81_11), ∀ a, (k0_off41 v81_11) a + S1.size a ≤ S256.size a := fun v81_11 k0_hw40 => k0_hw40

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S16 : Shape := ⟨1, ![16]⟩
abbrev S256 : Shape := ⟨1, ![256]⟩
abbrev S10 : Shape := ⟨1, ![10]⟩
abbrev S4x4 : Shape := ⟨2, ![4, 4]⟩
abbrev S4x1 : Shape := ⟨2, ![4, 1]⟩
abbrev S4 : Shape := ⟨1, ![4]⟩
abbrev S3 : Shape := ⟨1, ![3]⟩
abbrev S1 : Shape := ⟨1, ![1]⟩
abbrev S_ : Shape := ⟨0, ![]⟩
abbrev S1x1 : Shape := ⟨2, ![1, 1]⟩
abbrev S4x4x1 : Shape := ⟨3, ![4, 4, 1]⟩
abbrev S1x1x1 : Shape := ⟨3, ![1, 1, 1]⟩
abbrev S1x4 : Shape := ⟨2, ![1, 4]⟩
abbrev S2 : Shape := ⟨1, ![2]⟩

abbrev nBuf : Space → Nat
  | .hbm => 1917
  | .vmem => 0
  | .smem => 0
  | _ => 0

abbrev hbmTy0_0 (i : Nat) : BufTy := match i % 128 with
  | 0 => ⟨S16, .i32⟩
  | 1 => ⟨S16, .i32⟩
  | 2 => ⟨S256, .i32⟩
  | 3 => ⟨S10, .i32⟩
  | 4 => ⟨S4x4, .i32⟩
  | 5 => ⟨S4x4, .i32⟩
  | 6 => ⟨S4x1, .i32⟩
  | 7 => ⟨S4, .i32⟩
  | 8 => ⟨S3, .i32⟩
  | 9 => ⟨S1, .i32⟩
  | 10 => ⟨S4, .i32⟩
  | 11 => ⟨S_, .i32⟩
  | 12 => ⟨S4, .i32⟩
  | 13 => ⟨S4, .i1⟩
  | 14 => ⟨S_, .i32⟩
  | 15 => ⟨S4, .i32⟩
  | 16 => ⟨S4, .i32⟩
  | 17 => ⟨S4, .i32⟩
  | 18 => ⟨S4x1, .i32⟩
  | 19 => ⟨S1, .i32⟩
  | 20 => ⟨S_, .i32⟩
  | 21 => ⟨S4x1, .i32⟩
  | 22 => ⟨S4x1, .i1⟩
  | 23 => ⟨S1x1, .i32⟩
  | 24 => ⟨S4x1, .i32⟩
  | 25 => ⟨S4x1, .i1⟩
  | 26 => ⟨S4x1, .i1⟩
  | 27 => ⟨S_, .i1⟩
  | 28 => ⟨S4, .i1⟩
  | 29 => ⟨S4, .i32⟩
  | 30 => ⟨S_, .i32⟩
  | 31 => ⟨S4, .i32⟩
  | 32 => ⟨S4, .i32⟩
  | 33 => ⟨S1, .i32⟩
  | 34 => ⟨S_, .i32⟩
  | 35 => ⟨S1, .i32⟩
  | 36 => ⟨S_, .i32⟩
  | 37 => ⟨S_, .i32⟩
  | 38 => ⟨S_, .i32⟩
  | 39 => ⟨S1, .i32⟩
  | 40 => ⟨S4, .i32⟩
  | 41 => ⟨S4x1, .i32⟩
  | 42 => ⟨S4, .i32⟩
  | 43 => ⟨S4, .i32⟩
  | 44 => ⟨S4x1, .i32⟩
  | 45 => ⟨S4, .i32⟩
  | 46 => ⟨S4, .i32⟩
  | 47 => ⟨S4x1, .i32⟩
  | 48 => ⟨S4, .i32⟩
  | 49 => ⟨S4, .i32⟩
  | 50 => ⟨S4x1, .i32⟩
  | 51 => ⟨S4, .i32⟩
  | 52 => ⟨S4, .i32⟩
  | 53 => ⟨S4x1, .i32⟩
  | 54 => ⟨S4x1, .i32⟩
  | 55 => ⟨S4x1, .i32⟩
  | 56 => ⟨S4x1, .i32⟩
  | 57 => ⟨S4x4, .i32⟩
  | 58 => ⟨S4x1, .i32⟩
  | 59 => ⟨S4, .i32⟩
  | 60 => ⟨S3, .i32⟩
  | 61 => ⟨S1, .i32⟩
  | 62 => ⟨S4, .i32⟩
  | 63 => ⟨S_, .i32⟩
  | 64 => ⟨S4, .i32⟩
  | 65 => ⟨S4, .i1⟩
  | 66 => ⟨S_, .i32⟩
  | 67 => ⟨S4, .i32⟩
  | 68 => ⟨S4, .i32⟩
  | 69 => ⟨S4, .i32⟩
  | 70 => ⟨S4x1, .i32⟩
  | 71 => ⟨S1, .i32⟩
  | 72 => ⟨S_, .i32⟩
  | 73 => ⟨S4x1, .i32⟩
  | 74 => ⟨S4x1, .i1⟩
  | 75 => ⟨S1x1, .i32⟩
  | 76 => ⟨S4x1, .i32⟩
  | 77 => ⟨S4x1, .i1⟩
  | 78 => ⟨S4x1, .i1⟩
  | 79 => ⟨S_, .i1⟩
  | 80 => ⟨S4, .i1⟩
  | 81 => ⟨S4, .i32⟩
  | 82 => ⟨S_, .i32⟩
  | 83 => ⟨S4, .i32⟩
  | 84 => ⟨S4, .i32⟩
  | 85 => ⟨S1, .i32⟩
  | 86 => ⟨S_, .i32⟩
  | 87 => ⟨S1, .i32⟩
  | 88 => ⟨S_, .i32⟩
  | 89 => ⟨S_, .i32⟩
  | 90 => ⟨S_, .i32⟩
  | 91 => ⟨S1, .i32⟩
  | 92 => ⟨S4, .i32⟩
  | 93 => ⟨S4x1, .i32⟩
  | 94 => ⟨S4, .i32⟩
  | 95 => ⟨S4, .i32⟩
  | 96 => ⟨S4x1, .i32⟩
  | 97 => ⟨S4, .i32⟩
  | 98 => ⟨S4, .i32⟩
  | 99 => ⟨S4x1, .i32⟩
  | 100 => ⟨S4, .i32⟩
  | 101 => ⟨S4, .i32⟩
  | 102 => ⟨S4x1, .i32⟩
  | 103 => ⟨S4, .i32⟩
  | 104 => ⟨S4, .i32⟩
  | 105 => ⟨S4x1, .i32⟩
  | 106 => ⟨S4x1, .i32⟩
  | 107 => ⟨S4x1, .i32⟩
  | 108 => ⟨S4x1, .i32⟩
  | 109 => ⟨S4x4, .i32⟩
  | 110 => ⟨S4x1, .i32⟩
  | 111 => ⟨S4, .i32⟩
  | 112 => ⟨S3, .i32⟩
  | 113 => ⟨S1, .i32⟩
  | 114 => ⟨S4, .i32⟩
  | 115 => ⟨S_, .i32⟩
  | 116 => ⟨S4, .i32⟩
  | 117 => ⟨S4, .i1⟩
  | 118 => ⟨S_, .i32⟩
  | 119 => ⟨S4, .i32⟩
  | 120 => ⟨S4, .i32⟩
  | 121 => ⟨S4, .i32⟩
  | 122 => ⟨S4x1, .i32⟩
  | 123 => ⟨S1, .i32⟩
  | 124 => ⟨S_, .i32⟩
  | 125 => ⟨S4x1, .i32⟩
  | 126 => ⟨S4x1, .i1⟩
  | 127 => ⟨S1x1, .i32⟩
  | _ => ⟨S16, .i32⟩

abbrev hbmTy0_1 (i : Nat) : BufTy := match i % 128 with
  | 0 => ⟨S4x1, .i32⟩
  | 1 => ⟨S4x1, .i1⟩
  | 2 => ⟨S4x1, .i1⟩
  | 3 => ⟨S_, .i1⟩
  | 4 => ⟨S4, .i1⟩
  | 5 => ⟨S4, .i32⟩
  | 6 => ⟨S_, .i32⟩
  | 7 => ⟨S4, .i32⟩
  | 8 => ⟨S4, .i32⟩
  | 9 => ⟨S1, .i32⟩
  | 10 => ⟨S_, .i32⟩
  | 11 => ⟨S1, .i32⟩
  | 12 => ⟨S_, .i32⟩
  | 13 => ⟨S_, .i32⟩
  | 14 => ⟨S_, .i32⟩
  | 15 => ⟨S1, .i32⟩
  | 16 => ⟨S4, .i32⟩
  | 17 => ⟨S4x1, .i32⟩
  | 18 => ⟨S4, .i32⟩
  | 19 => ⟨S4, .i32⟩
  | 20 => ⟨S4x1, .i32⟩
  | 21 => ⟨S4, .i32⟩
  | 22 => ⟨S4, .i32⟩
  | 23 => ⟨S4x1, .i32⟩
  | 24 => ⟨S4, .i32⟩
  | 25 => ⟨S4, .i32⟩
  | 26 => ⟨S4x1, .i32⟩
  | 27 => ⟨S4, .i32⟩
  | 28 => ⟨S4, .i32⟩
  | 29 => ⟨S4x1, .i32⟩
  | 30 => ⟨S4x1, .i32⟩
  | 31 => ⟨S4x1, .i32⟩
  | 32 => ⟨S4x1, .i32⟩
  | 33 => ⟨S4x4, .i32⟩
  | 34 => ⟨S4x1, .i32⟩
  | 35 => ⟨S4, .i32⟩
  | 36 => ⟨S3, .i32⟩
  | 37 => ⟨S1, .i32⟩
  | 38 => ⟨S4, .i32⟩
  | 39 => ⟨S_, .i32⟩
  | 40 => ⟨S4, .i32⟩
  | 41 => ⟨S4, .i1⟩
  | 42 => ⟨S_, .i32⟩
  | 43 => ⟨S4, .i32⟩
  | 44 => ⟨S4, .i32⟩
  | 45 => ⟨S4, .i32⟩
  | 46 => ⟨S4x1, .i32⟩
  | 47 => ⟨S1, .i32⟩
  | 48 => ⟨S_, .i32⟩
  | 49 => ⟨S4x1, .i32⟩
  | 50 => ⟨S4x1, .i1⟩
  | 51 => ⟨S1x1, .i32⟩
  | 52 => ⟨S4x1, .i32⟩
  | 53 => ⟨S4x1, .i1⟩
  | 54 => ⟨S4x1, .i1⟩
  | 55 => ⟨S_, .i1⟩
  | 56 => ⟨S4, .i1⟩
  | 57 => ⟨S4, .i32⟩
  | 58 => ⟨S_, .i32⟩
  | 59 => ⟨S4, .i32⟩
  | 60 => ⟨S4, .i32⟩
  | 61 => ⟨S1, .i32⟩
  | 62 => ⟨S_, .i32⟩
  | 63 => ⟨S1, .i32⟩
  | 64 => ⟨S_, .i32⟩
  | 65 => ⟨S_, .i32⟩
  | 66 => ⟨S_, .i32⟩
  | 67 => ⟨S1, .i32⟩
  | 68 => ⟨S4, .i32⟩
  | 69 => ⟨S4x1, .i32⟩
  | 70 => ⟨S4, .i32⟩
  | 71 => ⟨S4, .i32⟩
  | 72 => ⟨S4x1, .i32⟩
  | 73 => ⟨S4, .i32⟩
  | 74 => ⟨S4, .i32⟩
  | 75 => ⟨S4x1, .i32⟩
  | 76 => ⟨S4, .i32⟩
  | 77 => ⟨S4, .i32⟩
  | 78 => ⟨S4x1, .i32⟩
  | 79 => ⟨S4, .i32⟩
  | 80 => ⟨S4, .i32⟩
  | 81 => ⟨S4x1, .i32⟩
  | 82 => ⟨S4x1, .i32⟩
  | 83 => ⟨S4x1, .i32⟩
  | 84 => ⟨S4x1, .i32⟩
  | 85 => ⟨S4x4, .i32⟩
  | 86 => ⟨S4x1, .i32⟩
  | 87 => ⟨S4, .i32⟩
  | 88 => ⟨S3, .i32⟩
  | 89 => ⟨S1, .i32⟩
  | 90 => ⟨S4, .i32⟩
  | 91 => ⟨S_, .i32⟩
  | 92 => ⟨S4, .i32⟩
  | 93 => ⟨S4, .i1⟩
  | 94 => ⟨S_, .i32⟩
  | 95 => ⟨S4, .i32⟩
  | 96 => ⟨S4, .i32⟩
  | 97 => ⟨S4, .i32⟩
  | 98 => ⟨S4x1, .i32⟩
  | 99 => ⟨S1, .i32⟩
  | 100 => ⟨S_, .i32⟩
  | 101 => ⟨S4x1, .i32⟩
  | 102 => ⟨S4x1, .i1⟩
  | 103 => ⟨S1x1, .i32⟩
  | 104 => ⟨S4x1, .i32⟩
  | 105 => ⟨S4x1, .i1⟩
  | 106 => ⟨S4x1, .i1⟩
  | 107 => ⟨S_, .i1⟩
  | 108 => ⟨S4, .i1⟩
  | 109 => ⟨S4, .i32⟩
  | 110 => ⟨S_, .i32⟩
  | 111 => ⟨S4, .i32⟩
  | 112 => ⟨S4, .i32⟩
  | 113 => ⟨S1, .i32⟩
  | 114 => ⟨S_, .i32⟩
  | 115 => ⟨S1, .i32⟩
  | 116 => ⟨S_, .i32⟩
  | 117 => ⟨S_, .i32⟩
  | 118 => ⟨S_, .i32⟩
  | 119 => ⟨S1, .i32⟩
  | 120 => ⟨S4, .i32⟩
  | 121 => ⟨S4x1, .i32⟩
  | 122 => ⟨S4, .i32⟩
  | 123 => ⟨S4, .i32⟩
  | 124 => ⟨S4x1, .i32⟩
  | 125 => ⟨S4, .i32⟩
  | 126 => ⟨S4, .i32⟩
  | 127 => ⟨S4x1, .i32⟩
  | _ => ⟨S16, .i32⟩

abbrev hbmTy0_2 (i : Nat) : BufTy := match i % 128 with
  | 0 => ⟨S4, .i32⟩
  | 1 => ⟨S4, .i32⟩
  | 2 => ⟨S4x1, .i32⟩
  | 3 => ⟨S4, .i32⟩
  | 4 => ⟨S4, .i32⟩
  | 5 => ⟨S4x1, .i32⟩
  | 6 => ⟨S4x1, .i32⟩
  | 7 => ⟨S4x1, .i32⟩
  | 8 => ⟨S4x1, .i32⟩
  | 9 => ⟨S4x4, .i32⟩
  | 10 => ⟨S4x1, .i32⟩
  | 11 => ⟨S4, .i32⟩
  | 12 => ⟨S3, .i32⟩
  | 13 => ⟨S1, .i32⟩
  | 14 => ⟨S4, .i32⟩
  | 15 => ⟨S_, .i32⟩
  | 16 => ⟨S4, .i32⟩
  | 17 => ⟨S4, .i1⟩
  | 18 => ⟨S_, .i32⟩
  | 19 => ⟨S4, .i32⟩
  | 20 => ⟨S4, .i32⟩
  | 21 => ⟨S4, .i32⟩
  | 22 => ⟨S4x1, .i32⟩
  | 23 => ⟨S1, .i32⟩
  | 24 => ⟨S_, .i32⟩
  | 25 => ⟨S4x1, .i32⟩
  | 26 => ⟨S4x1, .i1⟩
  | 27 => ⟨S1x1, .i32⟩
  | 28 => ⟨S4x1, .i32⟩
  | 29 => ⟨S4x1, .i1⟩
  | 30 => ⟨S4x1, .i1⟩
  | 31 => ⟨S_, .i1⟩
  | 32 => ⟨S4, .i1⟩
  | 33 => ⟨S4, .i32⟩
  | 34 => ⟨S_, .i32⟩
  | 35 => ⟨S4, .i32⟩
  | 36 => ⟨S4, .i32⟩
  | 37 => ⟨S1, .i32⟩
  | 38 => ⟨S_, .i32⟩
  | 39 => ⟨S1, .i32⟩
  | 40 => ⟨S_, .i32⟩
  | 41 => ⟨S_, .i32⟩
  | 42 => ⟨S_, .i32⟩
  | 43 => ⟨S1, .i32⟩
  | 44 => ⟨S4, .i32⟩
  | 45 => ⟨S4x1, .i32⟩
  | 46 => ⟨S4, .i32⟩
  | 47 => ⟨S4, .i32⟩
  | 48 => ⟨S4x1, .i32⟩
  | 49 => ⟨S4, .i32⟩
  | 50 => ⟨S4, .i32⟩
  | 51 => ⟨S4x1, .i32⟩
  | 52 => ⟨S4, .i32⟩
  | 53 => ⟨S4, .i32⟩
  | 54 => ⟨S4x1, .i32⟩
  | 55 => ⟨S4, .i32⟩
  | 56 => ⟨S4, .i32⟩
  | 57 => ⟨S4x1, .i32⟩
  | 58 => ⟨S4x1, .i32⟩
  | 59 => ⟨S4x1, .i32⟩
  | 60 => ⟨S4x1, .i32⟩
  | 61 => ⟨S4x4, .i32⟩
  | 62 => ⟨S4x1, .i32⟩
  | 63 => ⟨S4, .i32⟩
  | 64 => ⟨S3, .i32⟩
  | 65 => ⟨S1, .i32⟩
  | 66 => ⟨S4, .i32⟩
  | 67 => ⟨S_, .i32⟩
  | 68 => ⟨S4, .i32⟩
  | 69 => ⟨S4, .i1⟩
  | 70 => ⟨S_, .i32⟩
  | 71 => ⟨S4, .i32⟩
  | 72 => ⟨S4, .i32⟩
  | 73 => ⟨S4, .i32⟩
  | 74 => ⟨S4x1, .i32⟩
  | 75 => ⟨S1, .i32⟩
  | 76 => ⟨S_, .i32⟩
  | 77 => ⟨S4x1, .i32⟩
  | 78 => ⟨S4x1, .i1⟩
  | 79 => ⟨S1x1, .i32⟩
  | 80 => ⟨S4x1, .i32⟩
  | 81 => ⟨S4x1, .i1⟩
  | 82 => ⟨S4x1, .i1⟩
  | 83 => ⟨S_, .i1⟩
  | 84 => ⟨S4, .i1⟩
  | 85 => ⟨S4, .i32⟩
  | 86 => ⟨S_, .i32⟩
  | 87 => ⟨S4, .i32⟩
  | 88 => ⟨S4, .i32⟩
  | 89 => ⟨S1, .i32⟩
  | 90 => ⟨S_, .i32⟩
  | 91 => ⟨S1, .i32⟩
  | 92 => ⟨S_, .i32⟩
  | 93 => ⟨S_, .i32⟩
  | 94 => ⟨S_, .i32⟩
  | 95 => ⟨S1, .i32⟩
  | 96 => ⟨S4, .i32⟩
  | 97 => ⟨S4x1, .i32⟩
  | 98 => ⟨S4, .i32⟩
  | 99 => ⟨S4, .i32⟩
  | 100 => ⟨S4x1, .i32⟩
  | 101 => ⟨S4, .i32⟩
  | 102 => ⟨S4, .i32⟩
  | 103 => ⟨S4x1, .i32⟩
  | 104 => ⟨S4, .i32⟩
  | 105 => ⟨S4, .i32⟩
  | 106 => ⟨S4x1, .i32⟩
  | 107 => ⟨S4, .i32⟩
  | 108 => ⟨S4, .i32⟩
  | 109 => ⟨S4x1, .i32⟩
  | 110 => ⟨S4x1, .i32⟩
  | 111 => ⟨S4x1, .i32⟩
  | 112 => ⟨S4x1, .i32⟩
  | 113 => ⟨S4x4, .i32⟩
  | 114 => ⟨S4x1, .i32⟩
  | 115 => ⟨S4, .i32⟩
  | 116 => ⟨S3, .i32⟩
  | 117 => ⟨S1, .i32⟩
  | 118 => ⟨S4, .i32⟩
  | 119 => ⟨S_, .i32⟩
  | 120 => ⟨S4, .i32⟩
  | 121 => ⟨S4, .i1⟩
  | 122 => ⟨S_, .i32⟩
  | 123 => ⟨S4, .i32⟩
  | 124 => ⟨S4, .i32⟩
  | 125 => ⟨S4, .i32⟩
  | 126 => ⟨S4x1, .i32⟩
  | 127 => ⟨S1, .i32⟩
  | _ => ⟨S16, .i32⟩

abbrev hbmTy0_3 (i : Nat) : BufTy := match i % 128 with
  | 0 => ⟨S_, .i32⟩
  | 1 => ⟨S4x1, .i32⟩
  | 2 => ⟨S4x1, .i1⟩
  | 3 => ⟨S1x1, .i32⟩
  | 4 => ⟨S4x1, .i32⟩
  | 5 => ⟨S4x1, .i1⟩
  | 6 => ⟨S4x1, .i1⟩
  | 7 => ⟨S_, .i1⟩
  | 8 => ⟨S4, .i1⟩
  | 9 => ⟨S4, .i32⟩
  | 10 => ⟨S_, .i32⟩
  | 11 => ⟨S4, .i32⟩
  | 12 => ⟨S4, .i32⟩
  | 13 => ⟨S1, .i32⟩
  | 14 => ⟨S_, .i32⟩
  | 15 => ⟨S1, .i32⟩
  | 16 => ⟨S_, .i32⟩
  | 17 => ⟨S_, .i32⟩
  | 18 => ⟨S_, .i32⟩
  | 19 => ⟨S1, .i32⟩
  | 20 => ⟨S4, .i32⟩
  | 21 => ⟨S4x1, .i32⟩
  | 22 => ⟨S4, .i32⟩
  | 23 => ⟨S4, .i32⟩
  | 24 => ⟨S4x1, .i32⟩
  | 25 => ⟨S4, .i32⟩
  | 26 => ⟨S4, .i32⟩
  | 27 => ⟨S4x1, .i32⟩
  | 28 => ⟨S4, .i32⟩
  | 29 => ⟨S4, .i32⟩
  | 30 => ⟨S4x1, .i32⟩
  | 31 => ⟨S4, .i32⟩
  | 32 => ⟨S4, .i32⟩
  | 33 => ⟨S4x1, .i32⟩
  | 34 => ⟨S4x1, .i32⟩
  | 35 => ⟨S4x1, .i32⟩
  | 36 => ⟨S4x1, .i32⟩
  | 37 => ⟨S4x4, .i32⟩
  | 38 => ⟨S4x1, .i32⟩
  | 39 => ⟨S4, .i32⟩
  | 40 => ⟨S3, .i32⟩
  | 41 => ⟨S1, .i32⟩
  | 42 => ⟨S4, .i32⟩
  | 43 => ⟨S_, .i32⟩
  | 44 => ⟨S4, .i32⟩
  | 45 => ⟨S4, .i1⟩
  | 46 => ⟨S_, .i32⟩
  | 47 => ⟨S4, .i32⟩
  | 48 => ⟨S4, .i32⟩
  | 49 => ⟨S4, .i32⟩
  | 50 => ⟨S4x1, .i32⟩
  | 51 => ⟨S1, .i32⟩
  | 52 => ⟨S_, .i32⟩
  | 53 => ⟨S4x1, .i32⟩
  | 54 => ⟨S4x1, .i1⟩
  | 55 => ⟨S1x1, .i32⟩
  | 56 => ⟨S4x1, .i32⟩
  | 57 => ⟨S4x1, .i1⟩
  | 58 => ⟨S4x1, .i1⟩
  | 59 => ⟨S_, .i1⟩
  | 60 => ⟨S4, .i1⟩
  | 61 => ⟨S4, .i32⟩
  | 62 => ⟨S_, .i32⟩
  | 63 => ⟨S4, .i32⟩
  | 64 => ⟨S4, .i32⟩
  | 65 => ⟨S1, .i32⟩
  | 66 => ⟨S_, .i32⟩
  | 67 => ⟨S1, .i32⟩
  | 68 => ⟨S_, .i32⟩
  | 69 => ⟨S_, .i32⟩
  | 70 => ⟨S_, .i32⟩
  | 71 => ⟨S1, .i32⟩
  | 72 => ⟨S4, .i32⟩
  | 73 => ⟨S4x1, .i32⟩
  | 74 => ⟨S4, .i32⟩
  | 75 => ⟨S4, .i32⟩
  | 76 => ⟨S4x1, .i32⟩
  | 77 => ⟨S4, .i32⟩
  | 78 => ⟨S4, .i32⟩
  | 79 => ⟨S4x1, .i32⟩
  | 80 => ⟨S4, .i32⟩
  | 81 => ⟨S4, .i32⟩
  | 82 => ⟨S4x1, .i32⟩
  | 83 => ⟨S4, .i32⟩
  | 84 => ⟨S4, .i32⟩
  | 85 => ⟨S4x1, .i32⟩
  | 86 => ⟨S4x1, .i32⟩
  | 87 => ⟨S4x1, .i32⟩
  | 88 => ⟨S4x1, .i32⟩
  | 89 => ⟨S4x4, .i32⟩
  | 90 => ⟨S4x1, .i32⟩
  | 91 => ⟨S4, .i32⟩
  | 92 => ⟨S3, .i32⟩
  | 93 => ⟨S1, .i32⟩
  | 94 => ⟨S4, .i32⟩
  | 95 => ⟨S_, .i32⟩
  | 96 => ⟨S4, .i32⟩
  | 97 => ⟨S4, .i1⟩
  | 98 => ⟨S_, .i32⟩
  | 99 => ⟨S4, .i32⟩
  | 100 => ⟨S4, .i32⟩
  | 101 => ⟨S4, .i32⟩
  | 102 => ⟨S4x1, .i32⟩
  | 103 => ⟨S1, .i32⟩
  | 104 => ⟨S_, .i32⟩
  | 105 => ⟨S4x1, .i32⟩
  | 106 => ⟨S4x1, .i1⟩
  | 107 => ⟨S1x1, .i32⟩
  | 108 => ⟨S4x1, .i32⟩
  | 109 => ⟨S4x1, .i1⟩
  | 110 => ⟨S4x1, .i1⟩
  | 111 => ⟨S_, .i1⟩
  | 112 => ⟨S4, .i1⟩
  | 113 => ⟨S4, .i32⟩
  | 114 => ⟨S_, .i32⟩
  | 115 => ⟨S4, .i32⟩
  | 116 => ⟨S4, .i32⟩
  | 117 => ⟨S1, .i32⟩
  | 118 => ⟨S_, .i32⟩
  | 119 => ⟨S1, .i32⟩
  | 120 => ⟨S_, .i32⟩
  | 121 => ⟨S_, .i32⟩
  | 122 => ⟨S_, .i32⟩
  | 123 => ⟨S1, .i32⟩
  | 124 => ⟨S4, .i32⟩
  | 125 => ⟨S4x1, .i32⟩
  | 126 => ⟨S4, .i32⟩
  | 127 => ⟨S4, .i32⟩
  | _ => ⟨S16, .i32⟩

abbrev hbmTy0_4 (i : Nat) : BufTy := match i % 128 with
  | 0 => ⟨S4x1, .i32⟩
  | 1 => ⟨S4, .i32⟩
  | 2 => ⟨S4, .i32⟩
  | 3 => ⟨S4x1, .i32⟩
  | 4 => ⟨S4, .i32⟩
  | 5 => ⟨S4, .i32⟩
  | 6 => ⟨S4x1, .i32⟩
  | 7 => ⟨S4, .i32⟩
  | 8 => ⟨S4, .i32⟩
  | 9 => ⟨S4x1, .i32⟩
  | 10 => ⟨S4x1, .i32⟩
  | 11 => ⟨S4x1, .i32⟩
  | 12 => ⟨S4x1, .i32⟩
  | 13 => ⟨S4x4, .i32⟩
  | 14 => ⟨S4x4, .i32⟩
  | 15 => ⟨S4x4, .i32⟩
  | 16 => ⟨S4x4, .i32⟩
  | 17 => ⟨S_, .i32⟩
  | 18 => ⟨S4x4, .i32⟩
  | 19 => ⟨S4x4, .i1⟩
  | 20 => ⟨S_, .i32⟩
  | 21 => ⟨S4x4, .i32⟩
  | 22 => ⟨S4x4, .i32⟩
  | 23 => ⟨S4x4, .i32⟩
  | 24 => ⟨S4x4x1, .i32⟩
  | 25 => ⟨S1, .i32⟩
  | 26 => ⟨S_, .i32⟩
  | 27 => ⟨S4x4x1, .i32⟩
  | 28 => ⟨S4x4x1, .i1⟩
  | 29 => ⟨S1x1x1, .i32⟩
  | 30 => ⟨S4x4x1, .i32⟩
  | 31 => ⟨S4x4x1, .i1⟩
  | 32 => ⟨S4x4x1, .i1⟩
  | 33 => ⟨S_, .i1⟩
  | 34 => ⟨S4x4, .i1⟩
  | 35 => ⟨S4x4, .i32⟩
  | 36 => ⟨S_, .i32⟩
  | 37 => ⟨S4x4, .i32⟩
  | 38 => ⟨S4x4, .i32⟩
  | 39 => ⟨S1x4, .i32⟩
  | 40 => ⟨S4, .i32⟩
  | 41 => ⟨S1x4, .i32⟩
  | 42 => ⟨S4, .i32⟩
  | 43 => ⟨S3, .i32⟩
  | 44 => ⟨S1, .i32⟩
  | 45 => ⟨S4, .i32⟩
  | 46 => ⟨S1x4, .i32⟩
  | 47 => ⟨S4, .i32⟩
  | 48 => ⟨S2, .i32⟩
  | 49 => ⟨S2, .i32⟩
  | 50 => ⟨S4, .i32⟩
  | 51 => ⟨S1x4, .i32⟩
  | 52 => ⟨S4, .i32⟩
  | 53 => ⟨S1, .i32⟩
  | 54 => ⟨S3, .i32⟩
  | 55 => ⟨S4, .i32⟩
  | 56 => ⟨S1x4, .i32⟩
  | 57 => ⟨S1x4, .i32⟩
  | 58 => ⟨S1x4, .i32⟩
  | 59 => ⟨S1x4, .i32⟩
  | 60 => ⟨S4x4, .i32⟩
  | 61 => ⟨S1x4, .i32⟩
  | 62 => ⟨S4, .i32⟩
  | 63 => ⟨S1x4, .i32⟩
  | 64 => ⟨S4, .i32⟩
  | 65 => ⟨S1x4, .i32⟩
  | 66 => ⟨S4, .i32⟩
  | 67 => ⟨S1x4, .i32⟩
  | 68 => ⟨S4, .i32⟩
  | 69 => ⟨S4, .i32⟩
  | 70 => ⟨S4, .i32⟩
  | 71 => ⟨S4, .i32⟩
  | 72 => ⟨S4, .i32⟩
  | 73 => ⟨S4, .i32⟩
  | 74 => ⟨S_, .i32⟩
  | 75 => ⟨S4, .i32⟩
  | 76 => ⟨S4, .i32⟩
  | 77 => ⟨S_, .i32⟩
  | 78 => ⟨S4, .i32⟩
  | 79 => ⟨S4, .i32⟩
  | 80 => ⟨S_, .i32⟩
  | 81 => ⟨S4, .i32⟩
  | 82 => ⟨S4, .i32⟩
  | 83 => ⟨S_, .i32⟩
  | 84 => ⟨S4, .i32⟩
  | 85 => ⟨S4, .i32⟩
  | 86 => ⟨S4, .i32⟩
  | 87 => ⟨S_, .i32⟩
  | 88 => ⟨S4, .i32⟩
  | 89 => ⟨S4, .i32⟩
  | 90 => ⟨S4, .i32⟩
  | 91 => ⟨S_, .i32⟩
  | 92 => ⟨S4, .i32⟩
  | 93 => ⟨S4, .i32⟩
  | 94 => ⟨S4, .i32⟩
  | 95 => ⟨S4, .i32⟩
  | 96 => ⟨S_, .i32⟩
  | 97 => ⟨S4, .i32⟩
  | 98 => ⟨S4, .i32⟩
  | 99 => ⟨S_, .i32⟩
  | 100 => ⟨S4, .i32⟩
  | 101 => ⟨S4, .i32⟩
  | 102 => ⟨S_, .i32⟩
  | 103 => ⟨S4, .i32⟩
  | 104 => ⟨S4, .i32⟩
  | 105 => ⟨S_, .i32⟩
  | 106 => ⟨S4, .i32⟩
  | 107 => ⟨S4, .i32⟩
  | 108 => ⟨S4, .i32⟩
  | 109 => ⟨S_, .i32⟩
  | 110 => ⟨S4, .i32⟩
  | 111 => ⟨S4, .i32⟩
  | 112 => ⟨S4, .i32⟩
  | 113 => ⟨S_, .i32⟩
  | 114 => ⟨S4, .i32⟩
  | 115 => ⟨S4, .i32⟩
  | 116 => ⟨S4, .i32⟩
  | 117 => ⟨S4, .i32⟩
  | 118 => ⟨S_, .i32⟩
  | 119 => ⟨S4, .i32⟩
  | 120 => ⟨S4, .i32⟩
  | 121 => ⟨S_, .i32⟩
  | 122 => ⟨S4, .i32⟩
  | 123 => ⟨S4, .i32⟩
  | 124 => ⟨S_, .i32⟩
  | 125 => ⟨S4, .i32⟩
  | 126 => ⟨S4, .i32⟩
  | 127 => ⟨S_, .i32⟩
  | _ => ⟨S16, .i32⟩

abbrev hbmTy0_5 (i : Nat) : BufTy := match i % 128 with
  | 0 => ⟨S4, .i32⟩
  | 1 => ⟨S4, .i32⟩
  | 2 => ⟨S4, .i32⟩
  | 3 => ⟨S_, .i32⟩
  | 4 => ⟨S4, .i32⟩
  | 5 => ⟨S4, .i32⟩
  | 6 => ⟨S4, .i32⟩
  | 7 => ⟨S_, .i32⟩
  | 8 => ⟨S4, .i32⟩
  | 9 => ⟨S4, .i32⟩
  | 10 => ⟨S4, .i32⟩
  | 11 => ⟨S4, .i32⟩
  | 12 => ⟨S_, .i32⟩
  | 13 => ⟨S4, .i32⟩
  | 14 => ⟨S4, .i32⟩
  | 15 => ⟨S_, .i32⟩
  | 16 => ⟨S4, .i32⟩
  | 17 => ⟨S4, .i32⟩
  | 18 => ⟨S_, .i32⟩
  | 19 => ⟨S4, .i32⟩
  | 20 => ⟨S4, .i32⟩
  | 21 => ⟨S_, .i32⟩
  | 22 => ⟨S4, .i32⟩
  | 23 => ⟨S4, .i32⟩
  | 24 => ⟨S4, .i32⟩
  | 25 => ⟨S_, .i32⟩
  | 26 => ⟨S4, .i32⟩
  | 27 => ⟨S4, .i32⟩
  | 28 => ⟨S4, .i32⟩
  | 29 => ⟨S_, .i32⟩
  | 30 => ⟨S4, .i32⟩
  | 31 => ⟨S4, .i32⟩
  | 32 => ⟨S1x4, .i32⟩
  | 33 => ⟨S1x4, .i32⟩
  | 34 => ⟨S1x4, .i32⟩
  | 35 => ⟨S1x4, .i32⟩
  | 36 => ⟨S4x4, .i32⟩
  | 37 => ⟨S4x4, .i32⟩
  | 38 => ⟨S_, .i32⟩
  | 39 => ⟨S4x4, .i32⟩
  | 40 => ⟨S4x4, .i1⟩
  | 41 => ⟨S_, .i32⟩
  | 42 => ⟨S4x4, .i32⟩
  | 43 => ⟨S4x4, .i32⟩
  | 44 => ⟨S4x4, .i32⟩
  | 45 => ⟨S4x4x1, .i32⟩
  | 46 => ⟨S1, .i32⟩
  | 47 => ⟨S_, .i32⟩
  | 48 => ⟨S4x4x1, .i32⟩
  | 49 => ⟨S4x4x1, .i1⟩
  | 50 => ⟨S1x1x1, .i32⟩
  | 51 => ⟨S4x4x1, .i32⟩
  | 52 => ⟨S4x4x1, .i1⟩
  | 53 => ⟨S4x4x1, .i1⟩
  | 54 => ⟨S_, .i1⟩
  | 55 => ⟨S4x4, .i1⟩
  | 56 => ⟨S4x4, .i32⟩
  | 57 => ⟨S_, .i32⟩
  | 58 => ⟨S4x4, .i32⟩
  | 59 => ⟨S4x4, .i32⟩
  | 60 => ⟨S1x4, .i32⟩
  | 61 => ⟨S4, .i32⟩
  | 62 => ⟨S1x4, .i32⟩
  | 63 => ⟨S4, .i32⟩
  | 64 => ⟨S3, .i32⟩
  | 65 => ⟨S1, .i32⟩
  | 66 => ⟨S4, .i32⟩
  | 67 => ⟨S1x4, .i32⟩
  | 68 => ⟨S4, .i32⟩
  | 69 => ⟨S2, .i32⟩
  | 70 => ⟨S2, .i32⟩
  | 71 => ⟨S4, .i32⟩
  | 72 => ⟨S1x4, .i32⟩
  | 73 => ⟨S4, .i32⟩
  | 74 => ⟨S1, .i32⟩
  | 75 => ⟨S3, .i32⟩
  | 76 => ⟨S4, .i32⟩
  | 77 => ⟨S1x4, .i32⟩
  | 78 => ⟨S1x4, .i32⟩
  | 79 => ⟨S1x4, .i32⟩
  | 80 => ⟨S1x4, .i32⟩
  | 81 => ⟨S4x4, .i32⟩
  | 82 => ⟨S1x4, .i32⟩
  | 83 => ⟨S4, .i32⟩
  | 84 => ⟨S1x4, .i32⟩
  | 85 => ⟨S4, .i32⟩
  | 86 => ⟨S1x4, .i32⟩
  | 87 => ⟨S4, .i32⟩
  | 88 => ⟨S1x4, .i32⟩
  | 89 => ⟨S4, .i32⟩
  | 90 => ⟨S4, .i32⟩
  | 91 => ⟨S4, .i32⟩
  | 92 => ⟨S4, .i32⟩
  | 93 => ⟨S4, .i32⟩
  | 94 => ⟨S4, .i32⟩
  | 95 => ⟨S_, .i32⟩
  | 96 => ⟨S4, .i32⟩
  | 97 => ⟨S4, .i32⟩
  | 98 => ⟨S_, .i32⟩
  | 99 => ⟨S4, .i32⟩
  | 100 => ⟨S4, .i32⟩
  | 101 => ⟨S_, .i32⟩
  | 102 => ⟨S4, .i32⟩
  | 103 => ⟨S4, .i32⟩
  | 104 => ⟨S_, .i32⟩
  | 105 => ⟨S4, .i32⟩
  | 106 => ⟨S4, .i32⟩
  | 107 => ⟨S4, .i32⟩
  | 108 => ⟨S_, .i32⟩
  | 109 => ⟨S4, .i32⟩
  | 110 => ⟨S4, .i32⟩
  | 111 => ⟨S4, .i32⟩
  | 112 => ⟨S_, .i32⟩
  | 113 => ⟨S4, .i32⟩
  | 114 => ⟨S4, .i32⟩
  | 115 => ⟨S4, .i32⟩
  | 116 => ⟨S4, .i32⟩
  | 117 => ⟨S_, .i32⟩
  | 118 => ⟨S4, .i32⟩
  | 119 => ⟨S4, .i32⟩
  | 120 => ⟨S_, .i32⟩
  | 121 => ⟨S4, .i32⟩
  | 122 => ⟨S4, .i32⟩
  | 123 => ⟨S_, .i32⟩
  | 124 => ⟨S4, .i32⟩
  | 125 => ⟨S4, .i32⟩
  | 126 => ⟨S_, .i32⟩
  | 127 => ⟨S4, .i32⟩
  | _ => ⟨S16, .i32⟩

abbrev hbmTy0_6 (i : Nat) : BufTy := match i % 128 with
  | 0 => ⟨S4, .i32⟩
  | 1 => ⟨S4, .i32⟩
  | 2 => ⟨S_, .i32⟩
  | 3 => ⟨S4, .i32⟩
  | 4 => ⟨S4, .i32⟩
  | 5 => ⟨S4, .i32⟩
  | 6 => ⟨S_, .i32⟩
  | 7 => ⟨S4, .i32⟩
  | 8 => ⟨S4, .i32⟩
  | 9 => ⟨S4, .i32⟩
  | 10 => ⟨S4, .i32⟩
  | 11 => ⟨S_, .i32⟩
  | 12 => ⟨S4, .i32⟩
  | 13 => ⟨S4, .i32⟩
  | 14 => ⟨S_, .i32⟩
  | 15 => ⟨S4, .i32⟩
  | 16 => ⟨S4, .i32⟩
  | 17 => ⟨S_, .i32⟩
  | 18 => ⟨S4, .i32⟩
  | 19 => ⟨S4, .i32⟩
  | 20 => ⟨S_, .i32⟩
  | 21 => ⟨S4, .i32⟩
  | 22 => ⟨S4, .i32⟩
  | 23 => ⟨S4, .i32⟩
  | 24 => ⟨S_, .i32⟩
  | 25 => ⟨S4, .i32⟩
  | 26 => ⟨S4, .i32⟩
  | 27 => ⟨S4, .i32⟩
  | 28 => ⟨S_, .i32⟩
  | 29 => ⟨S4, .i32⟩
  | 30 => ⟨S4, .i32⟩
  | 31 => ⟨S4, .i32⟩
  | 32 => ⟨S4, .i32⟩
  | 33 => ⟨S_, .i32⟩
  | 34 => ⟨S4, .i32⟩
  | 35 => ⟨S4, .i32⟩
  | 36 => ⟨S_, .i32⟩
  | 37 => ⟨S4, .i32⟩
  | 38 => ⟨S4, .i32⟩
  | 39 => ⟨S_, .i32⟩
  | 40 => ⟨S4, .i32⟩
  | 41 => ⟨S4, .i32⟩
  | 42 => ⟨S_, .i32⟩
  | 43 => ⟨S4, .i32⟩
  | 44 => ⟨S4, .i32⟩
  | 45 => ⟨S4, .i32⟩
  | 46 => ⟨S_, .i32⟩
  | 47 => ⟨S4, .i32⟩
  | 48 => ⟨S4, .i32⟩
  | 49 => ⟨S4, .i32⟩
  | 50 => ⟨S_, .i32⟩
  | 51 => ⟨S4, .i32⟩
  | 52 => ⟨S4, .i32⟩
  | 53 => ⟨S1x4, .i32⟩
  | 54 => ⟨S1x4, .i32⟩
  | 55 => ⟨S1x4, .i32⟩
  | 56 => ⟨S1x4, .i32⟩
  | 57 => ⟨S4x4, .i32⟩
  | 58 => ⟨S4x4, .i32⟩
  | 59 => ⟨S_, .i32⟩
  | 60 => ⟨S4x4, .i32⟩
  | 61 => ⟨S4x4, .i1⟩
  | 62 => ⟨S_, .i32⟩
  | 63 => ⟨S4x4, .i32⟩
  | 64 => ⟨S4x4, .i32⟩
  | 65 => ⟨S4x4, .i32⟩
  | 66 => ⟨S4x4x1, .i32⟩
  | 67 => ⟨S1, .i32⟩
  | 68 => ⟨S_, .i32⟩
  | 69 => ⟨S4x4x1, .i32⟩
  | 70 => ⟨S4x4x1, .i1⟩
  | 71 => ⟨S1x1x1, .i32⟩
  | 72 => ⟨S4x4x1, .i32⟩
  | 73 => ⟨S4x4x1, .i1⟩
  | 74 => ⟨S4x4x1, .i1⟩
  | 75 => ⟨S_, .i1⟩
  | 76 => ⟨S4x4, .i1⟩
  | 77 => ⟨S4x4, .i32⟩
  | 78 => ⟨S_, .i32⟩
  | 79 => ⟨S4x4, .i32⟩
  | 80 => ⟨S4x4, .i32⟩
  | 81 => ⟨S1x4, .i32⟩
  | 82 => ⟨S4, .i32⟩
  | 83 => ⟨S1x4, .i32⟩
  | 84 => ⟨S4, .i32⟩
  | 85 => ⟨S3, .i32⟩
  | 86 => ⟨S1, .i32⟩
  | 87 => ⟨S4, .i32⟩
  | 88 => ⟨S1x4, .i32⟩
  | 89 => ⟨S4, .i32⟩
  | 90 => ⟨S2, .i32⟩
  | 91 => ⟨S2, .i32⟩
  | 92 => ⟨S4, .i32⟩
  | 93 => ⟨S1x4, .i32⟩
  | 94 => ⟨S4, .i32⟩
  | 95 => ⟨S1, .i32⟩
  | 96 => ⟨S3, .i32⟩
  | 97 => ⟨S4, .i32⟩
  | 98 => ⟨S1x4, .i32⟩
  | 99 => ⟨S1x4, .i32⟩
  | 100 => ⟨S1x4, .i32⟩
  | 101 => ⟨S1x4, .i32⟩
  | 102 => ⟨S4x4, .i32⟩
  | 103 => ⟨S1x4, .i32⟩
  | 104 => ⟨S4, .i32⟩
  | 105 => ⟨S1x4, .i32⟩
  | 106 => ⟨S4, .i32⟩
  | 107 => ⟨S1x4, .i32⟩
  | 108 => ⟨S4, .i32⟩
  | 109 => ⟨S1x4, .i32⟩
  | 110 => ⟨S4, .i32⟩
  | 111 => ⟨S4, .i32⟩
  | 112 => ⟨S4, .i32⟩
  | 113 => ⟨S4, .i32⟩
  | 114 => ⟨S4, .i32⟩
  | 115 => ⟨S4, .i32⟩
  | 116 => ⟨S_, .i32⟩
  | 117 => ⟨S4, .i32⟩
  | 118 => ⟨S4, .i32⟩
  | 119 => ⟨S_, .i32⟩
  | 120 => ⟨S4, .i32⟩
  | 121 => ⟨S4, .i32⟩
  | 122 => ⟨S_, .i32⟩
  | 123 => ⟨S4, .i32⟩
  | 124 => ⟨S4, .i32⟩
  | 125 => ⟨S_, .i32⟩
  | 126 => ⟨S4, .i32⟩
  | 127 => ⟨S4, .i32⟩
  | _ => ⟨S16, .i32⟩

abbrev hbmTy0_7 (i : Nat) : BufTy := match i % 128 with
  | 0 => ⟨S4, .i32⟩
  | 1 => ⟨S_, .i32⟩
  | 2 => ⟨S4, .i32⟩
  | 3 => ⟨S4, .i32⟩
  | 4 => ⟨S4, .i32⟩
  | 5 => ⟨S_, .i32⟩
  | 6 => ⟨S4, .i32⟩
  | 7 => ⟨S4, .i32⟩
  | 8 => ⟨S4, .i32⟩
  | 9 => ⟨S4, .i32⟩
  | 10 => ⟨S_, .i32⟩
  | 11 => ⟨S4, .i32⟩
  | 12 => ⟨S4, .i32⟩
  | 13 => ⟨S_, .i32⟩
  | 14 => ⟨S4, .i32⟩
  | 15 => ⟨S4, .i32⟩
  | 16 => ⟨S_, .i32⟩
  | 17 => ⟨S4, .i32⟩
  | 18 => ⟨S4, .i32⟩
  | 19 => ⟨S_, .i32⟩
  | 20 => ⟨S4, .i32⟩
  | 21 => ⟨S4, .i32⟩
  | 22 => ⟨S4, .i32⟩
  | 23 => ⟨S_, .i32⟩
  | 24 => ⟨S4, .i32⟩
  | 25 => ⟨S4, .i32⟩
  | 26 => ⟨S4, .i32⟩
  | 27 => ⟨S_, .i32⟩
  | 28 => ⟨S4, .i32⟩
  | 29 => ⟨S4, .i32⟩
  | 30 => ⟨S4, .i32⟩
  | 31 => ⟨S4, .i32⟩
  | 32 => ⟨S_, .i32⟩
  | 33 => ⟨S4, .i32⟩
  | 34 => ⟨S4, .i32⟩
  | 35 => ⟨S_, .i32⟩
  | 36 => ⟨S4, .i32⟩
  | 37 => ⟨S4, .i32⟩
  | 38 => ⟨S_, .i32⟩
  | 39 => ⟨S4, .i32⟩
  | 40 => ⟨S4, .i32⟩
  | 41 => ⟨S_, .i32⟩
  | 42 => ⟨S4, .i32⟩
  | 43 => ⟨S4, .i32⟩
  | 44 => ⟨S4, .i32⟩
  | 45 => ⟨S_, .i32⟩
  | 46 => ⟨S4, .i32⟩
  | 47 => ⟨S4, .i32⟩
  | 48 => ⟨S4, .i32⟩
  | 49 => ⟨S_, .i32⟩
  | 50 => ⟨S4, .i32⟩
  | 51 => ⟨S4, .i32⟩
  | 52 => ⟨S4, .i32⟩
  | 53 => ⟨S4, .i32⟩
  | 54 => ⟨S_, .i32⟩
  | 55 => ⟨S4, .i32⟩
  | 56 => ⟨S4, .i32⟩
  | 57 => ⟨S_, .i32⟩
  | 58 => ⟨S4, .i32⟩
  | 59 => ⟨S4, .i32⟩
  | 60 => ⟨S_, .i32⟩
  | 61 => ⟨S4, .i32⟩
  | 62 => ⟨S4, .i32⟩
  | 63 => ⟨S_, .i32⟩
  | 64 => ⟨S4, .i32⟩
  | 65 => ⟨S4, .i32⟩
  | 66 => ⟨S4, .i32⟩
  | 67 => ⟨S_, .i32⟩
  | 68 => ⟨S4, .i32⟩
  | 69 => ⟨S4, .i32⟩
  | 70 => ⟨S4, .i32⟩
  | 71 => ⟨S_, .i32⟩
  | 72 => ⟨S4, .i32⟩
  | 73 => ⟨S4, .i32⟩
  | 74 => ⟨S1x4, .i32⟩
  | 75 => ⟨S1x4, .i32⟩
  | 76 => ⟨S1x4, .i32⟩
  | 77 => ⟨S1x4, .i32⟩
  | 78 => ⟨S4x4, .i32⟩
  | 79 => ⟨S4x4, .i32⟩
  | 80 => ⟨S_, .i32⟩
  | 81 => ⟨S4x4, .i32⟩
  | 82 => ⟨S4x4, .i1⟩
  | 83 => ⟨S_, .i32⟩
  | 84 => ⟨S4x4, .i32⟩
  | 85 => ⟨S4x4, .i32⟩
  | 86 => ⟨S4x4, .i32⟩
  | 87 => ⟨S4x4x1, .i32⟩
  | 88 => ⟨S1, .i32⟩
  | 89 => ⟨S_, .i32⟩
  | 90 => ⟨S4x4x1, .i32⟩
  | 91 => ⟨S4x4x1, .i1⟩
  | 92 => ⟨S1x1x1, .i32⟩
  | 93 => ⟨S4x4x1, .i32⟩
  | 94 => ⟨S4x4x1, .i1⟩
  | 95 => ⟨S4x4x1, .i1⟩
  | 96 => ⟨S_, .i1⟩
  | 97 => ⟨S4x4, .i1⟩
  | 98 => ⟨S4x4, .i32⟩
  | 99 => ⟨S_, .i32⟩
  | 100 => ⟨S4x4, .i32⟩
  | 101 => ⟨S4x4, .i32⟩
  | 102 => ⟨S1x4, .i32⟩
  | 103 => ⟨S4, .i32⟩
  | 104 => ⟨S1x4, .i32⟩
  | 105 => ⟨S4, .i32⟩
  | 106 => ⟨S3, .i32⟩
  | 107 => ⟨S1, .i32⟩
  | 108 => ⟨S4, .i32⟩
  | 109 => ⟨S1x4, .i32⟩
  | 110 => ⟨S4, .i32⟩
  | 111 => ⟨S2, .i32⟩
  | 112 => ⟨S2, .i32⟩
  | 113 => ⟨S4, .i32⟩
  | 114 => ⟨S1x4, .i32⟩
  | 115 => ⟨S4, .i32⟩
  | 116 => ⟨S1, .i32⟩
  | 117 => ⟨S3, .i32⟩
  | 118 => ⟨S4, .i32⟩
  | 119 => ⟨S1x4, .i32⟩
  | 120 => ⟨S1x4, .i32⟩
  | 121 => ⟨S1x4, .i32⟩
  | 122 => ⟨S1x4, .i32⟩
  | 123 => ⟨S4x4, .i32⟩
  | 124 => ⟨S1x4, .i32⟩
  | 125 => ⟨S4, .i32⟩
  | 126 => ⟨S1x4, .i32⟩
  | 127 => ⟨S4, .i32⟩
  | _ => ⟨S16, .i32⟩

abbrev hbmTy0_8 (i : Nat) : BufTy := match i % 128 with
  | 0 => ⟨S1x4, .i32⟩
  | 1 => ⟨S4, .i32⟩
  | 2 => ⟨S1x4, .i32⟩
  | 3 => ⟨S4, .i32⟩
  | 4 => ⟨S4, .i32⟩
  | 5 => ⟨S4, .i32⟩
  | 6 => ⟨S4, .i32⟩
  | 7 => ⟨S4, .i32⟩
  | 8 => ⟨S4, .i32⟩
  | 9 => ⟨S_, .i32⟩
  | 10 => ⟨S4, .i32⟩
  | 11 => ⟨S4, .i32⟩
  | 12 => ⟨S_, .i32⟩
  | 13 => ⟨S4, .i32⟩
  | 14 => ⟨S4, .i32⟩
  | 15 => ⟨S_, .i32⟩
  | 16 => ⟨S4, .i32⟩
  | 17 => ⟨S4, .i32⟩
  | 18 => ⟨S_, .i32⟩
  | 19 => ⟨S4, .i32⟩
  | 20 => ⟨S4, .i32⟩
  | 21 => ⟨S4, .i32⟩
  | 22 => ⟨S_, .i32⟩
  | 23 => ⟨S4, .i32⟩
  | 24 => ⟨S4, .i32⟩
  | 25 => ⟨S4, .i32⟩
  | 26 => ⟨S_, .i32⟩
  | 27 => ⟨S4, .i32⟩
  | 28 => ⟨S4, .i32⟩
  | 29 => ⟨S4, .i32⟩
  | 30 => ⟨S4, .i32⟩
  | 31 => ⟨S_, .i32⟩
  | 32 => ⟨S4, .i32⟩
  | 33 => ⟨S4, .i32⟩
  | 34 => ⟨S_, .i32⟩
  | 35 => ⟨S4, .i32⟩
  | 36 => ⟨S4, .i32⟩
  | 37 => ⟨S_, .i32⟩
  | 38 => ⟨S4, .i32⟩
  | 39 => ⟨S4, .i32⟩
  | 40 => ⟨S_, .i32⟩
  | 41 => ⟨S4, .i32⟩
  | 42 => ⟨S4, .i32⟩
  | 43 => ⟨S4, .i32⟩
  | 44 => ⟨S_, .i32⟩
  | 45 => ⟨S4, .i32⟩
  | 46 => ⟨S4, .i32⟩
  | 47 => ⟨S4, .i32⟩
  | 48 => ⟨S_, .i32⟩
  | 49 => ⟨S4, .i32⟩
  | 50 => ⟨S4, .i32⟩
  | 51 => ⟨S4, .i32⟩
  | 52 => ⟨S4, .i32⟩
  | 53 => ⟨S_, .i32⟩
  | 54 => ⟨S4, .i32⟩
  | 55 => ⟨S4, .i32⟩
  | 56 => ⟨S_, .i32⟩
  | 57 => ⟨S4, .i32⟩
  | 58 => ⟨S4, .i32⟩
  | 59 => ⟨S_, .i32⟩
  | 60 => ⟨S4, .i32⟩
  | 61 => ⟨S4, .i32⟩
  | 62 => ⟨S_, .i32⟩
  | 63 => ⟨S4, .i32⟩
  | 64 => ⟨S4, .i32⟩
  | 65 => ⟨S4, .i32⟩
  | 66 => ⟨S_, .i32⟩
  | 67 => ⟨S4, .i32⟩
  | 68 => ⟨S4, .i32⟩
  | 69 => ⟨S4, .i32⟩
  | 70 => ⟨S_, .i32⟩
  | 71 => ⟨S4, .i32⟩
  | 72 => ⟨S4, .i32⟩
  | 73 => ⟨S4, .i32⟩
  | 74 => ⟨S4, .i32⟩
  | 75 => ⟨S_, .i32⟩
  | 76 => ⟨S4, .i32⟩
  | 77 => ⟨S4, .i32⟩
  | 78 => ⟨S_, .i32⟩
  | 79 => ⟨S4, .i32⟩
  | 80 => ⟨S4, .i32⟩
  | 81 => ⟨S_, .i32⟩
  | 82 => ⟨S4, .i32⟩
  | 83 => ⟨S4, .i32⟩
  | 84 => ⟨S_, .i32⟩
  | 85 => ⟨S4, .i32⟩
  | 86 => ⟨S4, .i32⟩
  | 87 => ⟨S4, .i32⟩
  | 88 => ⟨S_, .i32⟩
  | 89 => ⟨S4, .i32⟩
  | 90 => ⟨S4, .i32⟩
  | 91 => ⟨S4, .i32⟩
  | 92 => ⟨S_, .i32⟩
  | 93 => ⟨S4, .i32⟩
  | 94 => ⟨S4, .i32⟩
  | 95 => ⟨S1x4, .i32⟩
  | 96 => ⟨S1x4, .i32⟩
  | 97 => ⟨S1x4, .i32⟩
  | 98 => ⟨S1x4, .i32⟩
  | 99 => ⟨S4x4, .i32⟩
  | 100 => ⟨S4x4, .i32⟩
  | 101 => ⟨S_, .i32⟩
  | 102 => ⟨S4x4, .i32⟩
  | 103 => ⟨S4x4, .i1⟩
  | 104 => ⟨S_, .i32⟩
  | 105 => ⟨S4x4, .i32⟩
  | 106 => ⟨S4x4, .i32⟩
  | 107 => ⟨S4x4, .i32⟩
  | 108 => ⟨S4x4x1, .i32⟩
  | 109 => ⟨S1, .i32⟩
  | 110 => ⟨S_, .i32⟩
  | 111 => ⟨S4x4x1, .i32⟩
  | 112 => ⟨S4x4x1, .i1⟩
  | 113 => ⟨S1x1x1, .i32⟩
  | 114 => ⟨S4x4x1, .i32⟩
  | 115 => ⟨S4x4x1, .i1⟩
  | 116 => ⟨S4x4x1, .i1⟩
  | 117 => ⟨S_, .i1⟩
  | 118 => ⟨S4x4, .i1⟩
  | 119 => ⟨S4x4, .i32⟩
  | 120 => ⟨S_, .i32⟩
  | 121 => ⟨S4x4, .i32⟩
  | 122 => ⟨S4x4, .i32⟩
  | 123 => ⟨S1x4, .i32⟩
  | 124 => ⟨S4, .i32⟩
  | 125 => ⟨S1x4, .i32⟩
  | 126 => ⟨S4, .i32⟩
  | 127 => ⟨S3, .i32⟩
  | _ => ⟨S16, .i32⟩

abbrev hbmTy0_9 (i : Nat) : BufTy := match i % 128 with
  | 0 => ⟨S1, .i32⟩
  | 1 => ⟨S4, .i32⟩
  | 2 => ⟨S1x4, .i32⟩
  | 3 => ⟨S4, .i32⟩
  | 4 => ⟨S2, .i32⟩
  | 5 => ⟨S2, .i32⟩
  | 6 => ⟨S4, .i32⟩
  | 7 => ⟨S1x4, .i32⟩
  | 8 => ⟨S4, .i32⟩
  | 9 => ⟨S1, .i32⟩
  | 10 => ⟨S3, .i32⟩
  | 11 => ⟨S4, .i32⟩
  | 12 => ⟨S1x4, .i32⟩
  | 13 => ⟨S1x4, .i32⟩
  | 14 => ⟨S1x4, .i32⟩
  | 15 => ⟨S1x4, .i32⟩
  | 16 => ⟨S4x4, .i32⟩
  | 17 => ⟨S1x4, .i32⟩
  | 18 => ⟨S4, .i32⟩
  | 19 => ⟨S1x4, .i32⟩
  | 20 => ⟨S4, .i32⟩
  | 21 => ⟨S1x4, .i32⟩
  | 22 => ⟨S4, .i32⟩
  | 23 => ⟨S1x4, .i32⟩
  | 24 => ⟨S4, .i32⟩
  | 25 => ⟨S4, .i32⟩
  | 26 => ⟨S4, .i32⟩
  | 27 => ⟨S4, .i32⟩
  | 28 => ⟨S4, .i32⟩
  | 29 => ⟨S4, .i32⟩
  | 30 => ⟨S_, .i32⟩
  | 31 => ⟨S4, .i32⟩
  | 32 => ⟨S4, .i32⟩
  | 33 => ⟨S_, .i32⟩
  | 34 => ⟨S4, .i32⟩
  | 35 => ⟨S4, .i32⟩
  | 36 => ⟨S_, .i32⟩
  | 37 => ⟨S4, .i32⟩
  | 38 => ⟨S4, .i32⟩
  | 39 => ⟨S_, .i32⟩
  | 40 => ⟨S4, .i32⟩
  | 41 => ⟨S4, .i32⟩
  | 42 => ⟨S4, .i32⟩
  | 43 => ⟨S_, .i32⟩
  | 44 => ⟨S4, .i32⟩
  | 45 => ⟨S4, .i32⟩
  | 46 => ⟨S4, .i32⟩
  | 47 => ⟨S_, .i32⟩
  | 48 => ⟨S4, .i32⟩
  | 49 => ⟨S4, .i32⟩
  | 50 => ⟨S4, .i32⟩
  | 51 => ⟨S4, .i32⟩
  | 52 => ⟨S_, .i32⟩
  | 53 => ⟨S4, .i32⟩
  | 54 => ⟨S4, .i32⟩
  | 55 => ⟨S_, .i32⟩
  | 56 => ⟨S4, .i32⟩
  | 57 => ⟨S4, .i32⟩
  | 58 => ⟨S_, .i32⟩
  | 59 => ⟨S4, .i32⟩
  | 60 => ⟨S4, .i32⟩
  | 61 => ⟨S_, .i32⟩
  | 62 => ⟨S4, .i32⟩
  | 63 => ⟨S4, .i32⟩
  | 64 => ⟨S4, .i32⟩
  | 65 => ⟨S_, .i32⟩
  | 66 => ⟨S4, .i32⟩
  | 67 => ⟨S4, .i32⟩
  | 68 => ⟨S4, .i32⟩
  | 69 => ⟨S_, .i32⟩
  | 70 => ⟨S4, .i32⟩
  | 71 => ⟨S4, .i32⟩
  | 72 => ⟨S4, .i32⟩
  | 73 => ⟨S4, .i32⟩
  | 74 => ⟨S_, .i32⟩
  | 75 => ⟨S4, .i32⟩
  | 76 => ⟨S4, .i32⟩
  | 77 => ⟨S_, .i32⟩
  | 78 => ⟨S4, .i32⟩
  | 79 => ⟨S4, .i32⟩
  | 80 => ⟨S_, .i32⟩
  | 81 => ⟨S4, .i32⟩
  | 82 => ⟨S4, .i32⟩
  | 83 => ⟨S_, .i32⟩
  | 84 => ⟨S4, .i32⟩
  | 85 => ⟨S4, .i32⟩
  | 86 => ⟨S4, .i32⟩
  | 87 => ⟨S_, .i32⟩
  | 88 => ⟨S4, .i32⟩
  | 89 => ⟨S4, .i32⟩
  | 90 => ⟨S4, .i32⟩
  | 91 => ⟨S_, .i32⟩
  | 92 => ⟨S4, .i32⟩
  | 93 => ⟨S4, .i32⟩
  | 94 => ⟨S4, .i32⟩
  | 95 => ⟨S4, .i32⟩
  | 96 => ⟨S_, .i32⟩
  | 97 => ⟨S4, .i32⟩
  | 98 => ⟨S4, .i32⟩
  | 99 => ⟨S_, .i32⟩
  | 100 => ⟨S4, .i32⟩
  | 101 => ⟨S4, .i32⟩
  | 102 => ⟨S_, .i32⟩
  | 103 => ⟨S4, .i32⟩
  | 104 => ⟨S4, .i32⟩
  | 105 => ⟨S_, .i32⟩
  | 106 => ⟨S4, .i32⟩
  | 107 => ⟨S4, .i32⟩
  | 108 => ⟨S4, .i32⟩
  | 109 => ⟨S_, .i32⟩
  | 110 => ⟨S4, .i32⟩
  | 111 => ⟨S4, .i32⟩
  | 112 => ⟨S4, .i32⟩
  | 113 => ⟨S_, .i32⟩
  | 114 => ⟨S4, .i32⟩
  | 115 => ⟨S4, .i32⟩
  | 116 => ⟨S1x4, .i32⟩
  | 117 => ⟨S1x4, .i32⟩
  | 118 => ⟨S1x4, .i32⟩
  | 119 => ⟨S1x4, .i32⟩
  | 120 => ⟨S4x4, .i32⟩
  | 121 => ⟨S4x4, .i32⟩
  | 122 => ⟨S_, .i32⟩
  | 123 => ⟨S4x4, .i32⟩
  | 124 => ⟨S4x4, .i1⟩
  | 125 => ⟨S_, .i32⟩
  | 126 => ⟨S4x4, .i32⟩
  | 127 => ⟨S4x4, .i32⟩
  | _ => ⟨S16, .i32⟩

abbrev hbmTy0_10 (i : Nat) : BufTy := match i % 128 with
  | 0 => ⟨S4x4, .i32⟩
  | 1 => ⟨S4x4x1, .i32⟩
  | 2 => ⟨S1, .i32⟩
  | 3 => ⟨S_, .i32⟩
  | 4 => ⟨S4x4x1, .i32⟩
  | 5 => ⟨S4x4x1, .i1⟩
  | 6 => ⟨S1x1x1, .i32⟩
  | 7 => ⟨S4x4x1, .i32⟩
  | 8 => ⟨S4x4x1, .i1⟩
  | 9 => ⟨S4x4x1, .i1⟩
  | 10 => ⟨S_, .i1⟩
  | 11 => ⟨S4x4, .i1⟩
  | 12 => ⟨S4x4, .i32⟩
  | 13 => ⟨S_, .i32⟩
  | 14 => ⟨S4x4, .i32⟩
  | 15 => ⟨S4x4, .i32⟩
  | 16 => ⟨S1x4, .i32⟩
  | 17 => ⟨S4, .i32⟩
  | 18 => ⟨S1x4, .i32⟩
  | 19 => ⟨S4, .i32⟩
  | 20 => ⟨S3, .i32⟩
  | 21 => ⟨S1, .i32⟩
  | 22 => ⟨S4, .i32⟩
  | 23 => ⟨S1x4, .i32⟩
  | 24 => ⟨S4, .i32⟩
  | 25 => ⟨S2, .i32⟩
  | 26 => ⟨S2, .i32⟩
  | 27 => ⟨S4, .i32⟩
  | 28 => ⟨S1x4, .i32⟩
  | 29 => ⟨S4, .i32⟩
  | 30 => ⟨S1, .i32⟩
  | 31 => ⟨S3, .i32⟩
  | 32 => ⟨S4, .i32⟩
  | 33 => ⟨S1x4, .i32⟩
  | 34 => ⟨S1x4, .i32⟩
  | 35 => ⟨S1x4, .i32⟩
  | 36 => ⟨S1x4, .i32⟩
  | 37 => ⟨S4x4, .i32⟩
  | 38 => ⟨S1x4, .i32⟩
  | 39 => ⟨S4, .i32⟩
  | 40 => ⟨S1x4, .i32⟩
  | 41 => ⟨S4, .i32⟩
  | 42 => ⟨S1x4, .i32⟩
  | 43 => ⟨S4, .i32⟩
  | 44 => ⟨S1x4, .i32⟩
  | 45 => ⟨S4, .i32⟩
  | 46 => ⟨S4, .i32⟩
  | 47 => ⟨S4, .i32⟩
  | 48 => ⟨S4, .i32⟩
  | 49 => ⟨S4, .i32⟩
  | 50 => ⟨S4, .i32⟩
  | 51 => ⟨S_, .i32⟩
  | 52 => ⟨S4, .i32⟩
  | 53 => ⟨S4, .i32⟩
  | 54 => ⟨S_, .i32⟩
  | 55 => ⟨S4, .i32⟩
  | 56 => ⟨S4, .i32⟩
  | 57 => ⟨S_, .i32⟩
  | 58 => ⟨S4, .i32⟩
  | 59 => ⟨S4, .i32⟩
  | 60 => ⟨S_, .i32⟩
  | 61 => ⟨S4, .i32⟩
  | 62 => ⟨S4, .i32⟩
  | 63 => ⟨S4, .i32⟩
  | 64 => ⟨S_, .i32⟩
  | 65 => ⟨S4, .i32⟩
  | 66 => ⟨S4, .i32⟩
  | 67 => ⟨S4, .i32⟩
  | 68 => ⟨S_, .i32⟩
  | 69 => ⟨S4, .i32⟩
  | 70 => ⟨S4, .i32⟩
  | 71 => ⟨S4, .i32⟩
  | 72 => ⟨S4, .i32⟩
  | 73 => ⟨S_, .i32⟩
  | 74 => ⟨S4, .i32⟩
  | 75 => ⟨S4, .i32⟩
  | 76 => ⟨S_, .i32⟩
  | 77 => ⟨S4, .i32⟩
  | 78 => ⟨S4, .i32⟩
  | 79 => ⟨S_, .i32⟩
  | 80 => ⟨S4, .i32⟩
  | 81 => ⟨S4, .i32⟩
  | 82 => ⟨S_, .i32⟩
  | 83 => ⟨S4, .i32⟩
  | 84 => ⟨S4, .i32⟩
  | 85 => ⟨S4, .i32⟩
  | 86 => ⟨S_, .i32⟩
  | 87 => ⟨S4, .i32⟩
  | 88 => ⟨S4, .i32⟩
  | 89 => ⟨S4, .i32⟩
  | 90 => ⟨S_, .i32⟩
  | 91 => ⟨S4, .i32⟩
  | 92 => ⟨S4, .i32⟩
  | 93 => ⟨S4, .i32⟩
  | 94 => ⟨S4, .i32⟩
  | 95 => ⟨S_, .i32⟩
  | 96 => ⟨S4, .i32⟩
  | 97 => ⟨S4, .i32⟩
  | 98 => ⟨S_, .i32⟩
  | 99 => ⟨S4, .i32⟩
  | 100 => ⟨S4, .i32⟩
  | 101 => ⟨S_, .i32⟩
  | 102 => ⟨S4, .i32⟩
  | 103 => ⟨S4, .i32⟩
  | 104 => ⟨S_, .i32⟩
  | 105 => ⟨S4, .i32⟩
  | 106 => ⟨S4, .i32⟩
  | 107 => ⟨S4, .i32⟩
  | 108 => ⟨S_, .i32⟩
  | 109 => ⟨S4, .i32⟩
  | 110 => ⟨S4, .i32⟩
  | 111 => ⟨S4, .i32⟩
  | 112 => ⟨S_, .i32⟩
  | 113 => ⟨S4, .i32⟩
  | 114 => ⟨S4, .i32⟩
  | 115 => ⟨S4, .i32⟩
  | 116 => ⟨S4, .i32⟩
  | 117 => ⟨S_, .i32⟩
  | 118 => ⟨S4, .i32⟩
  | 119 => ⟨S4, .i32⟩
  | 120 => ⟨S_, .i32⟩
  | 121 => ⟨S4, .i32⟩
  | 122 => ⟨S4, .i32⟩
  | 123 => ⟨S_, .i32⟩
  | 124 => ⟨S4, .i32⟩
  | 125 => ⟨S4, .i32⟩
  | 126 => ⟨S_, .i32⟩
  | 127 => ⟨S4, .i32⟩
  | _ => ⟨S16, .i32⟩

abbrev hbmTy0_11 (i : Nat) : BufTy := match i % 128 with
  | 0 => ⟨S4, .i32⟩
  | 1 => ⟨S4, .i32⟩
  | 2 => ⟨S_, .i32⟩
  | 3 => ⟨S4, .i32⟩
  | 4 => ⟨S4, .i32⟩
  | 5 => ⟨S4, .i32⟩
  | 6 => ⟨S_, .i32⟩
  | 7 => ⟨S4, .i32⟩
  | 8 => ⟨S4, .i32⟩
  | 9 => ⟨S1x4, .i32⟩
  | 10 => ⟨S1x4, .i32⟩
  | 11 => ⟨S1x4, .i32⟩
  | 12 => ⟨S1x4, .i32⟩
  | 13 => ⟨S4x4, .i32⟩
  | 14 => ⟨S4x4, .i32⟩
  | 15 => ⟨S_, .i32⟩
  | 16 => ⟨S4x4, .i32⟩
  | 17 => ⟨S4x4, .i1⟩
  | 18 => ⟨S_, .i32⟩
  | 19 => ⟨S4x4, .i32⟩
  | 20 => ⟨S4x4, .i32⟩
  | 21 => ⟨S4x4, .i32⟩
  | 22 => ⟨S4x4x1, .i32⟩
  | 23 => ⟨S1, .i32⟩
  | 24 => ⟨S_, .i32⟩
  | 25 => ⟨S4x4x1, .i32⟩
  | 26 => ⟨S4x4x1, .i1⟩
  | 27 => ⟨S1x1x1, .i32⟩
  | 28 => ⟨S4x4x1, .i32⟩
  | 29 => ⟨S4x4x1, .i1⟩
  | 30 => ⟨S4x4x1, .i1⟩
  | 31 => ⟨S_, .i1⟩
  | 32 => ⟨S4x4, .i1⟩
  | 33 => ⟨S4x4, .i32⟩
  | 34 => ⟨S_, .i32⟩
  | 35 => ⟨S4x4, .i32⟩
  | 36 => ⟨S4x4, .i32⟩
  | 37 => ⟨S1x4, .i32⟩
  | 38 => ⟨S4, .i32⟩
  | 39 => ⟨S1x4, .i32⟩
  | 40 => ⟨S4, .i32⟩
  | 41 => ⟨S3, .i32⟩
  | 42 => ⟨S1, .i32⟩
  | 43 => ⟨S4, .i32⟩
  | 44 => ⟨S1x4, .i32⟩
  | 45 => ⟨S4, .i32⟩
  | 46 => ⟨S2, .i32⟩
  | 47 => ⟨S2, .i32⟩
  | 48 => ⟨S4, .i32⟩
  | 49 => ⟨S1x4, .i32⟩
  | 50 => ⟨S4, .i32⟩
  | 51 => ⟨S1, .i32⟩
  | 52 => ⟨S3, .i32⟩
  | 53 => ⟨S4, .i32⟩
  | 54 => ⟨S1x4, .i32⟩
  | 55 => ⟨S1x4, .i32⟩
  | 56 => ⟨S1x4, .i32⟩
  | 57 => ⟨S1x4, .i32⟩
  | 58 => ⟨S4x4, .i32⟩
  | 59 => ⟨S1x4, .i32⟩
  | 60 => ⟨S4, .i32⟩
  | 61 => ⟨S1x4, .i32⟩
  | 62 => ⟨S4, .i32⟩
  | 63 => ⟨S1x4, .i32⟩
  | 64 => ⟨S4, .i32⟩
  | 65 => ⟨S1x4, .i32⟩
  | 66 => ⟨S4, .i32⟩
  | 67 => ⟨S4, .i32⟩
  | 68 => ⟨S4, .i32⟩
  | 69 => ⟨S4, .i32⟩
  | 70 => ⟨S4, .i32⟩
  | 71 => ⟨S4, .i32⟩
  | 72 => ⟨S_, .i32⟩
  | 73 => ⟨S4, .i32⟩
  | 74 => ⟨S4, .i32⟩
  | 75 => ⟨S_, .i32⟩
  | 76 => ⟨S4, .i32⟩
  | 77 => ⟨S4, .i32⟩
  | 78 => ⟨S_, .i32⟩
  | 79 => ⟨S4, .i32⟩
  | 80 => ⟨S4, .i32⟩
  | 81 => ⟨S_, .i32⟩
  | 82 => ⟨S4, .i32⟩
  | 83 => ⟨S4, .i32⟩
  | 84 => ⟨S4, .i32⟩
  | 85 => ⟨S_, .i32⟩
  | 86 => ⟨S4, .i32⟩
  | 87 => ⟨S4, .i32⟩
  | 88 => ⟨S4, .i32⟩
  | 89 => ⟨S_, .i32⟩
  | 90 => ⟨S4, .i32⟩
  | 91 => ⟨S4, .i32⟩
  | 92 => ⟨S4, .i32⟩
  | 93 => ⟨S4, .i32⟩
  | 94 => ⟨S_, .i32⟩
  | 95 => ⟨S4, .i32⟩
  | 96 => ⟨S4, .i32⟩
  | 97 => ⟨S_, .i32⟩
  | 98 => ⟨S4, .i32⟩
  | 99 => ⟨S4, .i32⟩
  | 100 => ⟨S_, .i32⟩
  | 101 => ⟨S4, .i32⟩
  | 102 => ⟨S4, .i32⟩
  | 103 => ⟨S_, .i32⟩
  | 104 => ⟨S4, .i32⟩
  | 105 => ⟨S4, .i32⟩
  | 106 => ⟨S4, .i32⟩
  | 107 => ⟨S_, .i32⟩
  | 108 => ⟨S4, .i32⟩
  | 109 => ⟨S4, .i32⟩
  | 110 => ⟨S4, .i32⟩
  | 111 => ⟨S_, .i32⟩
  | 112 => ⟨S4, .i32⟩
  | 113 => ⟨S4, .i32⟩
  | 114 => ⟨S4, .i32⟩
  | 115 => ⟨S4, .i32⟩
  | 116 => ⟨S_, .i32⟩
  | 117 => ⟨S4, .i32⟩
  | 118 => ⟨S4, .i32⟩
  | 119 => ⟨S_, .i32⟩
  | 120 => ⟨S4, .i32⟩
  | 121 => ⟨S4, .i32⟩
  | 122 => ⟨S_, .i32⟩
  | 123 => ⟨S4, .i32⟩
  | 124 => ⟨S4, .i32⟩
  | 125 => ⟨S_, .i32⟩
  | 126 => ⟨S4, .i32⟩
  | 127 => ⟨S4, .i32⟩
  | _ => ⟨S16, .i32⟩

abbrev hbmTy0_12 (i : Nat) : BufTy := match i % 128 with
  | 0 => ⟨S4, .i32⟩
  | 1 => ⟨S_, .i32⟩
  | 2 => ⟨S4, .i32⟩
  | 3 => ⟨S4, .i32⟩
  | 4 => ⟨S4, .i32⟩
  | 5 => ⟨S_, .i32⟩
  | 6 => ⟨S4, .i32⟩
  | 7 => ⟨S4, .i32⟩
  | 8 => ⟨S4, .i32⟩
  | 9 => ⟨S4, .i32⟩
  | 10 => ⟨S_, .i32⟩
  | 11 => ⟨S4, .i32⟩
  | 12 => ⟨S4, .i32⟩
  | 13 => ⟨S_, .i32⟩
  | 14 => ⟨S4, .i32⟩
  | 15 => ⟨S4, .i32⟩
  | 16 => ⟨S_, .i32⟩
  | 17 => ⟨S4, .i32⟩
  | 18 => ⟨S4, .i32⟩
  | 19 => ⟨S_, .i32⟩
  | 20 => ⟨S4, .i32⟩
  | 21 => ⟨S4, .i32⟩
  | 22 => ⟨S4, .i32⟩
  | 23 => ⟨S_, .i32⟩
  | 24 => ⟨S4, .i32⟩
  | 25 => ⟨S4, .i32⟩
  | 26 => ⟨S4, .i32⟩
  | 27 => ⟨S_, .i32⟩
  | 28 => ⟨S4, .i32⟩
  | 29 => ⟨S4, .i32⟩
  | 30 => ⟨S1x4, .i32⟩
  | 31 => ⟨S1x4, .i32⟩
  | 32 => ⟨S1x4, .i32⟩
  | 33 => ⟨S1x4, .i32⟩
  | 34 => ⟨S4x4, .i32⟩
  | 35 => ⟨S4x4, .i32⟩
  | 36 => ⟨S_, .i32⟩
  | 37 => ⟨S4x4, .i32⟩
  | 38 => ⟨S4x4, .i1⟩
  | 39 => ⟨S_, .i32⟩
  | 40 => ⟨S4x4, .i32⟩
  | 41 => ⟨S4x4, .i32⟩
  | 42 => ⟨S4x4, .i32⟩
  | 43 => ⟨S4x4x1, .i32⟩
  | 44 => ⟨S1, .i32⟩
  | 45 => ⟨S_, .i32⟩
  | 46 => ⟨S4x4x1, .i32⟩
  | 47 => ⟨S4x4x1, .i1⟩
  | 48 => ⟨S1x1x1, .i32⟩
  | 49 => ⟨S4x4x1, .i32⟩
  | 50 => ⟨S4x4x1, .i1⟩
  | 51 => ⟨S4x4x1, .i1⟩
  | 52 => ⟨S_, .i1⟩
  | 53 => ⟨S4x4, .i1⟩
  | 54 => ⟨S4x4, .i32⟩
  | 55 => ⟨S_, .i32⟩
  | 56 => ⟨S4x4, .i32⟩
  | 57 => ⟨S4x4, .i32⟩
  | 58 => ⟨S1x4, .i32⟩
  | 59 => ⟨S4, .i32⟩
  | 60 => ⟨S1x4, .i32⟩
  | 61 => ⟨S4, .i32⟩
  | 62 => ⟨S3, .i32⟩
  | 63 => ⟨S1, .i32⟩
  | 64 => ⟨S4, .i32⟩
  | 65 => ⟨S1x4, .i32⟩
  | 66 => ⟨S4, .i32⟩
  | 67 => ⟨S2, .i32⟩
  | 68 => ⟨S2, .i32⟩
  | 69 => ⟨S4, .i32⟩
  | 70 => ⟨S1x4, .i32⟩
  | 71 => ⟨S4, .i32⟩
  | 72 => ⟨S1, .i32⟩
  | 73 => ⟨S3, .i32⟩
  | 74 => ⟨S4, .i32⟩
  | 75 => ⟨S1x4, .i32⟩
  | 76 => ⟨S1x4, .i32⟩
  | 77 => ⟨S1x4, .i32⟩
  | 78 => ⟨S1x4, .i32⟩
  | 79 => ⟨S4x4, .i32⟩
  | 80 => ⟨S1x4, .i32⟩
  | 81 => ⟨S4, .i32⟩
  | 82 => ⟨S1x4, .i32⟩
  | 83 => ⟨S4, .i32⟩
  | 84 => ⟨S1x4, .i32⟩
  | 85 => ⟨S4, .i32⟩
  | 86 => ⟨S1x4, .i32⟩
  | 87 => ⟨S4, .i32⟩
  | 88 => ⟨S4, .i32⟩
  | 89 => ⟨S4, .i32⟩
  | 90 => ⟨S4, .i32⟩
  | 91 => ⟨S4, .i32⟩
  | 92 => ⟨S4, .i32⟩
  | 93 => ⟨S_, .i32⟩
  | 94 => ⟨S4, .i32⟩
  | 95 => ⟨S4, .i32⟩
  | 96 => ⟨S_, .i32⟩
  | 97 => ⟨S4, .i32⟩
  | 98 => ⟨S4, .i32⟩
  | 99 => ⟨S_, .i32⟩
  | 100 => ⟨S4, .i32⟩
  | 101 => ⟨S4, .i32⟩
  | 102 => ⟨S_, .i32⟩
  | 103 => ⟨S4, .i32⟩
  | 104 => ⟨S4, .i32⟩
  | 105 => ⟨S4, .i32⟩
  | 106 => ⟨S_, .i32⟩
  | 107 => ⟨S4, .i32⟩
  | 108 => ⟨S4, .i32⟩
  | 109 => ⟨S4, .i32⟩
  | 110 => ⟨S_, .i32⟩
  | 111 => ⟨S4, .i32⟩
  | 112 => ⟨S4, .i32⟩
  | 113 => ⟨S4, .i32⟩
  | 114 => ⟨S4, .i32⟩
  | 115 => ⟨S_, .i32⟩
  | 116 => ⟨S4, .i32⟩
  | 117 => ⟨S4, .i32⟩
  | 118 => ⟨S_, .i32⟩
  | 119 => ⟨S4, .i32⟩
  | 120 => ⟨S4, .i32⟩
  | 121 => ⟨S_, .i32⟩
  | 122 => ⟨S4, .i32⟩
  | 123 => ⟨S4, .i32⟩
  | 124 => ⟨S_, .i32⟩
  | 125 => ⟨S4, .i32⟩
  | 126 => ⟨S4, .i32⟩
  | 127 => ⟨S4, .i32⟩
  | _ => ⟨S16, .i32⟩

abbrev hbmTy0_13 (i : Nat) : BufTy := match i % 128 with
  | 0 => ⟨S_, .i32⟩
  | 1 => ⟨S4, .i32⟩
  | 2 => ⟨S4, .i32⟩
  | 3 => ⟨S4, .i32⟩
  | 4 => ⟨S_, .i32⟩
  | 5 => ⟨S4, .i32⟩
  | 6 => ⟨S4, .i32⟩
  | 7 => ⟨S4, .i32⟩
  | 8 => ⟨S4, .i32⟩
  | 9 => ⟨S_, .i32⟩
  | 10 => ⟨S4, .i32⟩
  | 11 => ⟨S4, .i32⟩
  | 12 => ⟨S_, .i32⟩
  | 13 => ⟨S4, .i32⟩
  | 14 => ⟨S4, .i32⟩
  | 15 => ⟨S_, .i32⟩
  | 16 => ⟨S4, .i32⟩
  | 17 => ⟨S4, .i32⟩
  | 18 => ⟨S_, .i32⟩
  | 19 => ⟨S4, .i32⟩
  | 20 => ⟨S4, .i32⟩
  | 21 => ⟨S4, .i32⟩
  | 22 => ⟨S_, .i32⟩
  | 23 => ⟨S4, .i32⟩
  | 24 => ⟨S4, .i32⟩
  | 25 => ⟨S4, .i32⟩
  | 26 => ⟨S_, .i32⟩
  | 27 => ⟨S4, .i32⟩
  | 28 => ⟨S4, .i32⟩
  | 29 => ⟨S4, .i32⟩
  | 30 => ⟨S4, .i32⟩
  | 31 => ⟨S_, .i32⟩
  | 32 => ⟨S4, .i32⟩
  | 33 => ⟨S4, .i32⟩
  | 34 => ⟨S_, .i32⟩
  | 35 => ⟨S4, .i32⟩
  | 36 => ⟨S4, .i32⟩
  | 37 => ⟨S_, .i32⟩
  | 38 => ⟨S4, .i32⟩
  | 39 => ⟨S4, .i32⟩
  | 40 => ⟨S_, .i32⟩
  | 41 => ⟨S4, .i32⟩
  | 42 => ⟨S4, .i32⟩
  | 43 => ⟨S4, .i32⟩
  | 44 => ⟨S_, .i32⟩
  | 45 => ⟨S4, .i32⟩
  | 46 => ⟨S4, .i32⟩
  | 47 => ⟨S4, .i32⟩
  | 48 => ⟨S_, .i32⟩
  | 49 => ⟨S4, .i32⟩
  | 50 => ⟨S4, .i32⟩
  | 51 => ⟨S1x4, .i32⟩
  | 52 => ⟨S1x4, .i32⟩
  | 53 => ⟨S1x4, .i32⟩
  | 54 => ⟨S1x4, .i32⟩
  | 55 => ⟨S4x4, .i32⟩
  | 56 => ⟨S4x4, .i32⟩
  | 57 => ⟨S_, .i32⟩
  | 58 => ⟨S4x4, .i32⟩
  | 59 => ⟨S4x4, .i1⟩
  | 60 => ⟨S_, .i32⟩
  | 61 => ⟨S4x4, .i32⟩
  | 62 => ⟨S4x4, .i32⟩
  | 63 => ⟨S4x4, .i32⟩
  | 64 => ⟨S4x4x1, .i32⟩
  | 65 => ⟨S1, .i32⟩
  | 66 => ⟨S_, .i32⟩
  | 67 => ⟨S4x4x1, .i32⟩
  | 68 => ⟨S4x4x1, .i1⟩
  | 69 => ⟨S1x1x1, .i32⟩
  | 70 => ⟨S4x4x1, .i32⟩
  | 71 => ⟨S4x4x1, .i1⟩
  | 72 => ⟨S4x4x1, .i1⟩
  | 73 => ⟨S_, .i1⟩
  | 74 => ⟨S4x4, .i1⟩
  | 75 => ⟨S4x4, .i32⟩
  | 76 => ⟨S_, .i32⟩
  | 77 => ⟨S4x4, .i32⟩
  | 78 => ⟨S4x4, .i32⟩
  | 79 => ⟨S1x4, .i32⟩
  | 80 => ⟨S4, .i32⟩
  | 81 => ⟨S1x4, .i32⟩
  | 82 => ⟨S4, .i32⟩
  | 83 => ⟨S3, .i32⟩
  | 84 => ⟨S1, .i32⟩
  | 85 => ⟨S4, .i32⟩
  | 86 => ⟨S1x4, .i32⟩
  | 87 => ⟨S4, .i32⟩
  | 88 => ⟨S2, .i32⟩
  | 89 => ⟨S2, .i32⟩
  | 90 => ⟨S4, .i32⟩
  | 91 => ⟨S1x4, .i32⟩
  | 92 => ⟨S4, .i32⟩
  | 93 => ⟨S1, .i32⟩
  | 94 => ⟨S3, .i32⟩
  | 95 => ⟨S4, .i32⟩
  | 96 => ⟨S1x4, .i32⟩
  | 97 => ⟨S1x4, .i32⟩
  | 98 => ⟨S1x4, .i32⟩
  | 99 => ⟨S1x4, .i32⟩
  | 100 => ⟨S4x4, .i32⟩
  | 101 => ⟨S1x4, .i32⟩
  | 102 => ⟨S4, .i32⟩
  | 103 => ⟨S1x4, .i32⟩
  | 104 => ⟨S4, .i32⟩
  | 105 => ⟨S1x4, .i32⟩
  | 106 => ⟨S4, .i32⟩
  | 107 => ⟨S1x4, .i32⟩
  | 108 => ⟨S4, .i32⟩
  | 109 => ⟨S4, .i32⟩
  | 110 => ⟨S4, .i32⟩
  | 111 => ⟨S4, .i32⟩
  | 112 => ⟨S4, .i32⟩
  | 113 => ⟨S4, .i32⟩
  | 114 => ⟨S_, .i32⟩
  | 115 => ⟨S4, .i32⟩
  | 116 => ⟨S4, .i32⟩
  | 117 => ⟨S_, .i32⟩
  | 118 => ⟨S4, .i32⟩
  | 119 => ⟨S4, .i32⟩
  | 120 => ⟨S_, .i32⟩
  | 121 => ⟨S4, .i32⟩
  | 122 => ⟨S4, .i32⟩
  | 123 => ⟨S_, .i32⟩
  | 124 => ⟨S4, .i32⟩
  | 125 => ⟨S4, .i32⟩
  | 126 => ⟨S4, .i32⟩
  | 127 => ⟨S_, .i32⟩
  | _ => ⟨S16, .i32⟩

abbrev hbmTy0_14 (i : Nat) : BufTy := match i % 128 with
  | 0 => ⟨S4, .i32⟩
  | 1 => ⟨S4, .i32⟩
  | 2 => ⟨S4, .i32⟩
  | 3 => ⟨S_, .i32⟩
  | 4 => ⟨S4, .i32⟩
  | 5 => ⟨S4, .i32⟩
  | 6 => ⟨S4, .i32⟩
  | 7 => ⟨S4, .i32⟩
  | 8 => ⟨S_, .i32⟩
  | 9 => ⟨S4, .i32⟩
  | 10 => ⟨S4, .i32⟩
  | 11 => ⟨S_, .i32⟩
  | 12 => ⟨S4, .i32⟩
  | 13 => ⟨S4, .i32⟩
  | 14 => ⟨S_, .i32⟩
  | 15 => ⟨S4, .i32⟩
  | 16 => ⟨S4, .i32⟩
  | 17 => ⟨S_, .i32⟩
  | 18 => ⟨S4, .i32⟩
  | 19 => ⟨S4, .i32⟩
  | 20 => ⟨S4, .i32⟩
  | 21 => ⟨S_, .i32⟩
  | 22 => ⟨S4, .i32⟩
  | 23 => ⟨S4, .i32⟩
  | 24 => ⟨S4, .i32⟩
  | 25 => ⟨S_, .i32⟩
  | 26 => ⟨S4, .i32⟩
  | 27 => ⟨S4, .i32⟩
  | 28 => ⟨S4, .i32⟩
  | 29 => ⟨S4, .i32⟩
  | 30 => ⟨S_, .i32⟩
  | 31 => ⟨S4, .i32⟩
  | 32 => ⟨S4, .i32⟩
  | 33 => ⟨S_, .i32⟩
  | 34 => ⟨S4, .i32⟩
  | 35 => ⟨S4, .i32⟩
  | 36 => ⟨S_, .i32⟩
  | 37 => ⟨S4, .i32⟩
  | 38 => ⟨S4, .i32⟩
  | 39 => ⟨S_, .i32⟩
  | 40 => ⟨S4, .i32⟩
  | 41 => ⟨S4, .i32⟩
  | 42 => ⟨S4, .i32⟩
  | 43 => ⟨S_, .i32⟩
  | 44 => ⟨S4, .i32⟩
  | 45 => ⟨S4, .i32⟩
  | 46 => ⟨S4, .i32⟩
  | 47 => ⟨S_, .i32⟩
  | 48 => ⟨S4, .i32⟩
  | 49 => ⟨S4, .i32⟩
  | 50 => ⟨S4, .i32⟩
  | 51 => ⟨S4, .i32⟩
  | 52 => ⟨S_, .i32⟩
  | 53 => ⟨S4, .i32⟩
  | 54 => ⟨S4, .i32⟩
  | 55 => ⟨S_, .i32⟩
  | 56 => ⟨S4, .i32⟩
  | 57 => ⟨S4, .i32⟩
  | 58 => ⟨S_, .i32⟩
  | 59 => ⟨S4, .i32⟩
  | 60 => ⟨S4, .i32⟩
  | 61 => ⟨S_, .i32⟩
  | 62 => ⟨S4, .i32⟩
  | 63 => ⟨S4, .i32⟩
  | 64 => ⟨S4, .i32⟩
  | 65 => ⟨S_, .i32⟩
  | 66 => ⟨S4, .i32⟩
  | 67 => ⟨S4, .i32⟩
  | 68 => ⟨S4, .i32⟩
  | 69 => ⟨S_, .i32⟩
  | 70 => ⟨S4, .i32⟩
  | 71 => ⟨S4, .i32⟩
  | 72 => ⟨S1x4, .i32⟩
  | 73 => ⟨S1x4, .i32⟩
  | 74 => ⟨S1x4, .i32⟩
  | 75 => ⟨S1x4, .i32⟩
  | 76 => ⟨S4x4, .i32⟩
  | 77 => ⟨S4x4, .i32⟩
  | 78 => ⟨S_, .i32⟩
  | 79 => ⟨S4x4, .i32⟩
  | 80 => ⟨S4x4, .i1⟩
  | 81 => ⟨S_, .i32⟩
  | 82 => ⟨S4x4, .i32⟩
  | 83 => ⟨S4x4, .i32⟩
  | 84 => ⟨S4x4, .i32⟩
  | 85 => ⟨S4x4x1, .i32⟩
  | 86 => ⟨S1, .i32⟩
  | 87 => ⟨S_, .i32⟩
  | 88 => ⟨S4x4x1, .i32⟩
  | 89 => ⟨S4x4x1, .i1⟩
  | 90 => ⟨S1x1x1, .i32⟩
  | 91 => ⟨S4x4x1, .i32⟩
  | 92 => ⟨S4x4x1, .i1⟩
  | 93 => ⟨S4x4x1, .i1⟩
  | 94 => ⟨S_, .i1⟩
  | 95 => ⟨S4x4, .i1⟩
  | 96 => ⟨S4x4, .i32⟩
  | 97 => ⟨S_, .i32⟩
  | 98 => ⟨S4x4, .i32⟩
  | 99 => ⟨S4x4, .i32⟩
  | 100 => ⟨S1x4, .i32⟩
  | 101 => ⟨S4, .i32⟩
  | 102 => ⟨S1x4, .i32⟩
  | 103 => ⟨S4, .i32⟩
  | 104 => ⟨S3, .i32⟩
  | 105 => ⟨S1, .i32⟩
  | 106 => ⟨S4, .i32⟩
  | 107 => ⟨S1x4, .i32⟩
  | 108 => ⟨S4, .i32⟩
  | 109 => ⟨S2, .i32⟩
  | 110 => ⟨S2, .i32⟩
  | 111 => ⟨S4, .i32⟩
  | 112 => ⟨S1x4, .i32⟩
  | 113 => ⟨S4, .i32⟩
  | 114 => ⟨S1, .i32⟩
  | 115 => ⟨S3, .i32⟩
  | 116 => ⟨S4, .i32⟩
  | 117 => ⟨S1x4, .i32⟩
  | 118 => ⟨S1x4, .i32⟩
  | 119 => ⟨S1x4, .i32⟩
  | 120 => ⟨S1x4, .i32⟩
  | 121 => ⟨S4x4, .i32⟩
  | 122 => ⟨S4x4, .i32⟩
  | 123 => ⟨S4x4, .i32⟩
  | 124 => ⟨S16, .i32⟩
  | _ => ⟨S16, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | _ => ⟨S16, .i32⟩

abbrev bufTy : (tb : Table) → Fin (tcTables nBuf tb) → BufTy
  | .hbm, ⟨i, _⟩ => hbmTy i
  | _, _ => ⟨S16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_v4 : Ref sig .tc := ⟨.hbm, 10, rfl⟩
abbrev main_call1_c : Ref sig .tc := ⟨.hbm, 11, rfl⟩
abbrev main_call1_v0 : Ref sig .tc := ⟨.hbm, 12, rfl⟩
abbrev main_call1_v1 : Ref sig .tc := ⟨.hbm, 13, rfl⟩
abbrev main_call1_c_0 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_call1_v5 : Ref sig .tc := ⟨.hbm, 18, rfl⟩
abbrev main_call1_c_1 : Ref sig .tc := ⟨.hbm, 19, rfl⟩
abbrev main_call1_c_2 : Ref sig .tc := ⟨.hbm, 20, rfl⟩
abbrev main_call1_v6 : Ref sig .tc := ⟨.hbm, 21, rfl⟩
abbrev main_call1_v7 : Ref sig .tc := ⟨.hbm, 22, rfl⟩
abbrev main_call1_v8 : Ref sig .tc := ⟨.hbm, 23, rfl⟩
abbrev main_call1_v9 : Ref sig .tc := ⟨.hbm, 24, rfl⟩
abbrev main_call1_v10 : Ref sig .tc := ⟨.hbm, 25, rfl⟩
abbrev main_call1_v11 : Ref sig .tc := ⟨.hbm, 26, rfl⟩
abbrev main_call1_c_3 : Ref sig .tc := ⟨.hbm, 27, rfl⟩
abbrev main_call1_v12 : Ref sig .tc := ⟨.hbm, 28, rfl⟩
abbrev main_call1_v13 : Ref sig .tc := ⟨.hbm, 29, rfl⟩
abbrev main_call1_c_4 : Ref sig .tc := ⟨.hbm, 30, rfl⟩
abbrev main_call1_v14 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_c : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_call2_v0 : Ref sig .tc := ⟨.hbm, 60, rfl⟩
abbrev main_call2_v1 : Ref sig .tc := ⟨.hbm, 61, rfl⟩
abbrev main_v32 : Ref sig .tc := ⟨.hbm, 62, rfl⟩
abbrev main_call3_c : Ref sig .tc := ⟨.hbm, 63, rfl⟩
abbrev main_call3_v0 : Ref sig .tc := ⟨.hbm, 64, rfl⟩
abbrev main_call3_v1 : Ref sig .tc := ⟨.hbm, 65, rfl⟩
abbrev main_call3_c_0 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_c_1 : Ref sig .tc := ⟨.hbm, 71, rfl⟩
abbrev main_call3_c_2 : Ref sig .tc := ⟨.hbm, 72, rfl⟩
abbrev main_call3_v6 : Ref sig .tc := ⟨.hbm, 73, rfl⟩
abbrev main_call3_v7 : Ref sig .tc := ⟨.hbm, 74, rfl⟩
abbrev main_call3_v8 : Ref sig .tc := ⟨.hbm, 75, rfl⟩
abbrev main_call3_v9 : Ref sig .tc := ⟨.hbm, 76, rfl⟩
abbrev main_call3_v10 : Ref sig .tc := ⟨.hbm, 77, rfl⟩
abbrev main_call3_v11 : Ref sig .tc := ⟨.hbm, 78, rfl⟩
abbrev main_call3_c_3 : Ref sig .tc := ⟨.hbm, 79, rfl⟩
abbrev main_call3_v12 : Ref sig .tc := ⟨.hbm, 80, rfl⟩
abbrev main_call3_v13 : Ref sig .tc := ⟨.hbm, 81, rfl⟩
abbrev main_call3_c_4 : Ref sig .tc := ⟨.hbm, 82, rfl⟩
abbrev main_call3_v14 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_c_0 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_call4_v0 : Ref sig .tc := ⟨.hbm, 112, rfl⟩
abbrev main_call4_v1 : Ref sig .tc := ⟨.hbm, 113, rfl⟩
abbrev main_v60 : Ref sig .tc := ⟨.hbm, 114, rfl⟩
abbrev main_call5_c : Ref sig .tc := ⟨.hbm, 115, rfl⟩
abbrev main_call5_v0 : Ref sig .tc := ⟨.hbm, 116, rfl⟩
abbrev main_call5_v1 : Ref sig .tc := ⟨.hbm, 117, rfl⟩
abbrev main_call5_c_0 : Ref sig .tc := ⟨.hbm, 118, rfl⟩
abbrev main_call5_v2 : Ref sig .tc := ⟨.hbm, 119, rfl⟩
abbrev main_call5_v3 : Ref sig .tc := ⟨.hbm, 120, rfl⟩
abbrev main_call5_v4 : Ref sig .tc := ⟨.hbm, 121, rfl⟩
abbrev main_call5_v5 : Ref sig .tc := ⟨.hbm, 122, rfl⟩
abbrev main_call5_c_1 : Ref sig .tc := ⟨.hbm, 123, rfl⟩
abbrev main_call5_c_2 : Ref sig .tc := ⟨.hbm, 124, rfl⟩
abbrev main_call5_v6 : Ref sig .tc := ⟨.hbm, 125, rfl⟩
abbrev main_call5_v7 : Ref sig .tc := ⟨.hbm, 126, rfl⟩
abbrev main_call5_v8 : Ref sig .tc := ⟨.hbm, 127, rfl⟩
abbrev main_call5_v9 : Ref sig .tc := ⟨.hbm, 128, rfl⟩
abbrev main_call5_v10 : Ref sig .tc := ⟨.hbm, 129, rfl⟩
abbrev main_call5_v11 : Ref sig .tc := ⟨.hbm, 130, rfl⟩
abbrev main_call5_c_3 : Ref sig .tc := ⟨.hbm, 131, rfl⟩
abbrev main_call5_v12 : Ref sig .tc := ⟨.hbm, 132, rfl⟩
abbrev main_call5_v13 : Ref sig .tc := ⟨.hbm, 133, rfl⟩
abbrev main_call5_c_4 : Ref sig .tc := ⟨.hbm, 134, rfl⟩
abbrev main_call5_v14 : Ref sig .tc := ⟨.hbm, 135, rfl⟩
abbrev main_v61 : Ref sig .tc := ⟨.hbm, 136, rfl⟩
abbrev main_v62 : Ref sig .tc := ⟨.hbm, 137, rfl⟩
abbrev main_v63 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_c_1 : Ref sig .tc := ⟨.hbm, 142, rfl⟩
abbrev main_v67 : Ref sig .tc := ⟨.hbm, 143, rfl⟩
abbrev main_v68 : Ref sig .tc := ⟨.hbm, 144, rfl⟩
abbrev main_v69 : Ref sig .tc := ⟨.hbm, 145, rfl⟩
abbrev main_v70 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_v76 : Ref sig .tc := ⟨.hbm, 152, rfl⟩
abbrev main_v77 : Ref sig .tc := ⟨.hbm, 153, rfl⟩
abbrev main_v78 : Ref sig .tc := ⟨.hbm, 154, rfl⟩
abbrev main_v79 : Ref sig .tc := ⟨.hbm, 155, rfl⟩
abbrev main_v80 : Ref sig .tc := ⟨.hbm, 156, rfl⟩
abbrev main_v81 : Ref sig .tc := ⟨.hbm, 157, rfl⟩
abbrev main_v82 : Ref sig .tc := ⟨.hbm, 158, rfl⟩
abbrev main_v83 : Ref sig .tc := ⟨.hbm, 159, rfl⟩
abbrev main_v84 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_call6_v0 : Ref sig .tc := ⟨.hbm, 164, rfl⟩
abbrev main_call6_v1 : Ref sig .tc := ⟨.hbm, 165, rfl⟩
abbrev main_v88 : Ref sig .tc := ⟨.hbm, 166, rfl⟩
abbrev main_call7_c : Ref sig .tc := ⟨.hbm, 167, rfl⟩
abbrev main_call7_v0 : Ref sig .tc := ⟨.hbm, 168, rfl⟩
abbrev main_call7_v1 : Ref sig .tc := ⟨.hbm, 169, rfl⟩
abbrev main_call7_c_0 : Ref sig .tc := ⟨.hbm, 170, rfl⟩
abbrev main_call7_v2 : Ref sig .tc := ⟨.hbm, 171, rfl⟩
abbrev main_call7_v3 : Ref sig .tc := ⟨.hbm, 172, rfl⟩
abbrev main_call7_v4 : Ref sig .tc := ⟨.hbm, 173, rfl⟩
abbrev main_call7_v5 : Ref sig .tc := ⟨.hbm, 174, rfl⟩
abbrev main_call7_c_1 : Ref sig .tc := ⟨.hbm, 175, rfl⟩
abbrev main_call7_c_2 : Ref sig .tc := ⟨.hbm, 176, rfl⟩
abbrev main_call7_v6 : Ref sig .tc := ⟨.hbm, 177, rfl⟩
abbrev main_call7_v7 : Ref sig .tc := ⟨.hbm, 178, rfl⟩
abbrev main_call7_v8 : Ref sig .tc := ⟨.hbm, 179, rfl⟩
abbrev main_call7_v9 : Ref sig .tc := ⟨.hbm, 180, rfl⟩
abbrev main_call7_v10 : Ref sig .tc := ⟨.hbm, 181, rfl⟩
abbrev main_call7_v11 : Ref sig .tc := ⟨.hbm, 182, rfl⟩
abbrev main_call7_c_3 : Ref sig .tc := ⟨.hbm, 183, rfl⟩
abbrev main_call7_v12 : Ref sig .tc := ⟨.hbm, 184, rfl⟩
abbrev main_call7_v13 : Ref sig .tc := ⟨.hbm, 185, rfl⟩
abbrev main_call7_c_4 : Ref sig .tc := ⟨.hbm, 186, rfl⟩
abbrev main_call7_v14 : Ref sig .tc := ⟨.hbm, 187, rfl⟩
abbrev main_v89 : Ref sig .tc := ⟨.hbm, 188, rfl⟩
abbrev main_v90 : Ref sig .tc := ⟨.hbm, 189, rfl⟩
abbrev main_v91 : Ref sig .tc := ⟨.hbm, 190, rfl⟩
abbrev main_v92 : Ref sig .tc := ⟨.hbm, 191, rfl⟩
abbrev main_v93 : Ref sig .tc := ⟨.hbm, 192, rfl⟩
abbrev main_v94 : Ref sig .tc := ⟨.hbm, 193, rfl⟩
abbrev main_c_2 : Ref sig .tc := ⟨.hbm, 194, rfl⟩
abbrev main_v95 : Ref sig .tc := ⟨.hbm, 195, rfl⟩
abbrev main_v96 : Ref sig .tc := ⟨.hbm, 196, rfl⟩
abbrev main_v97 : Ref sig .tc := ⟨.hbm, 197, rfl⟩
abbrev main_v98 : Ref sig .tc := ⟨.hbm, 198, rfl⟩
abbrev main_v99 : Ref sig .tc := ⟨.hbm, 199, rfl⟩
abbrev main_v100 : Ref sig .tc := ⟨.hbm, 200, rfl⟩
abbrev main_v101 : Ref sig .tc := ⟨.hbm, 201, rfl⟩
abbrev main_v102 : Ref sig .tc := ⟨.hbm, 202, rfl⟩
abbrev main_v103 : Ref sig .tc := ⟨.hbm, 203, rfl⟩
abbrev main_v104 : Ref sig .tc := ⟨.hbm, 204, rfl⟩
abbrev main_v105 : Ref sig .tc := ⟨.hbm, 205, rfl⟩
abbrev main_v106 : Ref sig .tc := ⟨.hbm, 206, rfl⟩
abbrev main_v107 : Ref sig .tc := ⟨.hbm, 207, rfl⟩
abbrev main_v108 : Ref sig .tc := ⟨.hbm, 208, rfl⟩
abbrev main_v109 : Ref sig .tc := ⟨.hbm, 209, rfl⟩
abbrev main_v110 : Ref sig .tc := ⟨.hbm, 210, rfl⟩
abbrev main_v111 : Ref sig .tc := ⟨.hbm, 211, rfl⟩
abbrev main_v112 : Ref sig .tc := ⟨.hbm, 212, rfl⟩
abbrev main_v113 : Ref sig .tc := ⟨.hbm, 213, rfl⟩
abbrev main_v114 : Ref sig .tc := ⟨.hbm, 214, rfl⟩
abbrev main_v115 : Ref sig .tc := ⟨.hbm, 215, rfl⟩
abbrev main_call8_v0 : Ref sig .tc := ⟨.hbm, 216, rfl⟩
abbrev main_call8_v1 : Ref sig .tc := ⟨.hbm, 217, rfl⟩
abbrev main_v116 : Ref sig .tc := ⟨.hbm, 218, rfl⟩
abbrev main_call9_c : Ref sig .tc := ⟨.hbm, 219, rfl⟩
abbrev main_call9_v0 : Ref sig .tc := ⟨.hbm, 220, rfl⟩
abbrev main_call9_v1 : Ref sig .tc := ⟨.hbm, 221, rfl⟩
abbrev main_call9_c_0 : Ref sig .tc := ⟨.hbm, 222, rfl⟩
abbrev main_call9_v2 : Ref sig .tc := ⟨.hbm, 223, rfl⟩
abbrev main_call9_v3 : Ref sig .tc := ⟨.hbm, 224, rfl⟩
abbrev main_call9_v4 : Ref sig .tc := ⟨.hbm, 225, rfl⟩
abbrev main_call9_v5 : Ref sig .tc := ⟨.hbm, 226, rfl⟩
abbrev main_call9_c_1 : Ref sig .tc := ⟨.hbm, 227, rfl⟩
abbrev main_call9_c_2 : Ref sig .tc := ⟨.hbm, 228, rfl⟩
abbrev main_call9_v6 : Ref sig .tc := ⟨.hbm, 229, rfl⟩
abbrev main_call9_v7 : Ref sig .tc := ⟨.hbm, 230, rfl⟩
abbrev main_call9_v8 : Ref sig .tc := ⟨.hbm, 231, rfl⟩
abbrev main_call9_v9 : Ref sig .tc := ⟨.hbm, 232, rfl⟩
abbrev main_call9_v10 : Ref sig .tc := ⟨.hbm, 233, rfl⟩
abbrev main_call9_v11 : Ref sig .tc := ⟨.hbm, 234, rfl⟩
abbrev main_call9_c_3 : Ref sig .tc := ⟨.hbm, 235, rfl⟩
abbrev main_call9_v12 : Ref sig .tc := ⟨.hbm, 236, rfl⟩
abbrev main_call9_v13 : Ref sig .tc := ⟨.hbm, 237, rfl⟩
abbrev main_call9_c_4 : Ref sig .tc := ⟨.hbm, 238, rfl⟩
abbrev main_call9_v14 : Ref sig .tc := ⟨.hbm, 239, rfl⟩
abbrev main_v117 : Ref sig .tc := ⟨.hbm, 240, rfl⟩
abbrev main_v118 : Ref sig .tc := ⟨.hbm, 241, rfl⟩
abbrev main_v119 : Ref sig .tc := ⟨.hbm, 242, rfl⟩
abbrev main_v120 : Ref sig .tc := ⟨.hbm, 243, rfl⟩
abbrev main_v121 : Ref sig .tc := ⟨.hbm, 244, rfl⟩
abbrev main_v122 : Ref sig .tc := ⟨.hbm, 245, rfl⟩
abbrev main_c_3 : Ref sig .tc := ⟨.hbm, 246, rfl⟩
abbrev main_v123 : Ref sig .tc := ⟨.hbm, 247, rfl⟩
abbrev main_v124 : Ref sig .tc := ⟨.hbm, 248, rfl⟩
abbrev main_v125 : Ref sig .tc := ⟨.hbm, 249, rfl⟩
abbrev main_v126 : Ref sig .tc := ⟨.hbm, 250, rfl⟩
abbrev main_v127 : Ref sig .tc := ⟨.hbm, 251, rfl⟩
abbrev main_v128 : Ref sig .tc := ⟨.hbm, 252, rfl⟩
abbrev main_v129 : Ref sig .tc := ⟨.hbm, 253, rfl⟩
abbrev main_v130 : Ref sig .tc := ⟨.hbm, 254, rfl⟩
abbrev main_v131 : Ref sig .tc := ⟨.hbm, 255, rfl⟩
abbrev main_v132 : Ref sig .tc := ⟨.hbm, 256, rfl⟩
abbrev main_v133 : Ref sig .tc := ⟨.hbm, 257, rfl⟩
abbrev main_v134 : Ref sig .tc := ⟨.hbm, 258, rfl⟩
abbrev main_v135 : Ref sig .tc := ⟨.hbm, 259, rfl⟩
abbrev main_v136 : Ref sig .tc := ⟨.hbm, 260, rfl⟩
abbrev main_v137 : Ref sig .tc := ⟨.hbm, 261, rfl⟩
abbrev main_v138 : Ref sig .tc := ⟨.hbm, 262, rfl⟩
abbrev main_v139 : Ref sig .tc := ⟨.hbm, 263, rfl⟩
abbrev main_v140 : Ref sig .tc := ⟨.hbm, 264, rfl⟩
abbrev main_v141 : Ref sig .tc := ⟨.hbm, 265, rfl⟩
abbrev main_v142 : Ref sig .tc := ⟨.hbm, 266, rfl⟩
abbrev main_v143 : Ref sig .tc := ⟨.hbm, 267, rfl⟩
abbrev main_call10_v0 : Ref sig .tc := ⟨.hbm, 268, rfl⟩
abbrev main_call10_v1 : Ref sig .tc := ⟨.hbm, 269, rfl⟩
abbrev main_v144 : Ref sig .tc := ⟨.hbm, 270, rfl⟩
abbrev main_call11_c : Ref sig .tc := ⟨.hbm, 271, rfl⟩
abbrev main_call11_v0 : Ref sig .tc := ⟨.hbm, 272, rfl⟩
abbrev main_call11_v1 : Ref sig .tc := ⟨.hbm, 273, rfl⟩
abbrev main_call11_c_0 : Ref sig .tc := ⟨.hbm, 274, rfl⟩
abbrev main_call11_v2 : Ref sig .tc := ⟨.hbm, 275, rfl⟩
abbrev main_call11_v3 : Ref sig .tc := ⟨.hbm, 276, rfl⟩
abbrev main_call11_v4 : Ref sig .tc := ⟨.hbm, 277, rfl⟩
abbrev main_call11_v5 : Ref sig .tc := ⟨.hbm, 278, rfl⟩
abbrev main_call11_c_1 : Ref sig .tc := ⟨.hbm, 279, rfl⟩
abbrev main_call11_c_2 : Ref sig .tc := ⟨.hbm, 280, rfl⟩
abbrev main_call11_v6 : Ref sig .tc := ⟨.hbm, 281, rfl⟩
abbrev main_call11_v7 : Ref sig .tc := ⟨.hbm, 282, rfl⟩
abbrev main_call11_v8 : Ref sig .tc := ⟨.hbm, 283, rfl⟩
abbrev main_call11_v9 : Ref sig .tc := ⟨.hbm, 284, rfl⟩
abbrev main_call11_v10 : Ref sig .tc := ⟨.hbm, 285, rfl⟩
abbrev main_call11_v11 : Ref sig .tc := ⟨.hbm, 286, rfl⟩
abbrev main_call11_c_3 : Ref sig .tc := ⟨.hbm, 287, rfl⟩
abbrev main_call11_v12 : Ref sig .tc := ⟨.hbm, 288, rfl⟩
abbrev main_call11_v13 : Ref sig .tc := ⟨.hbm, 289, rfl⟩
abbrev main_call11_c_4 : Ref sig .tc := ⟨.hbm, 290, rfl⟩
abbrev main_call11_v14 : Ref sig .tc := ⟨.hbm, 291, rfl⟩
abbrev main_v145 : Ref sig .tc := ⟨.hbm, 292, rfl⟩
abbrev main_v146 : Ref sig .tc := ⟨.hbm, 293, rfl⟩
abbrev main_v147 : Ref sig .tc := ⟨.hbm, 294, rfl⟩
abbrev main_v148 : Ref sig .tc := ⟨.hbm, 295, rfl⟩
abbrev main_v149 : Ref sig .tc := ⟨.hbm, 296, rfl⟩
abbrev main_v150 : Ref sig .tc := ⟨.hbm, 297, rfl⟩
abbrev main_c_4 : Ref sig .tc := ⟨.hbm, 298, rfl⟩
abbrev main_v151 : Ref sig .tc := ⟨.hbm, 299, rfl⟩
abbrev main_v152 : Ref sig .tc := ⟨.hbm, 300, rfl⟩
abbrev main_v153 : Ref sig .tc := ⟨.hbm, 301, rfl⟩
abbrev main_v154 : Ref sig .tc := ⟨.hbm, 302, rfl⟩
abbrev main_v155 : Ref sig .tc := ⟨.hbm, 303, rfl⟩
abbrev main_v156 : Ref sig .tc := ⟨.hbm, 304, rfl⟩
abbrev main_v157 : Ref sig .tc := ⟨.hbm, 305, rfl⟩
abbrev main_v158 : Ref sig .tc := ⟨.hbm, 306, rfl⟩
abbrev main_v159 : Ref sig .tc := ⟨.hbm, 307, rfl⟩
abbrev main_v160 : Ref sig .tc := ⟨.hbm, 308, rfl⟩
abbrev main_v161 : Ref sig .tc := ⟨.hbm, 309, rfl⟩
abbrev main_v162 : Ref sig .tc := ⟨.hbm, 310, rfl⟩
abbrev main_v163 : Ref sig .tc := ⟨.hbm, 311, rfl⟩
abbrev main_v164 : Ref sig .tc := ⟨.hbm, 312, rfl⟩
abbrev main_v165 : Ref sig .tc := ⟨.hbm, 313, rfl⟩
abbrev main_v166 : Ref sig .tc := ⟨.hbm, 314, rfl⟩
abbrev main_v167 : Ref sig .tc := ⟨.hbm, 315, rfl⟩
abbrev main_v168 : Ref sig .tc := ⟨.hbm, 316, rfl⟩
abbrev main_v169 : Ref sig .tc := ⟨.hbm, 317, rfl⟩
abbrev main_v170 : Ref sig .tc := ⟨.hbm, 318, rfl⟩
abbrev main_v171 : Ref sig .tc := ⟨.hbm, 319, rfl⟩
abbrev main_call12_v0 : Ref sig .tc := ⟨.hbm, 320, rfl⟩
abbrev main_call12_v1 : Ref sig .tc := ⟨.hbm, 321, rfl⟩
abbrev main_v172 : Ref sig .tc := ⟨.hbm, 322, rfl⟩
abbrev main_call13_c : Ref sig .tc := ⟨.hbm, 323, rfl⟩
abbrev main_call13_v0 : Ref sig .tc := ⟨.hbm, 324, rfl⟩
abbrev main_call13_v1 : Ref sig .tc := ⟨.hbm, 325, rfl⟩
abbrev main_call13_c_0 : Ref sig .tc := ⟨.hbm, 326, rfl⟩
abbrev main_call13_v2 : Ref sig .tc := ⟨.hbm, 327, rfl⟩
abbrev main_call13_v3 : Ref sig .tc := ⟨.hbm, 328, rfl⟩
abbrev main_call13_v4 : Ref sig .tc := ⟨.hbm, 329, rfl⟩
abbrev main_call13_v5 : Ref sig .tc := ⟨.hbm, 330, rfl⟩
abbrev main_call13_c_1 : Ref sig .tc := ⟨.hbm, 331, rfl⟩
abbrev main_call13_c_2 : Ref sig .tc := ⟨.hbm, 332, rfl⟩
abbrev main_call13_v6 : Ref sig .tc := ⟨.hbm, 333, rfl⟩
abbrev main_call13_v7 : Ref sig .tc := ⟨.hbm, 334, rfl⟩
abbrev main_call13_v8 : Ref sig .tc := ⟨.hbm, 335, rfl⟩
abbrev main_call13_v9 : Ref sig .tc := ⟨.hbm, 336, rfl⟩
abbrev main_call13_v10 : Ref sig .tc := ⟨.hbm, 337, rfl⟩
abbrev main_call13_v11 : Ref sig .tc := ⟨.hbm, 338, rfl⟩
abbrev main_call13_c_3 : Ref sig .tc := ⟨.hbm, 339, rfl⟩
abbrev main_call13_v12 : Ref sig .tc := ⟨.hbm, 340, rfl⟩
abbrev main_call13_v13 : Ref sig .tc := ⟨.hbm, 341, rfl⟩
abbrev main_call13_c_4 : Ref sig .tc := ⟨.hbm, 342, rfl⟩
abbrev main_call13_v14 : Ref sig .tc := ⟨.hbm, 343, rfl⟩
abbrev main_v173 : Ref sig .tc := ⟨.hbm, 344, rfl⟩
abbrev main_v174 : Ref sig .tc := ⟨.hbm, 345, rfl⟩
abbrev main_v175 : Ref sig .tc := ⟨.hbm, 346, rfl⟩
abbrev main_v176 : Ref sig .tc := ⟨.hbm, 347, rfl⟩
abbrev main_v177 : Ref sig .tc := ⟨.hbm, 348, rfl⟩
abbrev main_v178 : Ref sig .tc := ⟨.hbm, 349, rfl⟩
abbrev main_c_5 : Ref sig .tc := ⟨.hbm, 350, rfl⟩
abbrev main_v179 : Ref sig .tc := ⟨.hbm, 351, rfl⟩
abbrev main_v180 : Ref sig .tc := ⟨.hbm, 352, rfl⟩
abbrev main_v181 : Ref sig .tc := ⟨.hbm, 353, rfl⟩
abbrev main_v182 : Ref sig .tc := ⟨.hbm, 354, rfl⟩
abbrev main_v183 : Ref sig .tc := ⟨.hbm, 355, rfl⟩
abbrev main_v184 : Ref sig .tc := ⟨.hbm, 356, rfl⟩
abbrev main_v185 : Ref sig .tc := ⟨.hbm, 357, rfl⟩
abbrev main_v186 : Ref sig .tc := ⟨.hbm, 358, rfl⟩
abbrev main_v187 : Ref sig .tc := ⟨.hbm, 359, rfl⟩
abbrev main_v188 : Ref sig .tc := ⟨.hbm, 360, rfl⟩
abbrev main_v189 : Ref sig .tc := ⟨.hbm, 361, rfl⟩
abbrev main_v190 : Ref sig .tc := ⟨.hbm, 362, rfl⟩
abbrev main_v191 : Ref sig .tc := ⟨.hbm, 363, rfl⟩
abbrev main_v192 : Ref sig .tc := ⟨.hbm, 364, rfl⟩
abbrev main_v193 : Ref sig .tc := ⟨.hbm, 365, rfl⟩
abbrev main_v194 : Ref sig .tc := ⟨.hbm, 366, rfl⟩
abbrev main_v195 : Ref sig .tc := ⟨.hbm, 367, rfl⟩
abbrev main_v196 : Ref sig .tc := ⟨.hbm, 368, rfl⟩
abbrev main_v197 : Ref sig .tc := ⟨.hbm, 369, rfl⟩
abbrev main_v198 : Ref sig .tc := ⟨.hbm, 370, rfl⟩
abbrev main_v199 : Ref sig .tc := ⟨.hbm, 371, rfl⟩
abbrev main_call14_v0 : Ref sig .tc := ⟨.hbm, 372, rfl⟩
abbrev main_call14_v1 : Ref sig .tc := ⟨.hbm, 373, rfl⟩
abbrev main_v200 : Ref sig .tc := ⟨.hbm, 374, rfl⟩
abbrev main_call15_c : Ref sig .tc := ⟨.hbm, 375, rfl⟩
abbrev main_call15_v0 : Ref sig .tc := ⟨.hbm, 376, rfl⟩
abbrev main_call15_v1 : Ref sig .tc := ⟨.hbm, 377, rfl⟩
abbrev main_call15_c_0 : Ref sig .tc := ⟨.hbm, 378, rfl⟩
abbrev main_call15_v2 : Ref sig .tc := ⟨.hbm, 379, rfl⟩
abbrev main_call15_v3 : Ref sig .tc := ⟨.hbm, 380, rfl⟩
abbrev main_call15_v4 : Ref sig .tc := ⟨.hbm, 381, rfl⟩
abbrev main_call15_v5 : Ref sig .tc := ⟨.hbm, 382, rfl⟩
abbrev main_call15_c_1 : Ref sig .tc := ⟨.hbm, 383, rfl⟩
abbrev main_call15_c_2 : Ref sig .tc := ⟨.hbm, 384, rfl⟩
abbrev main_call15_v6 : Ref sig .tc := ⟨.hbm, 385, rfl⟩
abbrev main_call15_v7 : Ref sig .tc := ⟨.hbm, 386, rfl⟩
abbrev main_call15_v8 : Ref sig .tc := ⟨.hbm, 387, rfl⟩
abbrev main_call15_v9 : Ref sig .tc := ⟨.hbm, 388, rfl⟩
abbrev main_call15_v10 : Ref sig .tc := ⟨.hbm, 389, rfl⟩
abbrev main_call15_v11 : Ref sig .tc := ⟨.hbm, 390, rfl⟩
abbrev main_call15_c_3 : Ref sig .tc := ⟨.hbm, 391, rfl⟩
abbrev main_call15_v12 : Ref sig .tc := ⟨.hbm, 392, rfl⟩
abbrev main_call15_v13 : Ref sig .tc := ⟨.hbm, 393, rfl⟩
abbrev main_call15_c_4 : Ref sig .tc := ⟨.hbm, 394, rfl⟩
abbrev main_call15_v14 : Ref sig .tc := ⟨.hbm, 395, rfl⟩
abbrev main_v201 : Ref sig .tc := ⟨.hbm, 396, rfl⟩
abbrev main_v202 : Ref sig .tc := ⟨.hbm, 397, rfl⟩
abbrev main_v203 : Ref sig .tc := ⟨.hbm, 398, rfl⟩
abbrev main_v204 : Ref sig .tc := ⟨.hbm, 399, rfl⟩
abbrev main_v205 : Ref sig .tc := ⟨.hbm, 400, rfl⟩
abbrev main_v206 : Ref sig .tc := ⟨.hbm, 401, rfl⟩
abbrev main_c_6 : Ref sig .tc := ⟨.hbm, 402, rfl⟩
abbrev main_v207 : Ref sig .tc := ⟨.hbm, 403, rfl⟩
abbrev main_v208 : Ref sig .tc := ⟨.hbm, 404, rfl⟩
abbrev main_v209 : Ref sig .tc := ⟨.hbm, 405, rfl⟩
abbrev main_v210 : Ref sig .tc := ⟨.hbm, 406, rfl⟩
abbrev main_v211 : Ref sig .tc := ⟨.hbm, 407, rfl⟩
abbrev main_v212 : Ref sig .tc := ⟨.hbm, 408, rfl⟩
abbrev main_v213 : Ref sig .tc := ⟨.hbm, 409, rfl⟩
abbrev main_v214 : Ref sig .tc := ⟨.hbm, 410, rfl⟩
abbrev main_v215 : Ref sig .tc := ⟨.hbm, 411, rfl⟩
abbrev main_v216 : Ref sig .tc := ⟨.hbm, 412, rfl⟩
abbrev main_v217 : Ref sig .tc := ⟨.hbm, 413, rfl⟩
abbrev main_v218 : Ref sig .tc := ⟨.hbm, 414, rfl⟩
abbrev main_v219 : Ref sig .tc := ⟨.hbm, 415, rfl⟩
abbrev main_v220 : Ref sig .tc := ⟨.hbm, 416, rfl⟩
abbrev main_v221 : Ref sig .tc := ⟨.hbm, 417, rfl⟩
abbrev main_v222 : Ref sig .tc := ⟨.hbm, 418, rfl⟩
abbrev main_v223 : Ref sig .tc := ⟨.hbm, 419, rfl⟩
abbrev main_v224 : Ref sig .tc := ⟨.hbm, 420, rfl⟩
abbrev main_v225 : Ref sig .tc := ⟨.hbm, 421, rfl⟩
abbrev main_v226 : Ref sig .tc := ⟨.hbm, 422, rfl⟩
abbrev main_v227 : Ref sig .tc := ⟨.hbm, 423, rfl⟩
abbrev main_call16_v0 : Ref sig .tc := ⟨.hbm, 424, rfl⟩
abbrev main_call16_v1 : Ref sig .tc := ⟨.hbm, 425, rfl⟩
abbrev main_v228 : Ref sig .tc := ⟨.hbm, 426, rfl⟩
abbrev main_call17_c : Ref sig .tc := ⟨.hbm, 427, rfl⟩
abbrev main_call17_v0 : Ref sig .tc := ⟨.hbm, 428, rfl⟩
abbrev main_call17_v1 : Ref sig .tc := ⟨.hbm, 429, rfl⟩
abbrev main_call17_c_0 : Ref sig .tc := ⟨.hbm, 430, rfl⟩
abbrev main_call17_v2 : Ref sig .tc := ⟨.hbm, 431, rfl⟩
abbrev main_call17_v3 : Ref sig .tc := ⟨.hbm, 432, rfl⟩
abbrev main_call17_v4 : Ref sig .tc := ⟨.hbm, 433, rfl⟩
abbrev main_call17_v5 : Ref sig .tc := ⟨.hbm, 434, rfl⟩
abbrev main_call17_c_1 : Ref sig .tc := ⟨.hbm, 435, rfl⟩
abbrev main_call17_c_2 : Ref sig .tc := ⟨.hbm, 436, rfl⟩
abbrev main_call17_v6 : Ref sig .tc := ⟨.hbm, 437, rfl⟩
abbrev main_call17_v7 : Ref sig .tc := ⟨.hbm, 438, rfl⟩
abbrev main_call17_v8 : Ref sig .tc := ⟨.hbm, 439, rfl⟩
abbrev main_call17_v9 : Ref sig .tc := ⟨.hbm, 440, rfl⟩
abbrev main_call17_v10 : Ref sig .tc := ⟨.hbm, 441, rfl⟩
abbrev main_call17_v11 : Ref sig .tc := ⟨.hbm, 442, rfl⟩
abbrev main_call17_c_3 : Ref sig .tc := ⟨.hbm, 443, rfl⟩
abbrev main_call17_v12 : Ref sig .tc := ⟨.hbm, 444, rfl⟩
abbrev main_call17_v13 : Ref sig .tc := ⟨.hbm, 445, rfl⟩
abbrev main_call17_c_4 : Ref sig .tc := ⟨.hbm, 446, rfl⟩
abbrev main_call17_v14 : Ref sig .tc := ⟨.hbm, 447, rfl⟩
abbrev main_v229 : Ref sig .tc := ⟨.hbm, 448, rfl⟩
abbrev main_v230 : Ref sig .tc := ⟨.hbm, 449, rfl⟩
abbrev main_v231 : Ref sig .tc := ⟨.hbm, 450, rfl⟩
abbrev main_v232 : Ref sig .tc := ⟨.hbm, 451, rfl⟩
abbrev main_v233 : Ref sig .tc := ⟨.hbm, 452, rfl⟩
abbrev main_v234 : Ref sig .tc := ⟨.hbm, 453, rfl⟩
abbrev main_c_7 : Ref sig .tc := ⟨.hbm, 454, rfl⟩
abbrev main_v235 : Ref sig .tc := ⟨.hbm, 455, rfl⟩
abbrev main_v236 : Ref sig .tc := ⟨.hbm, 456, rfl⟩
abbrev main_v237 : Ref sig .tc := ⟨.hbm, 457, rfl⟩
abbrev main_v238 : Ref sig .tc := ⟨.hbm, 458, rfl⟩
abbrev main_v239 : Ref sig .tc := ⟨.hbm, 459, rfl⟩
abbrev main_v240 : Ref sig .tc := ⟨.hbm, 460, rfl⟩
abbrev main_v241 : Ref sig .tc := ⟨.hbm, 461, rfl⟩
abbrev main_v242 : Ref sig .tc := ⟨.hbm, 462, rfl⟩
abbrev main_v243 : Ref sig .tc := ⟨.hbm, 463, rfl⟩
abbrev main_v244 : Ref sig .tc := ⟨.hbm, 464, rfl⟩
abbrev main_v245 : Ref sig .tc := ⟨.hbm, 465, rfl⟩
abbrev main_v246 : Ref sig .tc := ⟨.hbm, 466, rfl⟩
abbrev main_v247 : Ref sig .tc := ⟨.hbm, 467, rfl⟩
abbrev main_v248 : Ref sig .tc := ⟨.hbm, 468, rfl⟩
abbrev main_v249 : Ref sig .tc := ⟨.hbm, 469, rfl⟩
abbrev main_v250 : Ref sig .tc := ⟨.hbm, 470, rfl⟩
abbrev main_v251 : Ref sig .tc := ⟨.hbm, 471, rfl⟩
abbrev main_v252 : Ref sig .tc := ⟨.hbm, 472, rfl⟩
abbrev main_v253 : Ref sig .tc := ⟨.hbm, 473, rfl⟩
abbrev main_v254 : Ref sig .tc := ⟨.hbm, 474, rfl⟩
abbrev main_v255 : Ref sig .tc := ⟨.hbm, 475, rfl⟩
abbrev main_call18_v0 : Ref sig .tc := ⟨.hbm, 476, rfl⟩
abbrev main_call18_v1 : Ref sig .tc := ⟨.hbm, 477, rfl⟩
abbrev main_v256 : Ref sig .tc := ⟨.hbm, 478, rfl⟩
abbrev main_call19_c : Ref sig .tc := ⟨.hbm, 479, rfl⟩
abbrev main_call19_v0 : Ref sig .tc := ⟨.hbm, 480, rfl⟩
abbrev main_call19_v1 : Ref sig .tc := ⟨.hbm, 481, rfl⟩
abbrev main_call19_c_0 : Ref sig .tc := ⟨.hbm, 482, rfl⟩
abbrev main_call19_v2 : Ref sig .tc := ⟨.hbm, 483, rfl⟩
abbrev main_call19_v3 : Ref sig .tc := ⟨.hbm, 484, rfl⟩
abbrev main_call19_v4 : Ref sig .tc := ⟨.hbm, 485, rfl⟩
abbrev main_call19_v5 : Ref sig .tc := ⟨.hbm, 486, rfl⟩
abbrev main_call19_c_1 : Ref sig .tc := ⟨.hbm, 487, rfl⟩
abbrev main_call19_c_2 : Ref sig .tc := ⟨.hbm, 488, rfl⟩
abbrev main_call19_v6 : Ref sig .tc := ⟨.hbm, 489, rfl⟩
abbrev main_call19_v7 : Ref sig .tc := ⟨.hbm, 490, rfl⟩
abbrev main_call19_v8 : Ref sig .tc := ⟨.hbm, 491, rfl⟩
abbrev main_call19_v9 : Ref sig .tc := ⟨.hbm, 492, rfl⟩
abbrev main_call19_v10 : Ref sig .tc := ⟨.hbm, 493, rfl⟩
abbrev main_call19_v11 : Ref sig .tc := ⟨.hbm, 494, rfl⟩
abbrev main_call19_c_3 : Ref sig .tc := ⟨.hbm, 495, rfl⟩
abbrev main_call19_v12 : Ref sig .tc := ⟨.hbm, 496, rfl⟩
abbrev main_call19_v13 : Ref sig .tc := ⟨.hbm, 497, rfl⟩
abbrev main_call19_c_4 : Ref sig .tc := ⟨.hbm, 498, rfl⟩
abbrev main_call19_v14 : Ref sig .tc := ⟨.hbm, 499, rfl⟩
abbrev main_v257 : Ref sig .tc := ⟨.hbm, 500, rfl⟩
abbrev main_v258 : Ref sig .tc := ⟨.hbm, 501, rfl⟩
abbrev main_v259 : Ref sig .tc := ⟨.hbm, 502, rfl⟩
abbrev main_v260 : Ref sig .tc := ⟨.hbm, 503, rfl⟩
abbrev main_v261 : Ref sig .tc := ⟨.hbm, 504, rfl⟩
abbrev main_v262 : Ref sig .tc := ⟨.hbm, 505, rfl⟩
abbrev main_c_8 : Ref sig .tc := ⟨.hbm, 506, rfl⟩
abbrev main_v263 : Ref sig .tc := ⟨.hbm, 507, rfl⟩
abbrev main_v264 : Ref sig .tc := ⟨.hbm, 508, rfl⟩
abbrev main_v265 : Ref sig .tc := ⟨.hbm, 509, rfl⟩
abbrev main_v266 : Ref sig .tc := ⟨.hbm, 510, rfl⟩
abbrev main_v267 : Ref sig .tc := ⟨.hbm, 511, rfl⟩
abbrev main_v268 : Ref sig .tc := ⟨.hbm, 512, rfl⟩
abbrev main_v269 : Ref sig .tc := ⟨.hbm, 513, rfl⟩
abbrev main_v270 : Ref sig .tc := ⟨.hbm, 514, rfl⟩
abbrev main_v271 : Ref sig .tc := ⟨.hbm, 515, rfl⟩
abbrev main_v272 : Ref sig .tc := ⟨.hbm, 516, rfl⟩
abbrev main_v273 : Ref sig .tc := ⟨.hbm, 517, rfl⟩
abbrev main_v274 : Ref sig .tc := ⟨.hbm, 518, rfl⟩
abbrev main_v275 : Ref sig .tc := ⟨.hbm, 519, rfl⟩
abbrev main_v276 : Ref sig .tc := ⟨.hbm, 520, rfl⟩
abbrev main_v277 : Ref sig .tc := ⟨.hbm, 521, rfl⟩
abbrev main_v278 : Ref sig .tc := ⟨.hbm, 522, rfl⟩
abbrev main_v279 : Ref sig .tc := ⟨.hbm, 523, rfl⟩
abbrev main_v280 : Ref sig .tc := ⟨.hbm, 524, rfl⟩
abbrev main_v281 : Ref sig .tc := ⟨.hbm, 525, rfl⟩
abbrev main_v282 : Ref sig .tc := ⟨.hbm, 526, rfl⟩
abbrev main_v283 : Ref sig .tc := ⟨.hbm, 527, rfl⟩
abbrev main_v284 : Ref sig .tc := ⟨.hbm, 528, rfl⟩
abbrev main_call20_c : Ref sig .tc := ⟨.hbm, 529, rfl⟩
abbrev main_call20_v0 : Ref sig .tc := ⟨.hbm, 530, rfl⟩
abbrev main_call20_v1 : Ref sig .tc := ⟨.hbm, 531, rfl⟩
abbrev main_call20_c_0 : Ref sig .tc := ⟨.hbm, 532, rfl⟩
abbrev main_call20_v2 : Ref sig .tc := ⟨.hbm, 533, rfl⟩
abbrev main_call20_v3 : Ref sig .tc := ⟨.hbm, 534, rfl⟩
abbrev main_call20_v4 : Ref sig .tc := ⟨.hbm, 535, rfl⟩
abbrev main_call20_v5 : Ref sig .tc := ⟨.hbm, 536, rfl⟩
abbrev main_call20_c_1 : Ref sig .tc := ⟨.hbm, 537, rfl⟩
abbrev main_call20_c_2 : Ref sig .tc := ⟨.hbm, 538, rfl⟩
abbrev main_call20_v6 : Ref sig .tc := ⟨.hbm, 539, rfl⟩
abbrev main_call20_v7 : Ref sig .tc := ⟨.hbm, 540, rfl⟩
abbrev main_call20_v8 : Ref sig .tc := ⟨.hbm, 541, rfl⟩
abbrev main_call20_v9 : Ref sig .tc := ⟨.hbm, 542, rfl⟩
abbrev main_call20_v10 : Ref sig .tc := ⟨.hbm, 543, rfl⟩
abbrev main_call20_v11 : Ref sig .tc := ⟨.hbm, 544, rfl⟩
abbrev main_call20_c_3 : Ref sig .tc := ⟨.hbm, 545, rfl⟩
abbrev main_call20_v12 : Ref sig .tc := ⟨.hbm, 546, rfl⟩
abbrev main_call20_v13 : Ref sig .tc := ⟨.hbm, 547, rfl⟩
abbrev main_call20_c_4 : Ref sig .tc := ⟨.hbm, 548, rfl⟩
abbrev main_call20_v14 : Ref sig .tc := ⟨.hbm, 549, rfl⟩
abbrev main_v285 : Ref sig .tc := ⟨.hbm, 550, rfl⟩
abbrev main_v286 : Ref sig .tc := ⟨.hbm, 551, rfl⟩
abbrev main_v287 : Ref sig .tc := ⟨.hbm, 552, rfl⟩
abbrev main_v288 : Ref sig .tc := ⟨.hbm, 553, rfl⟩
abbrev main_v289 : Ref sig .tc := ⟨.hbm, 554, rfl⟩
abbrev main_call21_v0 : Ref sig .tc := ⟨.hbm, 555, rfl⟩
abbrev main_call21_v1 : Ref sig .tc := ⟨.hbm, 556, rfl⟩
abbrev main_v290 : Ref sig .tc := ⟨.hbm, 557, rfl⟩
abbrev main_v291 : Ref sig .tc := ⟨.hbm, 558, rfl⟩
abbrev main_v292 : Ref sig .tc := ⟨.hbm, 559, rfl⟩
abbrev main_call22_v0 : Ref sig .tc := ⟨.hbm, 560, rfl⟩
abbrev main_call22_v1 : Ref sig .tc := ⟨.hbm, 561, rfl⟩
abbrev main_v293 : Ref sig .tc := ⟨.hbm, 562, rfl⟩
abbrev main_v294 : Ref sig .tc := ⟨.hbm, 563, rfl⟩
abbrev main_v295 : Ref sig .tc := ⟨.hbm, 564, rfl⟩
abbrev main_call23_v0 : Ref sig .tc := ⟨.hbm, 565, rfl⟩
abbrev main_call23_v1 : Ref sig .tc := ⟨.hbm, 566, rfl⟩
abbrev main_v296 : Ref sig .tc := ⟨.hbm, 567, rfl⟩
abbrev main_v297 : Ref sig .tc := ⟨.hbm, 568, rfl⟩
abbrev main_v298 : Ref sig .tc := ⟨.hbm, 569, rfl⟩
abbrev main_v299 : Ref sig .tc := ⟨.hbm, 570, rfl⟩
abbrev main_v300 : Ref sig .tc := ⟨.hbm, 571, rfl⟩
abbrev main_v301 : Ref sig .tc := ⟨.hbm, 572, rfl⟩
abbrev main_v302 : Ref sig .tc := ⟨.hbm, 573, rfl⟩
abbrev main_v303 : Ref sig .tc := ⟨.hbm, 574, rfl⟩
abbrev main_v304 : Ref sig .tc := ⟨.hbm, 575, rfl⟩
abbrev main_v305 : Ref sig .tc := ⟨.hbm, 576, rfl⟩
abbrev main_v306 : Ref sig .tc := ⟨.hbm, 577, rfl⟩
abbrev main_v307 : Ref sig .tc := ⟨.hbm, 578, rfl⟩
abbrev main_v308 : Ref sig .tc := ⟨.hbm, 579, rfl⟩
abbrev main_v309 : Ref sig .tc := ⟨.hbm, 580, rfl⟩
abbrev main_v310 : Ref sig .tc := ⟨.hbm, 581, rfl⟩
abbrev main_v311 : Ref sig .tc := ⟨.hbm, 582, rfl⟩
abbrev main_v312 : Ref sig .tc := ⟨.hbm, 583, rfl⟩
abbrev main_v313 : Ref sig .tc := ⟨.hbm, 584, rfl⟩
abbrev main_v314 : Ref sig .tc := ⟨.hbm, 585, rfl⟩
abbrev main_c_9 : Ref sig .tc := ⟨.hbm, 586, rfl⟩
abbrev main_v315 : Ref sig .tc := ⟨.hbm, 587, rfl⟩
abbrev main_v316 : Ref sig .tc := ⟨.hbm, 588, rfl⟩
abbrev main_c_10 : Ref sig .tc := ⟨.hbm, 589, rfl⟩
abbrev main_v317 : Ref sig .tc := ⟨.hbm, 590, rfl⟩
abbrev main_v318 : Ref sig .tc := ⟨.hbm, 591, rfl⟩
abbrev main_c_11 : Ref sig .tc := ⟨.hbm, 592, rfl⟩
abbrev main_v319 : Ref sig .tc := ⟨.hbm, 593, rfl⟩
abbrev main_v320 : Ref sig .tc := ⟨.hbm, 594, rfl⟩
abbrev main_c_12 : Ref sig .tc := ⟨.hbm, 595, rfl⟩
abbrev main_v321 : Ref sig .tc := ⟨.hbm, 596, rfl⟩
abbrev main_v322 : Ref sig .tc := ⟨.hbm, 597, rfl⟩
abbrev main_v323 : Ref sig .tc := ⟨.hbm, 598, rfl⟩
abbrev main_c_13 : Ref sig .tc := ⟨.hbm, 599, rfl⟩
abbrev main_v324 : Ref sig .tc := ⟨.hbm, 600, rfl⟩
abbrev main_v325 : Ref sig .tc := ⟨.hbm, 601, rfl⟩
abbrev main_v326 : Ref sig .tc := ⟨.hbm, 602, rfl⟩
abbrev main_c_14 : Ref sig .tc := ⟨.hbm, 603, rfl⟩
abbrev main_v327 : Ref sig .tc := ⟨.hbm, 604, rfl⟩
abbrev main_v328 : Ref sig .tc := ⟨.hbm, 605, rfl⟩
abbrev main_v329 : Ref sig .tc := ⟨.hbm, 606, rfl⟩
abbrev main_v330 : Ref sig .tc := ⟨.hbm, 607, rfl⟩
abbrev main_c_15 : Ref sig .tc := ⟨.hbm, 608, rfl⟩
abbrev main_v331 : Ref sig .tc := ⟨.hbm, 609, rfl⟩
abbrev main_v332 : Ref sig .tc := ⟨.hbm, 610, rfl⟩
abbrev main_c_16 : Ref sig .tc := ⟨.hbm, 611, rfl⟩
abbrev main_v333 : Ref sig .tc := ⟨.hbm, 612, rfl⟩
abbrev main_v334 : Ref sig .tc := ⟨.hbm, 613, rfl⟩
abbrev main_c_17 : Ref sig .tc := ⟨.hbm, 614, rfl⟩
abbrev main_v335 : Ref sig .tc := ⟨.hbm, 615, rfl⟩
abbrev main_v336 : Ref sig .tc := ⟨.hbm, 616, rfl⟩
abbrev main_c_18 : Ref sig .tc := ⟨.hbm, 617, rfl⟩
abbrev main_v337 : Ref sig .tc := ⟨.hbm, 618, rfl⟩
abbrev main_v338 : Ref sig .tc := ⟨.hbm, 619, rfl⟩
abbrev main_v339 : Ref sig .tc := ⟨.hbm, 620, rfl⟩
abbrev main_c_19 : Ref sig .tc := ⟨.hbm, 621, rfl⟩
abbrev main_v340 : Ref sig .tc := ⟨.hbm, 622, rfl⟩
abbrev main_v341 : Ref sig .tc := ⟨.hbm, 623, rfl⟩
abbrev main_v342 : Ref sig .tc := ⟨.hbm, 624, rfl⟩
abbrev main_c_20 : Ref sig .tc := ⟨.hbm, 625, rfl⟩
abbrev main_v343 : Ref sig .tc := ⟨.hbm, 626, rfl⟩
abbrev main_v344 : Ref sig .tc := ⟨.hbm, 627, rfl⟩
abbrev main_v345 : Ref sig .tc := ⟨.hbm, 628, rfl⟩
abbrev main_v346 : Ref sig .tc := ⟨.hbm, 629, rfl⟩
abbrev main_c_21 : Ref sig .tc := ⟨.hbm, 630, rfl⟩
abbrev main_v347 : Ref sig .tc := ⟨.hbm, 631, rfl⟩
abbrev main_v348 : Ref sig .tc := ⟨.hbm, 632, rfl⟩
abbrev main_c_22 : Ref sig .tc := ⟨.hbm, 633, rfl⟩
abbrev main_v349 : Ref sig .tc := ⟨.hbm, 634, rfl⟩
abbrev main_v350 : Ref sig .tc := ⟨.hbm, 635, rfl⟩
abbrev main_c_23 : Ref sig .tc := ⟨.hbm, 636, rfl⟩
abbrev main_v351 : Ref sig .tc := ⟨.hbm, 637, rfl⟩
abbrev main_v352 : Ref sig .tc := ⟨.hbm, 638, rfl⟩
abbrev main_c_24 : Ref sig .tc := ⟨.hbm, 639, rfl⟩
abbrev main_v353 : Ref sig .tc := ⟨.hbm, 640, rfl⟩
abbrev main_v354 : Ref sig .tc := ⟨.hbm, 641, rfl⟩
abbrev main_v355 : Ref sig .tc := ⟨.hbm, 642, rfl⟩
abbrev main_c_25 : Ref sig .tc := ⟨.hbm, 643, rfl⟩
abbrev main_v356 : Ref sig .tc := ⟨.hbm, 644, rfl⟩
abbrev main_v357 : Ref sig .tc := ⟨.hbm, 645, rfl⟩
abbrev main_v358 : Ref sig .tc := ⟨.hbm, 646, rfl⟩
abbrev main_c_26 : Ref sig .tc := ⟨.hbm, 647, rfl⟩
abbrev main_v359 : Ref sig .tc := ⟨.hbm, 648, rfl⟩
abbrev main_v360 : Ref sig .tc := ⟨.hbm, 649, rfl⟩
abbrev main_v361 : Ref sig .tc := ⟨.hbm, 650, rfl⟩
abbrev main_v362 : Ref sig .tc := ⟨.hbm, 651, rfl⟩
abbrev main_c_27 : Ref sig .tc := ⟨.hbm, 652, rfl⟩
abbrev main_v363 : Ref sig .tc := ⟨.hbm, 653, rfl⟩
abbrev main_v364 : Ref sig .tc := ⟨.hbm, 654, rfl⟩
abbrev main_c_28 : Ref sig .tc := ⟨.hbm, 655, rfl⟩
abbrev main_v365 : Ref sig .tc := ⟨.hbm, 656, rfl⟩
abbrev main_v366 : Ref sig .tc := ⟨.hbm, 657, rfl⟩
abbrev main_c_29 : Ref sig .tc := ⟨.hbm, 658, rfl⟩
abbrev main_v367 : Ref sig .tc := ⟨.hbm, 659, rfl⟩
abbrev main_v368 : Ref sig .tc := ⟨.hbm, 660, rfl⟩
abbrev main_c_30 : Ref sig .tc := ⟨.hbm, 661, rfl⟩
abbrev main_v369 : Ref sig .tc := ⟨.hbm, 662, rfl⟩
abbrev main_v370 : Ref sig .tc := ⟨.hbm, 663, rfl⟩
abbrev main_v371 : Ref sig .tc := ⟨.hbm, 664, rfl⟩
abbrev main_c_31 : Ref sig .tc := ⟨.hbm, 665, rfl⟩
abbrev main_v372 : Ref sig .tc := ⟨.hbm, 666, rfl⟩
abbrev main_v373 : Ref sig .tc := ⟨.hbm, 667, rfl⟩
abbrev main_v374 : Ref sig .tc := ⟨.hbm, 668, rfl⟩
abbrev main_c_32 : Ref sig .tc := ⟨.hbm, 669, rfl⟩
abbrev main_v375 : Ref sig .tc := ⟨.hbm, 670, rfl⟩
abbrev main_v376 : Ref sig .tc := ⟨.hbm, 671, rfl⟩
abbrev main_v377 : Ref sig .tc := ⟨.hbm, 672, rfl⟩
abbrev main_v378 : Ref sig .tc := ⟨.hbm, 673, rfl⟩
abbrev main_v379 : Ref sig .tc := ⟨.hbm, 674, rfl⟩
abbrev main_v380 : Ref sig .tc := ⟨.hbm, 675, rfl⟩
abbrev main_v381 : Ref sig .tc := ⟨.hbm, 676, rfl⟩
abbrev main_v382 : Ref sig .tc := ⟨.hbm, 677, rfl⟩
abbrev main_call24_c : Ref sig .tc := ⟨.hbm, 678, rfl⟩
abbrev main_call24_v0 : Ref sig .tc := ⟨.hbm, 679, rfl⟩
abbrev main_call24_v1 : Ref sig .tc := ⟨.hbm, 680, rfl⟩
abbrev main_call24_c_0 : Ref sig .tc := ⟨.hbm, 681, rfl⟩
abbrev main_call24_v2 : Ref sig .tc := ⟨.hbm, 682, rfl⟩
abbrev main_call24_v3 : Ref sig .tc := ⟨.hbm, 683, rfl⟩
abbrev main_call24_v4 : Ref sig .tc := ⟨.hbm, 684, rfl⟩
abbrev main_call24_v5 : Ref sig .tc := ⟨.hbm, 685, rfl⟩
abbrev main_call24_c_1 : Ref sig .tc := ⟨.hbm, 686, rfl⟩
abbrev main_call24_c_2 : Ref sig .tc := ⟨.hbm, 687, rfl⟩
abbrev main_call24_v6 : Ref sig .tc := ⟨.hbm, 688, rfl⟩
abbrev main_call24_v7 : Ref sig .tc := ⟨.hbm, 689, rfl⟩
abbrev main_call24_v8 : Ref sig .tc := ⟨.hbm, 690, rfl⟩
abbrev main_call24_v9 : Ref sig .tc := ⟨.hbm, 691, rfl⟩
abbrev main_call24_v10 : Ref sig .tc := ⟨.hbm, 692, rfl⟩
abbrev main_call24_v11 : Ref sig .tc := ⟨.hbm, 693, rfl⟩
abbrev main_call24_c_3 : Ref sig .tc := ⟨.hbm, 694, rfl⟩
abbrev main_call24_v12 : Ref sig .tc := ⟨.hbm, 695, rfl⟩
abbrev main_call24_v13 : Ref sig .tc := ⟨.hbm, 696, rfl⟩
abbrev main_call24_c_4 : Ref sig .tc := ⟨.hbm, 697, rfl⟩
abbrev main_call24_v14 : Ref sig .tc := ⟨.hbm, 698, rfl⟩
abbrev main_v383 : Ref sig .tc := ⟨.hbm, 699, rfl⟩
abbrev main_v384 : Ref sig .tc := ⟨.hbm, 700, rfl⟩
abbrev main_v385 : Ref sig .tc := ⟨.hbm, 701, rfl⟩
abbrev main_v386 : Ref sig .tc := ⟨.hbm, 702, rfl⟩
abbrev main_v387 : Ref sig .tc := ⟨.hbm, 703, rfl⟩
abbrev main_call25_v0 : Ref sig .tc := ⟨.hbm, 704, rfl⟩
abbrev main_call25_v1 : Ref sig .tc := ⟨.hbm, 705, rfl⟩
abbrev main_v388 : Ref sig .tc := ⟨.hbm, 706, rfl⟩
abbrev main_v389 : Ref sig .tc := ⟨.hbm, 707, rfl⟩
abbrev main_v390 : Ref sig .tc := ⟨.hbm, 708, rfl⟩
abbrev main_call26_v0 : Ref sig .tc := ⟨.hbm, 709, rfl⟩
abbrev main_call26_v1 : Ref sig .tc := ⟨.hbm, 710, rfl⟩
abbrev main_v391 : Ref sig .tc := ⟨.hbm, 711, rfl⟩
abbrev main_v392 : Ref sig .tc := ⟨.hbm, 712, rfl⟩
abbrev main_v393 : Ref sig .tc := ⟨.hbm, 713, rfl⟩
abbrev main_call27_v0 : Ref sig .tc := ⟨.hbm, 714, rfl⟩
abbrev main_call27_v1 : Ref sig .tc := ⟨.hbm, 715, rfl⟩
abbrev main_v394 : Ref sig .tc := ⟨.hbm, 716, rfl⟩
abbrev main_v395 : Ref sig .tc := ⟨.hbm, 717, rfl⟩
abbrev main_v396 : Ref sig .tc := ⟨.hbm, 718, rfl⟩
abbrev main_v397 : Ref sig .tc := ⟨.hbm, 719, rfl⟩
abbrev main_v398 : Ref sig .tc := ⟨.hbm, 720, rfl⟩
abbrev main_v399 : Ref sig .tc := ⟨.hbm, 721, rfl⟩
abbrev main_v400 : Ref sig .tc := ⟨.hbm, 722, rfl⟩
abbrev main_v401 : Ref sig .tc := ⟨.hbm, 723, rfl⟩
abbrev main_v402 : Ref sig .tc := ⟨.hbm, 724, rfl⟩
abbrev main_v403 : Ref sig .tc := ⟨.hbm, 725, rfl⟩
abbrev main_v404 : Ref sig .tc := ⟨.hbm, 726, rfl⟩
abbrev main_v405 : Ref sig .tc := ⟨.hbm, 727, rfl⟩
abbrev main_v406 : Ref sig .tc := ⟨.hbm, 728, rfl⟩
abbrev main_v407 : Ref sig .tc := ⟨.hbm, 729, rfl⟩
abbrev main_v408 : Ref sig .tc := ⟨.hbm, 730, rfl⟩
abbrev main_v409 : Ref sig .tc := ⟨.hbm, 731, rfl⟩
abbrev main_v410 : Ref sig .tc := ⟨.hbm, 732, rfl⟩
abbrev main_v411 : Ref sig .tc := ⟨.hbm, 733, rfl⟩
abbrev main_v412 : Ref sig .tc := ⟨.hbm, 734, rfl⟩
abbrev main_c_33 : Ref sig .tc := ⟨.hbm, 735, rfl⟩
abbrev main_v413 : Ref sig .tc := ⟨.hbm, 736, rfl⟩
abbrev main_v414 : Ref sig .tc := ⟨.hbm, 737, rfl⟩
abbrev main_c_34 : Ref sig .tc := ⟨.hbm, 738, rfl⟩
abbrev main_v415 : Ref sig .tc := ⟨.hbm, 739, rfl⟩
abbrev main_v416 : Ref sig .tc := ⟨.hbm, 740, rfl⟩
abbrev main_c_35 : Ref sig .tc := ⟨.hbm, 741, rfl⟩
abbrev main_v417 : Ref sig .tc := ⟨.hbm, 742, rfl⟩
abbrev main_v418 : Ref sig .tc := ⟨.hbm, 743, rfl⟩
abbrev main_c_36 : Ref sig .tc := ⟨.hbm, 744, rfl⟩
abbrev main_v419 : Ref sig .tc := ⟨.hbm, 745, rfl⟩
abbrev main_v420 : Ref sig .tc := ⟨.hbm, 746, rfl⟩
abbrev main_v421 : Ref sig .tc := ⟨.hbm, 747, rfl⟩
abbrev main_c_37 : Ref sig .tc := ⟨.hbm, 748, rfl⟩
abbrev main_v422 : Ref sig .tc := ⟨.hbm, 749, rfl⟩
abbrev main_v423 : Ref sig .tc := ⟨.hbm, 750, rfl⟩
abbrev main_v424 : Ref sig .tc := ⟨.hbm, 751, rfl⟩
abbrev main_c_38 : Ref sig .tc := ⟨.hbm, 752, rfl⟩
abbrev main_v425 : Ref sig .tc := ⟨.hbm, 753, rfl⟩
abbrev main_v426 : Ref sig .tc := ⟨.hbm, 754, rfl⟩
abbrev main_v427 : Ref sig .tc := ⟨.hbm, 755, rfl⟩
abbrev main_v428 : Ref sig .tc := ⟨.hbm, 756, rfl⟩
abbrev main_c_39 : Ref sig .tc := ⟨.hbm, 757, rfl⟩
abbrev main_v429 : Ref sig .tc := ⟨.hbm, 758, rfl⟩
abbrev main_v430 : Ref sig .tc := ⟨.hbm, 759, rfl⟩
abbrev main_c_40 : Ref sig .tc := ⟨.hbm, 760, rfl⟩
abbrev main_v431 : Ref sig .tc := ⟨.hbm, 761, rfl⟩
abbrev main_v432 : Ref sig .tc := ⟨.hbm, 762, rfl⟩
abbrev main_c_41 : Ref sig .tc := ⟨.hbm, 763, rfl⟩
abbrev main_v433 : Ref sig .tc := ⟨.hbm, 764, rfl⟩
abbrev main_v434 : Ref sig .tc := ⟨.hbm, 765, rfl⟩
abbrev main_c_42 : Ref sig .tc := ⟨.hbm, 766, rfl⟩
abbrev main_v435 : Ref sig .tc := ⟨.hbm, 767, rfl⟩
abbrev main_v436 : Ref sig .tc := ⟨.hbm, 768, rfl⟩
abbrev main_v437 : Ref sig .tc := ⟨.hbm, 769, rfl⟩
abbrev main_c_43 : Ref sig .tc := ⟨.hbm, 770, rfl⟩
abbrev main_v438 : Ref sig .tc := ⟨.hbm, 771, rfl⟩
abbrev main_v439 : Ref sig .tc := ⟨.hbm, 772, rfl⟩
abbrev main_v440 : Ref sig .tc := ⟨.hbm, 773, rfl⟩
abbrev main_c_44 : Ref sig .tc := ⟨.hbm, 774, rfl⟩
abbrev main_v441 : Ref sig .tc := ⟨.hbm, 775, rfl⟩
abbrev main_v442 : Ref sig .tc := ⟨.hbm, 776, rfl⟩
abbrev main_v443 : Ref sig .tc := ⟨.hbm, 777, rfl⟩
abbrev main_v444 : Ref sig .tc := ⟨.hbm, 778, rfl⟩
abbrev main_c_45 : Ref sig .tc := ⟨.hbm, 779, rfl⟩
abbrev main_v445 : Ref sig .tc := ⟨.hbm, 780, rfl⟩
abbrev main_v446 : Ref sig .tc := ⟨.hbm, 781, rfl⟩
abbrev main_c_46 : Ref sig .tc := ⟨.hbm, 782, rfl⟩
abbrev main_v447 : Ref sig .tc := ⟨.hbm, 783, rfl⟩
abbrev main_v448 : Ref sig .tc := ⟨.hbm, 784, rfl⟩
abbrev main_c_47 : Ref sig .tc := ⟨.hbm, 785, rfl⟩
abbrev main_v449 : Ref sig .tc := ⟨.hbm, 786, rfl⟩
abbrev main_v450 : Ref sig .tc := ⟨.hbm, 787, rfl⟩
abbrev main_c_48 : Ref sig .tc := ⟨.hbm, 788, rfl⟩
abbrev main_v451 : Ref sig .tc := ⟨.hbm, 789, rfl⟩
abbrev main_v452 : Ref sig .tc := ⟨.hbm, 790, rfl⟩
abbrev main_v453 : Ref sig .tc := ⟨.hbm, 791, rfl⟩
abbrev main_c_49 : Ref sig .tc := ⟨.hbm, 792, rfl⟩
abbrev main_v454 : Ref sig .tc := ⟨.hbm, 793, rfl⟩
abbrev main_v455 : Ref sig .tc := ⟨.hbm, 794, rfl⟩
abbrev main_v456 : Ref sig .tc := ⟨.hbm, 795, rfl⟩
abbrev main_c_50 : Ref sig .tc := ⟨.hbm, 796, rfl⟩
abbrev main_v457 : Ref sig .tc := ⟨.hbm, 797, rfl⟩
abbrev main_v458 : Ref sig .tc := ⟨.hbm, 798, rfl⟩
abbrev main_v459 : Ref sig .tc := ⟨.hbm, 799, rfl⟩
abbrev main_v460 : Ref sig .tc := ⟨.hbm, 800, rfl⟩
abbrev main_c_51 : Ref sig .tc := ⟨.hbm, 801, rfl⟩
abbrev main_v461 : Ref sig .tc := ⟨.hbm, 802, rfl⟩
abbrev main_v462 : Ref sig .tc := ⟨.hbm, 803, rfl⟩
abbrev main_c_52 : Ref sig .tc := ⟨.hbm, 804, rfl⟩
abbrev main_v463 : Ref sig .tc := ⟨.hbm, 805, rfl⟩
abbrev main_v464 : Ref sig .tc := ⟨.hbm, 806, rfl⟩
abbrev main_c_53 : Ref sig .tc := ⟨.hbm, 807, rfl⟩
abbrev main_v465 : Ref sig .tc := ⟨.hbm, 808, rfl⟩
abbrev main_v466 : Ref sig .tc := ⟨.hbm, 809, rfl⟩
abbrev main_c_54 : Ref sig .tc := ⟨.hbm, 810, rfl⟩
abbrev main_v467 : Ref sig .tc := ⟨.hbm, 811, rfl⟩
abbrev main_v468 : Ref sig .tc := ⟨.hbm, 812, rfl⟩
abbrev main_v469 : Ref sig .tc := ⟨.hbm, 813, rfl⟩
abbrev main_c_55 : Ref sig .tc := ⟨.hbm, 814, rfl⟩
abbrev main_v470 : Ref sig .tc := ⟨.hbm, 815, rfl⟩
abbrev main_v471 : Ref sig .tc := ⟨.hbm, 816, rfl⟩
abbrev main_v472 : Ref sig .tc := ⟨.hbm, 817, rfl⟩
abbrev main_c_56 : Ref sig .tc := ⟨.hbm, 818, rfl⟩
abbrev main_v473 : Ref sig .tc := ⟨.hbm, 819, rfl⟩
abbrev main_v474 : Ref sig .tc := ⟨.hbm, 820, rfl⟩
abbrev main_v475 : Ref sig .tc := ⟨.hbm, 821, rfl⟩
abbrev main_v476 : Ref sig .tc := ⟨.hbm, 822, rfl⟩
abbrev main_v477 : Ref sig .tc := ⟨.hbm, 823, rfl⟩
abbrev main_v478 : Ref sig .tc := ⟨.hbm, 824, rfl⟩
abbrev main_v479 : Ref sig .tc := ⟨.hbm, 825, rfl⟩
abbrev main_v480 : Ref sig .tc := ⟨.hbm, 826, rfl⟩
abbrev main_call28_c : Ref sig .tc := ⟨.hbm, 827, rfl⟩
abbrev main_call28_v0 : Ref sig .tc := ⟨.hbm, 828, rfl⟩
abbrev main_call28_v1 : Ref sig .tc := ⟨.hbm, 829, rfl⟩
abbrev main_call28_c_0 : Ref sig .tc := ⟨.hbm, 830, rfl⟩
abbrev main_call28_v2 : Ref sig .tc := ⟨.hbm, 831, rfl⟩
abbrev main_call28_v3 : Ref sig .tc := ⟨.hbm, 832, rfl⟩
abbrev main_call28_v4 : Ref sig .tc := ⟨.hbm, 833, rfl⟩
abbrev main_call28_v5 : Ref sig .tc := ⟨.hbm, 834, rfl⟩
abbrev main_call28_c_1 : Ref sig .tc := ⟨.hbm, 835, rfl⟩
abbrev main_call28_c_2 : Ref sig .tc := ⟨.hbm, 836, rfl⟩
abbrev main_call28_v6 : Ref sig .tc := ⟨.hbm, 837, rfl⟩
abbrev main_call28_v7 : Ref sig .tc := ⟨.hbm, 838, rfl⟩
abbrev main_call28_v8 : Ref sig .tc := ⟨.hbm, 839, rfl⟩
abbrev main_call28_v9 : Ref sig .tc := ⟨.hbm, 840, rfl⟩
abbrev main_call28_v10 : Ref sig .tc := ⟨.hbm, 841, rfl⟩
abbrev main_call28_v11 : Ref sig .tc := ⟨.hbm, 842, rfl⟩
abbrev main_call28_c_3 : Ref sig .tc := ⟨.hbm, 843, rfl⟩
abbrev main_call28_v12 : Ref sig .tc := ⟨.hbm, 844, rfl⟩
abbrev main_call28_v13 : Ref sig .tc := ⟨.hbm, 845, rfl⟩
abbrev main_call28_c_4 : Ref sig .tc := ⟨.hbm, 846, rfl⟩
abbrev main_call28_v14 : Ref sig .tc := ⟨.hbm, 847, rfl⟩
abbrev main_v481 : Ref sig .tc := ⟨.hbm, 848, rfl⟩
abbrev main_v482 : Ref sig .tc := ⟨.hbm, 849, rfl⟩
abbrev main_v483 : Ref sig .tc := ⟨.hbm, 850, rfl⟩
abbrev main_v484 : Ref sig .tc := ⟨.hbm, 851, rfl⟩
abbrev main_v485 : Ref sig .tc := ⟨.hbm, 852, rfl⟩
abbrev main_call29_v0 : Ref sig .tc := ⟨.hbm, 853, rfl⟩
abbrev main_call29_v1 : Ref sig .tc := ⟨.hbm, 854, rfl⟩
abbrev main_v486 : Ref sig .tc := ⟨.hbm, 855, rfl⟩
abbrev main_v487 : Ref sig .tc := ⟨.hbm, 856, rfl⟩
abbrev main_v488 : Ref sig .tc := ⟨.hbm, 857, rfl⟩
abbrev main_call30_v0 : Ref sig .tc := ⟨.hbm, 858, rfl⟩
abbrev main_call30_v1 : Ref sig .tc := ⟨.hbm, 859, rfl⟩
abbrev main_v489 : Ref sig .tc := ⟨.hbm, 860, rfl⟩
abbrev main_v490 : Ref sig .tc := ⟨.hbm, 861, rfl⟩
abbrev main_v491 : Ref sig .tc := ⟨.hbm, 862, rfl⟩
abbrev main_call31_v0 : Ref sig .tc := ⟨.hbm, 863, rfl⟩
abbrev main_call31_v1 : Ref sig .tc := ⟨.hbm, 864, rfl⟩
abbrev main_v492 : Ref sig .tc := ⟨.hbm, 865, rfl⟩
abbrev main_v493 : Ref sig .tc := ⟨.hbm, 866, rfl⟩
abbrev main_v494 : Ref sig .tc := ⟨.hbm, 867, rfl⟩
abbrev main_v495 : Ref sig .tc := ⟨.hbm, 868, rfl⟩
abbrev main_v496 : Ref sig .tc := ⟨.hbm, 869, rfl⟩
abbrev main_v497 : Ref sig .tc := ⟨.hbm, 870, rfl⟩
abbrev main_v498 : Ref sig .tc := ⟨.hbm, 871, rfl⟩
abbrev main_v499 : Ref sig .tc := ⟨.hbm, 872, rfl⟩
abbrev main_v500 : Ref sig .tc := ⟨.hbm, 873, rfl⟩
abbrev main_v501 : Ref sig .tc := ⟨.hbm, 874, rfl⟩
abbrev main_v502 : Ref sig .tc := ⟨.hbm, 875, rfl⟩
abbrev main_v503 : Ref sig .tc := ⟨.hbm, 876, rfl⟩
abbrev main_v504 : Ref sig .tc := ⟨.hbm, 877, rfl⟩
abbrev main_v505 : Ref sig .tc := ⟨.hbm, 878, rfl⟩
abbrev main_v506 : Ref sig .tc := ⟨.hbm, 879, rfl⟩
abbrev main_v507 : Ref sig .tc := ⟨.hbm, 880, rfl⟩
abbrev main_v508 : Ref sig .tc := ⟨.hbm, 881, rfl⟩
abbrev main_v509 : Ref sig .tc := ⟨.hbm, 882, rfl⟩
abbrev main_v510 : Ref sig .tc := ⟨.hbm, 883, rfl⟩
abbrev main_c_57 : Ref sig .tc := ⟨.hbm, 884, rfl⟩
abbrev main_v511 : Ref sig .tc := ⟨.hbm, 885, rfl⟩
abbrev main_v512 : Ref sig .tc := ⟨.hbm, 886, rfl⟩
abbrev main_c_58 : Ref sig .tc := ⟨.hbm, 887, rfl⟩
abbrev main_v513 : Ref sig .tc := ⟨.hbm, 888, rfl⟩
abbrev main_v514 : Ref sig .tc := ⟨.hbm, 889, rfl⟩
abbrev main_c_59 : Ref sig .tc := ⟨.hbm, 890, rfl⟩
abbrev main_v515 : Ref sig .tc := ⟨.hbm, 891, rfl⟩
abbrev main_v516 : Ref sig .tc := ⟨.hbm, 892, rfl⟩
abbrev main_c_60 : Ref sig .tc := ⟨.hbm, 893, rfl⟩
abbrev main_v517 : Ref sig .tc := ⟨.hbm, 894, rfl⟩
abbrev main_v518 : Ref sig .tc := ⟨.hbm, 895, rfl⟩
abbrev main_v519 : Ref sig .tc := ⟨.hbm, 896, rfl⟩
abbrev main_c_61 : Ref sig .tc := ⟨.hbm, 897, rfl⟩
abbrev main_v520 : Ref sig .tc := ⟨.hbm, 898, rfl⟩
abbrev main_v521 : Ref sig .tc := ⟨.hbm, 899, rfl⟩
abbrev main_v522 : Ref sig .tc := ⟨.hbm, 900, rfl⟩
abbrev main_c_62 : Ref sig .tc := ⟨.hbm, 901, rfl⟩
abbrev main_v523 : Ref sig .tc := ⟨.hbm, 902, rfl⟩
abbrev main_v524 : Ref sig .tc := ⟨.hbm, 903, rfl⟩
abbrev main_v525 : Ref sig .tc := ⟨.hbm, 904, rfl⟩
abbrev main_v526 : Ref sig .tc := ⟨.hbm, 905, rfl⟩
abbrev main_c_63 : Ref sig .tc := ⟨.hbm, 906, rfl⟩
abbrev main_v527 : Ref sig .tc := ⟨.hbm, 907, rfl⟩
abbrev main_v528 : Ref sig .tc := ⟨.hbm, 908, rfl⟩
abbrev main_c_64 : Ref sig .tc := ⟨.hbm, 909, rfl⟩
abbrev main_v529 : Ref sig .tc := ⟨.hbm, 910, rfl⟩
abbrev main_v530 : Ref sig .tc := ⟨.hbm, 911, rfl⟩
abbrev main_c_65 : Ref sig .tc := ⟨.hbm, 912, rfl⟩
abbrev main_v531 : Ref sig .tc := ⟨.hbm, 913, rfl⟩
abbrev main_v532 : Ref sig .tc := ⟨.hbm, 914, rfl⟩
abbrev main_c_66 : Ref sig .tc := ⟨.hbm, 915, rfl⟩
abbrev main_v533 : Ref sig .tc := ⟨.hbm, 916, rfl⟩
abbrev main_v534 : Ref sig .tc := ⟨.hbm, 917, rfl⟩
abbrev main_v535 : Ref sig .tc := ⟨.hbm, 918, rfl⟩
abbrev main_c_67 : Ref sig .tc := ⟨.hbm, 919, rfl⟩
abbrev main_v536 : Ref sig .tc := ⟨.hbm, 920, rfl⟩
abbrev main_v537 : Ref sig .tc := ⟨.hbm, 921, rfl⟩
abbrev main_v538 : Ref sig .tc := ⟨.hbm, 922, rfl⟩
abbrev main_c_68 : Ref sig .tc := ⟨.hbm, 923, rfl⟩
abbrev main_v539 : Ref sig .tc := ⟨.hbm, 924, rfl⟩
abbrev main_v540 : Ref sig .tc := ⟨.hbm, 925, rfl⟩
abbrev main_v541 : Ref sig .tc := ⟨.hbm, 926, rfl⟩
abbrev main_v542 : Ref sig .tc := ⟨.hbm, 927, rfl⟩
abbrev main_c_69 : Ref sig .tc := ⟨.hbm, 928, rfl⟩
abbrev main_v543 : Ref sig .tc := ⟨.hbm, 929, rfl⟩
abbrev main_v544 : Ref sig .tc := ⟨.hbm, 930, rfl⟩
abbrev main_c_70 : Ref sig .tc := ⟨.hbm, 931, rfl⟩
abbrev main_v545 : Ref sig .tc := ⟨.hbm, 932, rfl⟩
abbrev main_v546 : Ref sig .tc := ⟨.hbm, 933, rfl⟩
abbrev main_c_71 : Ref sig .tc := ⟨.hbm, 934, rfl⟩
abbrev main_v547 : Ref sig .tc := ⟨.hbm, 935, rfl⟩
abbrev main_v548 : Ref sig .tc := ⟨.hbm, 936, rfl⟩
abbrev main_c_72 : Ref sig .tc := ⟨.hbm, 937, rfl⟩
abbrev main_v549 : Ref sig .tc := ⟨.hbm, 938, rfl⟩
abbrev main_v550 : Ref sig .tc := ⟨.hbm, 939, rfl⟩
abbrev main_v551 : Ref sig .tc := ⟨.hbm, 940, rfl⟩
abbrev main_c_73 : Ref sig .tc := ⟨.hbm, 941, rfl⟩
abbrev main_v552 : Ref sig .tc := ⟨.hbm, 942, rfl⟩
abbrev main_v553 : Ref sig .tc := ⟨.hbm, 943, rfl⟩
abbrev main_v554 : Ref sig .tc := ⟨.hbm, 944, rfl⟩
abbrev main_c_74 : Ref sig .tc := ⟨.hbm, 945, rfl⟩
abbrev main_v555 : Ref sig .tc := ⟨.hbm, 946, rfl⟩
abbrev main_v556 : Ref sig .tc := ⟨.hbm, 947, rfl⟩
abbrev main_v557 : Ref sig .tc := ⟨.hbm, 948, rfl⟩
abbrev main_v558 : Ref sig .tc := ⟨.hbm, 949, rfl⟩
abbrev main_c_75 : Ref sig .tc := ⟨.hbm, 950, rfl⟩
abbrev main_v559 : Ref sig .tc := ⟨.hbm, 951, rfl⟩
abbrev main_v560 : Ref sig .tc := ⟨.hbm, 952, rfl⟩
abbrev main_c_76 : Ref sig .tc := ⟨.hbm, 953, rfl⟩
abbrev main_v561 : Ref sig .tc := ⟨.hbm, 954, rfl⟩
abbrev main_v562 : Ref sig .tc := ⟨.hbm, 955, rfl⟩
abbrev main_c_77 : Ref sig .tc := ⟨.hbm, 956, rfl⟩
abbrev main_v563 : Ref sig .tc := ⟨.hbm, 957, rfl⟩
abbrev main_v564 : Ref sig .tc := ⟨.hbm, 958, rfl⟩
abbrev main_c_78 : Ref sig .tc := ⟨.hbm, 959, rfl⟩
abbrev main_v565 : Ref sig .tc := ⟨.hbm, 960, rfl⟩
abbrev main_v566 : Ref sig .tc := ⟨.hbm, 961, rfl⟩
abbrev main_v567 : Ref sig .tc := ⟨.hbm, 962, rfl⟩
abbrev main_c_79 : Ref sig .tc := ⟨.hbm, 963, rfl⟩
abbrev main_v568 : Ref sig .tc := ⟨.hbm, 964, rfl⟩
abbrev main_v569 : Ref sig .tc := ⟨.hbm, 965, rfl⟩
abbrev main_v570 : Ref sig .tc := ⟨.hbm, 966, rfl⟩
abbrev main_c_80 : Ref sig .tc := ⟨.hbm, 967, rfl⟩
abbrev main_v571 : Ref sig .tc := ⟨.hbm, 968, rfl⟩
abbrev main_v572 : Ref sig .tc := ⟨.hbm, 969, rfl⟩
abbrev main_v573 : Ref sig .tc := ⟨.hbm, 970, rfl⟩
abbrev main_v574 : Ref sig .tc := ⟨.hbm, 971, rfl⟩
abbrev main_v575 : Ref sig .tc := ⟨.hbm, 972, rfl⟩
abbrev main_v576 : Ref sig .tc := ⟨.hbm, 973, rfl⟩
abbrev main_v577 : Ref sig .tc := ⟨.hbm, 974, rfl⟩
abbrev main_v578 : Ref sig .tc := ⟨.hbm, 975, rfl⟩
abbrev main_call32_c : Ref sig .tc := ⟨.hbm, 976, rfl⟩
abbrev main_call32_v0 : Ref sig .tc := ⟨.hbm, 977, rfl⟩
abbrev main_call32_v1 : Ref sig .tc := ⟨.hbm, 978, rfl⟩
abbrev main_call32_c_0 : Ref sig .tc := ⟨.hbm, 979, rfl⟩
abbrev main_call32_v2 : Ref sig .tc := ⟨.hbm, 980, rfl⟩
abbrev main_call32_v3 : Ref sig .tc := ⟨.hbm, 981, rfl⟩
abbrev main_call32_v4 : Ref sig .tc := ⟨.hbm, 982, rfl⟩
abbrev main_call32_v5 : Ref sig .tc := ⟨.hbm, 983, rfl⟩
abbrev main_call32_c_1 : Ref sig .tc := ⟨.hbm, 984, rfl⟩
abbrev main_call32_c_2 : Ref sig .tc := ⟨.hbm, 985, rfl⟩
abbrev main_call32_v6 : Ref sig .tc := ⟨.hbm, 986, rfl⟩
abbrev main_call32_v7 : Ref sig .tc := ⟨.hbm, 987, rfl⟩
abbrev main_call32_v8 : Ref sig .tc := ⟨.hbm, 988, rfl⟩
abbrev main_call32_v9 : Ref sig .tc := ⟨.hbm, 989, rfl⟩
abbrev main_call32_v10 : Ref sig .tc := ⟨.hbm, 990, rfl⟩
abbrev main_call32_v11 : Ref sig .tc := ⟨.hbm, 991, rfl⟩
abbrev main_call32_c_3 : Ref sig .tc := ⟨.hbm, 992, rfl⟩
abbrev main_call32_v12 : Ref sig .tc := ⟨.hbm, 993, rfl⟩
abbrev main_call32_v13 : Ref sig .tc := ⟨.hbm, 994, rfl⟩
abbrev main_call32_c_4 : Ref sig .tc := ⟨.hbm, 995, rfl⟩
abbrev main_call32_v14 : Ref sig .tc := ⟨.hbm, 996, rfl⟩
abbrev main_v579 : Ref sig .tc := ⟨.hbm, 997, rfl⟩
abbrev main_v580 : Ref sig .tc := ⟨.hbm, 998, rfl⟩
abbrev main_v581 : Ref sig .tc := ⟨.hbm, 999, rfl⟩
abbrev main_v582 : Ref sig .tc := ⟨.hbm, 1000, rfl⟩
abbrev main_v583 : Ref sig .tc := ⟨.hbm, 1001, rfl⟩
abbrev main_call33_v0 : Ref sig .tc := ⟨.hbm, 1002, rfl⟩
abbrev main_call33_v1 : Ref sig .tc := ⟨.hbm, 1003, rfl⟩
abbrev main_v584 : Ref sig .tc := ⟨.hbm, 1004, rfl⟩
abbrev main_v585 : Ref sig .tc := ⟨.hbm, 1005, rfl⟩
abbrev main_v586 : Ref sig .tc := ⟨.hbm, 1006, rfl⟩
abbrev main_call34_v0 : Ref sig .tc := ⟨.hbm, 1007, rfl⟩
abbrev main_call34_v1 : Ref sig .tc := ⟨.hbm, 1008, rfl⟩
abbrev main_v587 : Ref sig .tc := ⟨.hbm, 1009, rfl⟩
abbrev main_v588 : Ref sig .tc := ⟨.hbm, 1010, rfl⟩
abbrev main_v589 : Ref sig .tc := ⟨.hbm, 1011, rfl⟩
abbrev main_call35_v0 : Ref sig .tc := ⟨.hbm, 1012, rfl⟩
abbrev main_call35_v1 : Ref sig .tc := ⟨.hbm, 1013, rfl⟩
abbrev main_v590 : Ref sig .tc := ⟨.hbm, 1014, rfl⟩
abbrev main_v591 : Ref sig .tc := ⟨.hbm, 1015, rfl⟩
abbrev main_v592 : Ref sig .tc := ⟨.hbm, 1016, rfl⟩
abbrev main_v593 : Ref sig .tc := ⟨.hbm, 1017, rfl⟩
abbrev main_v594 : Ref sig .tc := ⟨.hbm, 1018, rfl⟩
abbrev main_v595 : Ref sig .tc := ⟨.hbm, 1019, rfl⟩
abbrev main_v596 : Ref sig .tc := ⟨.hbm, 1020, rfl⟩
abbrev main_v597 : Ref sig .tc := ⟨.hbm, 1021, rfl⟩
abbrev main_v598 : Ref sig .tc := ⟨.hbm, 1022, rfl⟩
abbrev main_v599 : Ref sig .tc := ⟨.hbm, 1023, rfl⟩
abbrev main_v600 : Ref sig .tc := ⟨.hbm, 1024, rfl⟩
abbrev main_v601 : Ref sig .tc := ⟨.hbm, 1025, rfl⟩
abbrev main_v602 : Ref sig .tc := ⟨.hbm, 1026, rfl⟩
abbrev main_v603 : Ref sig .tc := ⟨.hbm, 1027, rfl⟩
abbrev main_v604 : Ref sig .tc := ⟨.hbm, 1028, rfl⟩
abbrev main_v605 : Ref sig .tc := ⟨.hbm, 1029, rfl⟩
abbrev main_v606 : Ref sig .tc := ⟨.hbm, 1030, rfl⟩
abbrev main_v607 : Ref sig .tc := ⟨.hbm, 1031, rfl⟩
abbrev main_v608 : Ref sig .tc := ⟨.hbm, 1032, rfl⟩
abbrev main_c_81 : Ref sig .tc := ⟨.hbm, 1033, rfl⟩
abbrev main_v609 : Ref sig .tc := ⟨.hbm, 1034, rfl⟩
abbrev main_v610 : Ref sig .tc := ⟨.hbm, 1035, rfl⟩
abbrev main_c_82 : Ref sig .tc := ⟨.hbm, 1036, rfl⟩
abbrev main_v611 : Ref sig .tc := ⟨.hbm, 1037, rfl⟩
abbrev main_v612 : Ref sig .tc := ⟨.hbm, 1038, rfl⟩
abbrev main_c_83 : Ref sig .tc := ⟨.hbm, 1039, rfl⟩
abbrev main_v613 : Ref sig .tc := ⟨.hbm, 1040, rfl⟩
abbrev main_v614 : Ref sig .tc := ⟨.hbm, 1041, rfl⟩
abbrev main_c_84 : Ref sig .tc := ⟨.hbm, 1042, rfl⟩
abbrev main_v615 : Ref sig .tc := ⟨.hbm, 1043, rfl⟩
abbrev main_v616 : Ref sig .tc := ⟨.hbm, 1044, rfl⟩
abbrev main_v617 : Ref sig .tc := ⟨.hbm, 1045, rfl⟩
abbrev main_c_85 : Ref sig .tc := ⟨.hbm, 1046, rfl⟩
abbrev main_v618 : Ref sig .tc := ⟨.hbm, 1047, rfl⟩
abbrev main_v619 : Ref sig .tc := ⟨.hbm, 1048, rfl⟩
abbrev main_v620 : Ref sig .tc := ⟨.hbm, 1049, rfl⟩
abbrev main_c_86 : Ref sig .tc := ⟨.hbm, 1050, rfl⟩
abbrev main_v621 : Ref sig .tc := ⟨.hbm, 1051, rfl⟩
abbrev main_v622 : Ref sig .tc := ⟨.hbm, 1052, rfl⟩
abbrev main_v623 : Ref sig .tc := ⟨.hbm, 1053, rfl⟩
abbrev main_v624 : Ref sig .tc := ⟨.hbm, 1054, rfl⟩
abbrev main_c_87 : Ref sig .tc := ⟨.hbm, 1055, rfl⟩
abbrev main_v625 : Ref sig .tc := ⟨.hbm, 1056, rfl⟩
abbrev main_v626 : Ref sig .tc := ⟨.hbm, 1057, rfl⟩
abbrev main_c_88 : Ref sig .tc := ⟨.hbm, 1058, rfl⟩
abbrev main_v627 : Ref sig .tc := ⟨.hbm, 1059, rfl⟩
abbrev main_v628 : Ref sig .tc := ⟨.hbm, 1060, rfl⟩
abbrev main_c_89 : Ref sig .tc := ⟨.hbm, 1061, rfl⟩
abbrev main_v629 : Ref sig .tc := ⟨.hbm, 1062, rfl⟩
abbrev main_v630 : Ref sig .tc := ⟨.hbm, 1063, rfl⟩
abbrev main_c_90 : Ref sig .tc := ⟨.hbm, 1064, rfl⟩
abbrev main_v631 : Ref sig .tc := ⟨.hbm, 1065, rfl⟩
abbrev main_v632 : Ref sig .tc := ⟨.hbm, 1066, rfl⟩
abbrev main_v633 : Ref sig .tc := ⟨.hbm, 1067, rfl⟩
abbrev main_c_91 : Ref sig .tc := ⟨.hbm, 1068, rfl⟩
abbrev main_v634 : Ref sig .tc := ⟨.hbm, 1069, rfl⟩
abbrev main_v635 : Ref sig .tc := ⟨.hbm, 1070, rfl⟩
abbrev main_v636 : Ref sig .tc := ⟨.hbm, 1071, rfl⟩
abbrev main_c_92 : Ref sig .tc := ⟨.hbm, 1072, rfl⟩
abbrev main_v637 : Ref sig .tc := ⟨.hbm, 1073, rfl⟩
abbrev main_v638 : Ref sig .tc := ⟨.hbm, 1074, rfl⟩
abbrev main_v639 : Ref sig .tc := ⟨.hbm, 1075, rfl⟩
abbrev main_v640 : Ref sig .tc := ⟨.hbm, 1076, rfl⟩
abbrev main_c_93 : Ref sig .tc := ⟨.hbm, 1077, rfl⟩
abbrev main_v641 : Ref sig .tc := ⟨.hbm, 1078, rfl⟩
abbrev main_v642 : Ref sig .tc := ⟨.hbm, 1079, rfl⟩
abbrev main_c_94 : Ref sig .tc := ⟨.hbm, 1080, rfl⟩
abbrev main_v643 : Ref sig .tc := ⟨.hbm, 1081, rfl⟩
abbrev main_v644 : Ref sig .tc := ⟨.hbm, 1082, rfl⟩
abbrev main_c_95 : Ref sig .tc := ⟨.hbm, 1083, rfl⟩
abbrev main_v645 : Ref sig .tc := ⟨.hbm, 1084, rfl⟩
abbrev main_v646 : Ref sig .tc := ⟨.hbm, 1085, rfl⟩
abbrev main_c_96 : Ref sig .tc := ⟨.hbm, 1086, rfl⟩
abbrev main_v647 : Ref sig .tc := ⟨.hbm, 1087, rfl⟩
abbrev main_v648 : Ref sig .tc := ⟨.hbm, 1088, rfl⟩
abbrev main_v649 : Ref sig .tc := ⟨.hbm, 1089, rfl⟩
abbrev main_c_97 : Ref sig .tc := ⟨.hbm, 1090, rfl⟩
abbrev main_v650 : Ref sig .tc := ⟨.hbm, 1091, rfl⟩
abbrev main_v651 : Ref sig .tc := ⟨.hbm, 1092, rfl⟩
abbrev main_v652 : Ref sig .tc := ⟨.hbm, 1093, rfl⟩
abbrev main_c_98 : Ref sig .tc := ⟨.hbm, 1094, rfl⟩
abbrev main_v653 : Ref sig .tc := ⟨.hbm, 1095, rfl⟩
abbrev main_v654 : Ref sig .tc := ⟨.hbm, 1096, rfl⟩
abbrev main_v655 : Ref sig .tc := ⟨.hbm, 1097, rfl⟩
abbrev main_v656 : Ref sig .tc := ⟨.hbm, 1098, rfl⟩
abbrev main_c_99 : Ref sig .tc := ⟨.hbm, 1099, rfl⟩
abbrev main_v657 : Ref sig .tc := ⟨.hbm, 1100, rfl⟩
abbrev main_v658 : Ref sig .tc := ⟨.hbm, 1101, rfl⟩
abbrev main_c_100 : Ref sig .tc := ⟨.hbm, 1102, rfl⟩
abbrev main_v659 : Ref sig .tc := ⟨.hbm, 1103, rfl⟩
abbrev main_v660 : Ref sig .tc := ⟨.hbm, 1104, rfl⟩
abbrev main_c_101 : Ref sig .tc := ⟨.hbm, 1105, rfl⟩
abbrev main_v661 : Ref sig .tc := ⟨.hbm, 1106, rfl⟩
abbrev main_v662 : Ref sig .tc := ⟨.hbm, 1107, rfl⟩
abbrev main_c_102 : Ref sig .tc := ⟨.hbm, 1108, rfl⟩
abbrev main_v663 : Ref sig .tc := ⟨.hbm, 1109, rfl⟩
abbrev main_v664 : Ref sig .tc := ⟨.hbm, 1110, rfl⟩
abbrev main_v665 : Ref sig .tc := ⟨.hbm, 1111, rfl⟩
abbrev main_c_103 : Ref sig .tc := ⟨.hbm, 1112, rfl⟩
abbrev main_v666 : Ref sig .tc := ⟨.hbm, 1113, rfl⟩
abbrev main_v667 : Ref sig .tc := ⟨.hbm, 1114, rfl⟩
abbrev main_v668 : Ref sig .tc := ⟨.hbm, 1115, rfl⟩
abbrev main_c_104 : Ref sig .tc := ⟨.hbm, 1116, rfl⟩
abbrev main_v669 : Ref sig .tc := ⟨.hbm, 1117, rfl⟩
abbrev main_v670 : Ref sig .tc := ⟨.hbm, 1118, rfl⟩
abbrev main_v671 : Ref sig .tc := ⟨.hbm, 1119, rfl⟩
abbrev main_v672 : Ref sig .tc := ⟨.hbm, 1120, rfl⟩
abbrev main_v673 : Ref sig .tc := ⟨.hbm, 1121, rfl⟩
abbrev main_v674 : Ref sig .tc := ⟨.hbm, 1122, rfl⟩
abbrev main_v675 : Ref sig .tc := ⟨.hbm, 1123, rfl⟩
abbrev main_v676 : Ref sig .tc := ⟨.hbm, 1124, rfl⟩
abbrev main_call36_c : Ref sig .tc := ⟨.hbm, 1125, rfl⟩
abbrev main_call36_v0 : Ref sig .tc := ⟨.hbm, 1126, rfl⟩
abbrev main_call36_v1 : Ref sig .tc := ⟨.hbm, 1127, rfl⟩
abbrev main_call36_c_0 : Ref sig .tc := ⟨.hbm, 1128, rfl⟩
abbrev main_call36_v2 : Ref sig .tc := ⟨.hbm, 1129, rfl⟩
abbrev main_call36_v3 : Ref sig .tc := ⟨.hbm, 1130, rfl⟩
abbrev main_call36_v4 : Ref sig .tc := ⟨.hbm, 1131, rfl⟩
abbrev main_call36_v5 : Ref sig .tc := ⟨.hbm, 1132, rfl⟩
abbrev main_call36_c_1 : Ref sig .tc := ⟨.hbm, 1133, rfl⟩
abbrev main_call36_c_2 : Ref sig .tc := ⟨.hbm, 1134, rfl⟩
abbrev main_call36_v6 : Ref sig .tc := ⟨.hbm, 1135, rfl⟩
abbrev main_call36_v7 : Ref sig .tc := ⟨.hbm, 1136, rfl⟩
abbrev main_call36_v8 : Ref sig .tc := ⟨.hbm, 1137, rfl⟩
abbrev main_call36_v9 : Ref sig .tc := ⟨.hbm, 1138, rfl⟩
abbrev main_call36_v10 : Ref sig .tc := ⟨.hbm, 1139, rfl⟩
abbrev main_call36_v11 : Ref sig .tc := ⟨.hbm, 1140, rfl⟩
abbrev main_call36_c_3 : Ref sig .tc := ⟨.hbm, 1141, rfl⟩
abbrev main_call36_v12 : Ref sig .tc := ⟨.hbm, 1142, rfl⟩
abbrev main_call36_v13 : Ref sig .tc := ⟨.hbm, 1143, rfl⟩
abbrev main_call36_c_4 : Ref sig .tc := ⟨.hbm, 1144, rfl⟩
abbrev main_call36_v14 : Ref sig .tc := ⟨.hbm, 1145, rfl⟩
abbrev main_v677 : Ref sig .tc := ⟨.hbm, 1146, rfl⟩
abbrev main_v678 : Ref sig .tc := ⟨.hbm, 1147, rfl⟩
abbrev main_v679 : Ref sig .tc := ⟨.hbm, 1148, rfl⟩
abbrev main_v680 : Ref sig .tc := ⟨.hbm, 1149, rfl⟩
abbrev main_v681 : Ref sig .tc := ⟨.hbm, 1150, rfl⟩
abbrev main_call37_v0 : Ref sig .tc := ⟨.hbm, 1151, rfl⟩
abbrev main_call37_v1 : Ref sig .tc := ⟨.hbm, 1152, rfl⟩
abbrev main_v682 : Ref sig .tc := ⟨.hbm, 1153, rfl⟩
abbrev main_v683 : Ref sig .tc := ⟨.hbm, 1154, rfl⟩
abbrev main_v684 : Ref sig .tc := ⟨.hbm, 1155, rfl⟩
abbrev main_call38_v0 : Ref sig .tc := ⟨.hbm, 1156, rfl⟩
abbrev main_call38_v1 : Ref sig .tc := ⟨.hbm, 1157, rfl⟩
abbrev main_v685 : Ref sig .tc := ⟨.hbm, 1158, rfl⟩
abbrev main_v686 : Ref sig .tc := ⟨.hbm, 1159, rfl⟩
abbrev main_v687 : Ref sig .tc := ⟨.hbm, 1160, rfl⟩
abbrev main_call39_v0 : Ref sig .tc := ⟨.hbm, 1161, rfl⟩
abbrev main_call39_v1 : Ref sig .tc := ⟨.hbm, 1162, rfl⟩
abbrev main_v688 : Ref sig .tc := ⟨.hbm, 1163, rfl⟩
abbrev main_v689 : Ref sig .tc := ⟨.hbm, 1164, rfl⟩
abbrev main_v690 : Ref sig .tc := ⟨.hbm, 1165, rfl⟩
abbrev main_v691 : Ref sig .tc := ⟨.hbm, 1166, rfl⟩
abbrev main_v692 : Ref sig .tc := ⟨.hbm, 1167, rfl⟩
abbrev main_v693 : Ref sig .tc := ⟨.hbm, 1168, rfl⟩
abbrev main_v694 : Ref sig .tc := ⟨.hbm, 1169, rfl⟩
abbrev main_v695 : Ref sig .tc := ⟨.hbm, 1170, rfl⟩
abbrev main_v696 : Ref sig .tc := ⟨.hbm, 1171, rfl⟩
abbrev main_v697 : Ref sig .tc := ⟨.hbm, 1172, rfl⟩
abbrev main_v698 : Ref sig .tc := ⟨.hbm, 1173, rfl⟩
abbrev main_v699 : Ref sig .tc := ⟨.hbm, 1174, rfl⟩
abbrev main_v700 : Ref sig .tc := ⟨.hbm, 1175, rfl⟩
abbrev main_v701 : Ref sig .tc := ⟨.hbm, 1176, rfl⟩
abbrev main_v702 : Ref sig .tc := ⟨.hbm, 1177, rfl⟩
abbrev main_v703 : Ref sig .tc := ⟨.hbm, 1178, rfl⟩
abbrev main_v704 : Ref sig .tc := ⟨.hbm, 1179, rfl⟩
abbrev main_v705 : Ref sig .tc := ⟨.hbm, 1180, rfl⟩
abbrev main_v706 : Ref sig .tc := ⟨.hbm, 1181, rfl⟩
abbrev main_c_105 : Ref sig .tc := ⟨.hbm, 1182, rfl⟩
abbrev main_v707 : Ref sig .tc := ⟨.hbm, 1183, rfl⟩
abbrev main_v708 : Ref sig .tc := ⟨.hbm, 1184, rfl⟩
abbrev main_c_106 : Ref sig .tc := ⟨.hbm, 1185, rfl⟩
abbrev main_v709 : Ref sig .tc := ⟨.hbm, 1186, rfl⟩
abbrev main_v710 : Ref sig .tc := ⟨.hbm, 1187, rfl⟩
abbrev main_c_107 : Ref sig .tc := ⟨.hbm, 1188, rfl⟩
abbrev main_v711 : Ref sig .tc := ⟨.hbm, 1189, rfl⟩
abbrev main_v712 : Ref sig .tc := ⟨.hbm, 1190, rfl⟩
abbrev main_c_108 : Ref sig .tc := ⟨.hbm, 1191, rfl⟩
abbrev main_v713 : Ref sig .tc := ⟨.hbm, 1192, rfl⟩
abbrev main_v714 : Ref sig .tc := ⟨.hbm, 1193, rfl⟩
abbrev main_v715 : Ref sig .tc := ⟨.hbm, 1194, rfl⟩
abbrev main_c_109 : Ref sig .tc := ⟨.hbm, 1195, rfl⟩
abbrev main_v716 : Ref sig .tc := ⟨.hbm, 1196, rfl⟩
abbrev main_v717 : Ref sig .tc := ⟨.hbm, 1197, rfl⟩
abbrev main_v718 : Ref sig .tc := ⟨.hbm, 1198, rfl⟩
abbrev main_c_110 : Ref sig .tc := ⟨.hbm, 1199, rfl⟩
abbrev main_v719 : Ref sig .tc := ⟨.hbm, 1200, rfl⟩
abbrev main_v720 : Ref sig .tc := ⟨.hbm, 1201, rfl⟩
abbrev main_v721 : Ref sig .tc := ⟨.hbm, 1202, rfl⟩
abbrev main_v722 : Ref sig .tc := ⟨.hbm, 1203, rfl⟩
abbrev main_c_111 : Ref sig .tc := ⟨.hbm, 1204, rfl⟩
abbrev main_v723 : Ref sig .tc := ⟨.hbm, 1205, rfl⟩
abbrev main_v724 : Ref sig .tc := ⟨.hbm, 1206, rfl⟩
abbrev main_c_112 : Ref sig .tc := ⟨.hbm, 1207, rfl⟩
abbrev main_v725 : Ref sig .tc := ⟨.hbm, 1208, rfl⟩
abbrev main_v726 : Ref sig .tc := ⟨.hbm, 1209, rfl⟩
abbrev main_c_113 : Ref sig .tc := ⟨.hbm, 1210, rfl⟩
abbrev main_v727 : Ref sig .tc := ⟨.hbm, 1211, rfl⟩
abbrev main_v728 : Ref sig .tc := ⟨.hbm, 1212, rfl⟩
abbrev main_c_114 : Ref sig .tc := ⟨.hbm, 1213, rfl⟩
abbrev main_v729 : Ref sig .tc := ⟨.hbm, 1214, rfl⟩
abbrev main_v730 : Ref sig .tc := ⟨.hbm, 1215, rfl⟩
abbrev main_v731 : Ref sig .tc := ⟨.hbm, 1216, rfl⟩
abbrev main_c_115 : Ref sig .tc := ⟨.hbm, 1217, rfl⟩
abbrev main_v732 : Ref sig .tc := ⟨.hbm, 1218, rfl⟩
abbrev main_v733 : Ref sig .tc := ⟨.hbm, 1219, rfl⟩
abbrev main_v734 : Ref sig .tc := ⟨.hbm, 1220, rfl⟩
abbrev main_c_116 : Ref sig .tc := ⟨.hbm, 1221, rfl⟩
abbrev main_v735 : Ref sig .tc := ⟨.hbm, 1222, rfl⟩
abbrev main_v736 : Ref sig .tc := ⟨.hbm, 1223, rfl⟩
abbrev main_v737 : Ref sig .tc := ⟨.hbm, 1224, rfl⟩
abbrev main_v738 : Ref sig .tc := ⟨.hbm, 1225, rfl⟩
abbrev main_c_117 : Ref sig .tc := ⟨.hbm, 1226, rfl⟩
abbrev main_v739 : Ref sig .tc := ⟨.hbm, 1227, rfl⟩
abbrev main_v740 : Ref sig .tc := ⟨.hbm, 1228, rfl⟩
abbrev main_c_118 : Ref sig .tc := ⟨.hbm, 1229, rfl⟩
abbrev main_v741 : Ref sig .tc := ⟨.hbm, 1230, rfl⟩
abbrev main_v742 : Ref sig .tc := ⟨.hbm, 1231, rfl⟩
abbrev main_c_119 : Ref sig .tc := ⟨.hbm, 1232, rfl⟩
abbrev main_v743 : Ref sig .tc := ⟨.hbm, 1233, rfl⟩
abbrev main_v744 : Ref sig .tc := ⟨.hbm, 1234, rfl⟩
abbrev main_c_120 : Ref sig .tc := ⟨.hbm, 1235, rfl⟩
abbrev main_v745 : Ref sig .tc := ⟨.hbm, 1236, rfl⟩
abbrev main_v746 : Ref sig .tc := ⟨.hbm, 1237, rfl⟩
abbrev main_v747 : Ref sig .tc := ⟨.hbm, 1238, rfl⟩
abbrev main_c_121 : Ref sig .tc := ⟨.hbm, 1239, rfl⟩
abbrev main_v748 : Ref sig .tc := ⟨.hbm, 1240, rfl⟩
abbrev main_v749 : Ref sig .tc := ⟨.hbm, 1241, rfl⟩
abbrev main_v750 : Ref sig .tc := ⟨.hbm, 1242, rfl⟩
abbrev main_c_122 : Ref sig .tc := ⟨.hbm, 1243, rfl⟩
abbrev main_v751 : Ref sig .tc := ⟨.hbm, 1244, rfl⟩
abbrev main_v752 : Ref sig .tc := ⟨.hbm, 1245, rfl⟩
abbrev main_v753 : Ref sig .tc := ⟨.hbm, 1246, rfl⟩
abbrev main_v754 : Ref sig .tc := ⟨.hbm, 1247, rfl⟩
abbrev main_c_123 : Ref sig .tc := ⟨.hbm, 1248, rfl⟩
abbrev main_v755 : Ref sig .tc := ⟨.hbm, 1249, rfl⟩
abbrev main_v756 : Ref sig .tc := ⟨.hbm, 1250, rfl⟩
abbrev main_c_124 : Ref sig .tc := ⟨.hbm, 1251, rfl⟩
abbrev main_v757 : Ref sig .tc := ⟨.hbm, 1252, rfl⟩
abbrev main_v758 : Ref sig .tc := ⟨.hbm, 1253, rfl⟩
abbrev main_c_125 : Ref sig .tc := ⟨.hbm, 1254, rfl⟩
abbrev main_v759 : Ref sig .tc := ⟨.hbm, 1255, rfl⟩
abbrev main_v760 : Ref sig .tc := ⟨.hbm, 1256, rfl⟩
abbrev main_c_126 : Ref sig .tc := ⟨.hbm, 1257, rfl⟩
abbrev main_v761 : Ref sig .tc := ⟨.hbm, 1258, rfl⟩
abbrev main_v762 : Ref sig .tc := ⟨.hbm, 1259, rfl⟩
abbrev main_v763 : Ref sig .tc := ⟨.hbm, 1260, rfl⟩
abbrev main_c_127 : Ref sig .tc := ⟨.hbm, 1261, rfl⟩
abbrev main_v764 : Ref sig .tc := ⟨.hbm, 1262, rfl⟩
abbrev main_v765 : Ref sig .tc := ⟨.hbm, 1263, rfl⟩
abbrev main_v766 : Ref sig .tc := ⟨.hbm, 1264, rfl⟩
abbrev main_c_128 : Ref sig .tc := ⟨.hbm, 1265, rfl⟩
abbrev main_v767 : Ref sig .tc := ⟨.hbm, 1266, rfl⟩
abbrev main_v768 : Ref sig .tc := ⟨.hbm, 1267, rfl⟩
abbrev main_v769 : Ref sig .tc := ⟨.hbm, 1268, rfl⟩
abbrev main_v770 : Ref sig .tc := ⟨.hbm, 1269, rfl⟩
abbrev main_v771 : Ref sig .tc := ⟨.hbm, 1270, rfl⟩
abbrev main_v772 : Ref sig .tc := ⟨.hbm, 1271, rfl⟩
abbrev main_v773 : Ref sig .tc := ⟨.hbm, 1272, rfl⟩
abbrev main_v774 : Ref sig .tc := ⟨.hbm, 1273, rfl⟩
abbrev main_call40_c : Ref sig .tc := ⟨.hbm, 1274, rfl⟩
abbrev main_call40_v0 : Ref sig .tc := ⟨.hbm, 1275, rfl⟩
abbrev main_call40_v1 : Ref sig .tc := ⟨.hbm, 1276, rfl⟩
abbrev main_call40_c_0 : Ref sig .tc := ⟨.hbm, 1277, rfl⟩
abbrev main_call40_v2 : Ref sig .tc := ⟨.hbm, 1278, rfl⟩
abbrev main_call40_v3 : Ref sig .tc := ⟨.hbm, 1279, rfl⟩
abbrev main_call40_v4 : Ref sig .tc := ⟨.hbm, 1280, rfl⟩
abbrev main_call40_v5 : Ref sig .tc := ⟨.hbm, 1281, rfl⟩
abbrev main_call40_c_1 : Ref sig .tc := ⟨.hbm, 1282, rfl⟩
abbrev main_call40_c_2 : Ref sig .tc := ⟨.hbm, 1283, rfl⟩
abbrev main_call40_v6 : Ref sig .tc := ⟨.hbm, 1284, rfl⟩
abbrev main_call40_v7 : Ref sig .tc := ⟨.hbm, 1285, rfl⟩
abbrev main_call40_v8 : Ref sig .tc := ⟨.hbm, 1286, rfl⟩
abbrev main_call40_v9 : Ref sig .tc := ⟨.hbm, 1287, rfl⟩
abbrev main_call40_v10 : Ref sig .tc := ⟨.hbm, 1288, rfl⟩
abbrev main_call40_v11 : Ref sig .tc := ⟨.hbm, 1289, rfl⟩
abbrev main_call40_c_3 : Ref sig .tc := ⟨.hbm, 1290, rfl⟩
abbrev main_call40_v12 : Ref sig .tc := ⟨.hbm, 1291, rfl⟩
abbrev main_call40_v13 : Ref sig .tc := ⟨.hbm, 1292, rfl⟩
abbrev main_call40_c_4 : Ref sig .tc := ⟨.hbm, 1293, rfl⟩
abbrev main_call40_v14 : Ref sig .tc := ⟨.hbm, 1294, rfl⟩
abbrev main_v775 : Ref sig .tc := ⟨.hbm, 1295, rfl⟩
abbrev main_v776 : Ref sig .tc := ⟨.hbm, 1296, rfl⟩
abbrev main_v777 : Ref sig .tc := ⟨.hbm, 1297, rfl⟩
abbrev main_v778 : Ref sig .tc := ⟨.hbm, 1298, rfl⟩
abbrev main_v779 : Ref sig .tc := ⟨.hbm, 1299, rfl⟩
abbrev main_call41_v0 : Ref sig .tc := ⟨.hbm, 1300, rfl⟩
abbrev main_call41_v1 : Ref sig .tc := ⟨.hbm, 1301, rfl⟩
abbrev main_v780 : Ref sig .tc := ⟨.hbm, 1302, rfl⟩
abbrev main_v781 : Ref sig .tc := ⟨.hbm, 1303, rfl⟩
abbrev main_v782 : Ref sig .tc := ⟨.hbm, 1304, rfl⟩
abbrev main_call42_v0 : Ref sig .tc := ⟨.hbm, 1305, rfl⟩
abbrev main_call42_v1 : Ref sig .tc := ⟨.hbm, 1306, rfl⟩
abbrev main_v783 : Ref sig .tc := ⟨.hbm, 1307, rfl⟩
abbrev main_v784 : Ref sig .tc := ⟨.hbm, 1308, rfl⟩
abbrev main_v785 : Ref sig .tc := ⟨.hbm, 1309, rfl⟩
abbrev main_call43_v0 : Ref sig .tc := ⟨.hbm, 1310, rfl⟩
abbrev main_call43_v1 : Ref sig .tc := ⟨.hbm, 1311, rfl⟩
abbrev main_v786 : Ref sig .tc := ⟨.hbm, 1312, rfl⟩
abbrev main_v787 : Ref sig .tc := ⟨.hbm, 1313, rfl⟩
abbrev main_v788 : Ref sig .tc := ⟨.hbm, 1314, rfl⟩
abbrev main_v789 : Ref sig .tc := ⟨.hbm, 1315, rfl⟩
abbrev main_v790 : Ref sig .tc := ⟨.hbm, 1316, rfl⟩
abbrev main_v791 : Ref sig .tc := ⟨.hbm, 1317, rfl⟩
abbrev main_v792 : Ref sig .tc := ⟨.hbm, 1318, rfl⟩
abbrev main_v793 : Ref sig .tc := ⟨.hbm, 1319, rfl⟩
abbrev main_v794 : Ref sig .tc := ⟨.hbm, 1320, rfl⟩
abbrev main_v795 : Ref sig .tc := ⟨.hbm, 1321, rfl⟩
abbrev main_v796 : Ref sig .tc := ⟨.hbm, 1322, rfl⟩
abbrev main_v797 : Ref sig .tc := ⟨.hbm, 1323, rfl⟩
abbrev main_v798 : Ref sig .tc := ⟨.hbm, 1324, rfl⟩
abbrev main_v799 : Ref sig .tc := ⟨.hbm, 1325, rfl⟩
abbrev main_v800 : Ref sig .tc := ⟨.hbm, 1326, rfl⟩
abbrev main_v801 : Ref sig .tc := ⟨.hbm, 1327, rfl⟩
abbrev main_v802 : Ref sig .tc := ⟨.hbm, 1328, rfl⟩
abbrev main_v803 : Ref sig .tc := ⟨.hbm, 1329, rfl⟩
abbrev main_v804 : Ref sig .tc := ⟨.hbm, 1330, rfl⟩
abbrev main_c_129 : Ref sig .tc := ⟨.hbm, 1331, rfl⟩
abbrev main_v805 : Ref sig .tc := ⟨.hbm, 1332, rfl⟩
abbrev main_v806 : Ref sig .tc := ⟨.hbm, 1333, rfl⟩
abbrev main_c_130 : Ref sig .tc := ⟨.hbm, 1334, rfl⟩
abbrev main_v807 : Ref sig .tc := ⟨.hbm, 1335, rfl⟩
abbrev main_v808 : Ref sig .tc := ⟨.hbm, 1336, rfl⟩
abbrev main_c_131 : Ref sig .tc := ⟨.hbm, 1337, rfl⟩
abbrev main_v809 : Ref sig .tc := ⟨.hbm, 1338, rfl⟩
abbrev main_v810 : Ref sig .tc := ⟨.hbm, 1339, rfl⟩
abbrev main_c_132 : Ref sig .tc := ⟨.hbm, 1340, rfl⟩
abbrev main_v811 : Ref sig .tc := ⟨.hbm, 1341, rfl⟩
abbrev main_v812 : Ref sig .tc := ⟨.hbm, 1342, rfl⟩
abbrev main_v813 : Ref sig .tc := ⟨.hbm, 1343, rfl⟩
abbrev main_c_133 : Ref sig .tc := ⟨.hbm, 1344, rfl⟩
abbrev main_v814 : Ref sig .tc := ⟨.hbm, 1345, rfl⟩
abbrev main_v815 : Ref sig .tc := ⟨.hbm, 1346, rfl⟩
abbrev main_v816 : Ref sig .tc := ⟨.hbm, 1347, rfl⟩
abbrev main_c_134 : Ref sig .tc := ⟨.hbm, 1348, rfl⟩
abbrev main_v817 : Ref sig .tc := ⟨.hbm, 1349, rfl⟩
abbrev main_v818 : Ref sig .tc := ⟨.hbm, 1350, rfl⟩
abbrev main_v819 : Ref sig .tc := ⟨.hbm, 1351, rfl⟩
abbrev main_v820 : Ref sig .tc := ⟨.hbm, 1352, rfl⟩
abbrev main_c_135 : Ref sig .tc := ⟨.hbm, 1353, rfl⟩
abbrev main_v821 : Ref sig .tc := ⟨.hbm, 1354, rfl⟩
abbrev main_v822 : Ref sig .tc := ⟨.hbm, 1355, rfl⟩
abbrev main_c_136 : Ref sig .tc := ⟨.hbm, 1356, rfl⟩
abbrev main_v823 : Ref sig .tc := ⟨.hbm, 1357, rfl⟩
abbrev main_v824 : Ref sig .tc := ⟨.hbm, 1358, rfl⟩
abbrev main_c_137 : Ref sig .tc := ⟨.hbm, 1359, rfl⟩
abbrev main_v825 : Ref sig .tc := ⟨.hbm, 1360, rfl⟩
abbrev main_v826 : Ref sig .tc := ⟨.hbm, 1361, rfl⟩
abbrev main_c_138 : Ref sig .tc := ⟨.hbm, 1362, rfl⟩
abbrev main_v827 : Ref sig .tc := ⟨.hbm, 1363, rfl⟩
abbrev main_v828 : Ref sig .tc := ⟨.hbm, 1364, rfl⟩
abbrev main_v829 : Ref sig .tc := ⟨.hbm, 1365, rfl⟩
abbrev main_c_139 : Ref sig .tc := ⟨.hbm, 1366, rfl⟩
abbrev main_v830 : Ref sig .tc := ⟨.hbm, 1367, rfl⟩
abbrev main_v831 : Ref sig .tc := ⟨.hbm, 1368, rfl⟩
abbrev main_v832 : Ref sig .tc := ⟨.hbm, 1369, rfl⟩
abbrev main_c_140 : Ref sig .tc := ⟨.hbm, 1370, rfl⟩
abbrev main_v833 : Ref sig .tc := ⟨.hbm, 1371, rfl⟩
abbrev main_v834 : Ref sig .tc := ⟨.hbm, 1372, rfl⟩
abbrev main_v835 : Ref sig .tc := ⟨.hbm, 1373, rfl⟩
abbrev main_v836 : Ref sig .tc := ⟨.hbm, 1374, rfl⟩
abbrev main_c_141 : Ref sig .tc := ⟨.hbm, 1375, rfl⟩
abbrev main_v837 : Ref sig .tc := ⟨.hbm, 1376, rfl⟩
abbrev main_v838 : Ref sig .tc := ⟨.hbm, 1377, rfl⟩
abbrev main_c_142 : Ref sig .tc := ⟨.hbm, 1378, rfl⟩
abbrev main_v839 : Ref sig .tc := ⟨.hbm, 1379, rfl⟩
abbrev main_v840 : Ref sig .tc := ⟨.hbm, 1380, rfl⟩
abbrev main_c_143 : Ref sig .tc := ⟨.hbm, 1381, rfl⟩
abbrev main_v841 : Ref sig .tc := ⟨.hbm, 1382, rfl⟩
abbrev main_v842 : Ref sig .tc := ⟨.hbm, 1383, rfl⟩
abbrev main_c_144 : Ref sig .tc := ⟨.hbm, 1384, rfl⟩
abbrev main_v843 : Ref sig .tc := ⟨.hbm, 1385, rfl⟩
abbrev main_v844 : Ref sig .tc := ⟨.hbm, 1386, rfl⟩
abbrev main_v845 : Ref sig .tc := ⟨.hbm, 1387, rfl⟩
abbrev main_c_145 : Ref sig .tc := ⟨.hbm, 1388, rfl⟩
abbrev main_v846 : Ref sig .tc := ⟨.hbm, 1389, rfl⟩
abbrev main_v847 : Ref sig .tc := ⟨.hbm, 1390, rfl⟩
abbrev main_v848 : Ref sig .tc := ⟨.hbm, 1391, rfl⟩
abbrev main_c_146 : Ref sig .tc := ⟨.hbm, 1392, rfl⟩
abbrev main_v849 : Ref sig .tc := ⟨.hbm, 1393, rfl⟩
abbrev main_v850 : Ref sig .tc := ⟨.hbm, 1394, rfl⟩
abbrev main_v851 : Ref sig .tc := ⟨.hbm, 1395, rfl⟩
abbrev main_v852 : Ref sig .tc := ⟨.hbm, 1396, rfl⟩
abbrev main_c_147 : Ref sig .tc := ⟨.hbm, 1397, rfl⟩
abbrev main_v853 : Ref sig .tc := ⟨.hbm, 1398, rfl⟩
abbrev main_v854 : Ref sig .tc := ⟨.hbm, 1399, rfl⟩
abbrev main_c_148 : Ref sig .tc := ⟨.hbm, 1400, rfl⟩
abbrev main_v855 : Ref sig .tc := ⟨.hbm, 1401, rfl⟩
abbrev main_v856 : Ref sig .tc := ⟨.hbm, 1402, rfl⟩
abbrev main_c_149 : Ref sig .tc := ⟨.hbm, 1403, rfl⟩
abbrev main_v857 : Ref sig .tc := ⟨.hbm, 1404, rfl⟩
abbrev main_v858 : Ref sig .tc := ⟨.hbm, 1405, rfl⟩
abbrev main_c_150 : Ref sig .tc := ⟨.hbm, 1406, rfl⟩
abbrev main_v859 : Ref sig .tc := ⟨.hbm, 1407, rfl⟩
abbrev main_v860 : Ref sig .tc := ⟨.hbm, 1408, rfl⟩
abbrev main_v861 : Ref sig .tc := ⟨.hbm, 1409, rfl⟩
abbrev main_c_151 : Ref sig .tc := ⟨.hbm, 1410, rfl⟩
abbrev main_v862 : Ref sig .tc := ⟨.hbm, 1411, rfl⟩
abbrev main_v863 : Ref sig .tc := ⟨.hbm, 1412, rfl⟩
abbrev main_v864 : Ref sig .tc := ⟨.hbm, 1413, rfl⟩
abbrev main_c_152 : Ref sig .tc := ⟨.hbm, 1414, rfl⟩
abbrev main_v865 : Ref sig .tc := ⟨.hbm, 1415, rfl⟩
abbrev main_v866 : Ref sig .tc := ⟨.hbm, 1416, rfl⟩
abbrev main_v867 : Ref sig .tc := ⟨.hbm, 1417, rfl⟩
abbrev main_v868 : Ref sig .tc := ⟨.hbm, 1418, rfl⟩
abbrev main_v869 : Ref sig .tc := ⟨.hbm, 1419, rfl⟩
abbrev main_v870 : Ref sig .tc := ⟨.hbm, 1420, rfl⟩
abbrev main_v871 : Ref sig .tc := ⟨.hbm, 1421, rfl⟩
abbrev main_v872 : Ref sig .tc := ⟨.hbm, 1422, rfl⟩
abbrev main_call44_c : Ref sig .tc := ⟨.hbm, 1423, rfl⟩
abbrev main_call44_v0 : Ref sig .tc := ⟨.hbm, 1424, rfl⟩
abbrev main_call44_v1 : Ref sig .tc := ⟨.hbm, 1425, rfl⟩
abbrev main_call44_c_0 : Ref sig .tc := ⟨.hbm, 1426, rfl⟩
abbrev main_call44_v2 : Ref sig .tc := ⟨.hbm, 1427, rfl⟩
abbrev main_call44_v3 : Ref sig .tc := ⟨.hbm, 1428, rfl⟩
abbrev main_call44_v4 : Ref sig .tc := ⟨.hbm, 1429, rfl⟩
abbrev main_call44_v5 : Ref sig .tc := ⟨.hbm, 1430, rfl⟩
abbrev main_call44_c_1 : Ref sig .tc := ⟨.hbm, 1431, rfl⟩
abbrev main_call44_c_2 : Ref sig .tc := ⟨.hbm, 1432, rfl⟩
abbrev main_call44_v6 : Ref sig .tc := ⟨.hbm, 1433, rfl⟩
abbrev main_call44_v7 : Ref sig .tc := ⟨.hbm, 1434, rfl⟩
abbrev main_call44_v8 : Ref sig .tc := ⟨.hbm, 1435, rfl⟩
abbrev main_call44_v9 : Ref sig .tc := ⟨.hbm, 1436, rfl⟩
abbrev main_call44_v10 : Ref sig .tc := ⟨.hbm, 1437, rfl⟩
abbrev main_call44_v11 : Ref sig .tc := ⟨.hbm, 1438, rfl⟩
abbrev main_call44_c_3 : Ref sig .tc := ⟨.hbm, 1439, rfl⟩
abbrev main_call44_v12 : Ref sig .tc := ⟨.hbm, 1440, rfl⟩
abbrev main_call44_v13 : Ref sig .tc := ⟨.hbm, 1441, rfl⟩
abbrev main_call44_c_4 : Ref sig .tc := ⟨.hbm, 1442, rfl⟩
abbrev main_call44_v14 : Ref sig .tc := ⟨.hbm, 1443, rfl⟩
abbrev main_v873 : Ref sig .tc := ⟨.hbm, 1444, rfl⟩
abbrev main_v874 : Ref sig .tc := ⟨.hbm, 1445, rfl⟩
abbrev main_v875 : Ref sig .tc := ⟨.hbm, 1446, rfl⟩
abbrev main_v876 : Ref sig .tc := ⟨.hbm, 1447, rfl⟩
abbrev main_v877 : Ref sig .tc := ⟨.hbm, 1448, rfl⟩
abbrev main_call45_v0 : Ref sig .tc := ⟨.hbm, 1449, rfl⟩
abbrev main_call45_v1 : Ref sig .tc := ⟨.hbm, 1450, rfl⟩
abbrev main_v878 : Ref sig .tc := ⟨.hbm, 1451, rfl⟩
abbrev main_v879 : Ref sig .tc := ⟨.hbm, 1452, rfl⟩
abbrev main_v880 : Ref sig .tc := ⟨.hbm, 1453, rfl⟩
abbrev main_call46_v0 : Ref sig .tc := ⟨.hbm, 1454, rfl⟩
abbrev main_call46_v1 : Ref sig .tc := ⟨.hbm, 1455, rfl⟩
abbrev main_v881 : Ref sig .tc := ⟨.hbm, 1456, rfl⟩
abbrev main_v882 : Ref sig .tc := ⟨.hbm, 1457, rfl⟩
abbrev main_v883 : Ref sig .tc := ⟨.hbm, 1458, rfl⟩
abbrev main_call47_v0 : Ref sig .tc := ⟨.hbm, 1459, rfl⟩
abbrev main_call47_v1 : Ref sig .tc := ⟨.hbm, 1460, rfl⟩
abbrev main_v884 : Ref sig .tc := ⟨.hbm, 1461, rfl⟩
abbrev main_v885 : Ref sig .tc := ⟨.hbm, 1462, rfl⟩
abbrev main_v886 : Ref sig .tc := ⟨.hbm, 1463, rfl⟩
abbrev main_v887 : Ref sig .tc := ⟨.hbm, 1464, rfl⟩
abbrev main_v888 : Ref sig .tc := ⟨.hbm, 1465, rfl⟩
abbrev main_v889 : Ref sig .tc := ⟨.hbm, 1466, rfl⟩
abbrev main_v890 : Ref sig .tc := ⟨.hbm, 1467, rfl⟩
abbrev main_v891 : Ref sig .tc := ⟨.hbm, 1468, rfl⟩
abbrev main_v892 : Ref sig .tc := ⟨.hbm, 1469, rfl⟩
abbrev main_v893 : Ref sig .tc := ⟨.hbm, 1470, rfl⟩
abbrev main_v894 : Ref sig .tc := ⟨.hbm, 1471, rfl⟩
abbrev main_v895 : Ref sig .tc := ⟨.hbm, 1472, rfl⟩
abbrev main_v896 : Ref sig .tc := ⟨.hbm, 1473, rfl⟩
abbrev main_v897 : Ref sig .tc := ⟨.hbm, 1474, rfl⟩
abbrev main_v898 : Ref sig .tc := ⟨.hbm, 1475, rfl⟩
abbrev main_v899 : Ref sig .tc := ⟨.hbm, 1476, rfl⟩
abbrev main_v900 : Ref sig .tc := ⟨.hbm, 1477, rfl⟩
abbrev main_v901 : Ref sig .tc := ⟨.hbm, 1478, rfl⟩
abbrev main_v902 : Ref sig .tc := ⟨.hbm, 1479, rfl⟩
abbrev main_c_153 : Ref sig .tc := ⟨.hbm, 1480, rfl⟩
abbrev main_v903 : Ref sig .tc := ⟨.hbm, 1481, rfl⟩
abbrev main_v904 : Ref sig .tc := ⟨.hbm, 1482, rfl⟩
abbrev main_c_154 : Ref sig .tc := ⟨.hbm, 1483, rfl⟩
abbrev main_v905 : Ref sig .tc := ⟨.hbm, 1484, rfl⟩
abbrev main_v906 : Ref sig .tc := ⟨.hbm, 1485, rfl⟩
abbrev main_c_155 : Ref sig .tc := ⟨.hbm, 1486, rfl⟩
abbrev main_v907 : Ref sig .tc := ⟨.hbm, 1487, rfl⟩
abbrev main_v908 : Ref sig .tc := ⟨.hbm, 1488, rfl⟩
abbrev main_c_156 : Ref sig .tc := ⟨.hbm, 1489, rfl⟩
abbrev main_v909 : Ref sig .tc := ⟨.hbm, 1490, rfl⟩
abbrev main_v910 : Ref sig .tc := ⟨.hbm, 1491, rfl⟩
abbrev main_v911 : Ref sig .tc := ⟨.hbm, 1492, rfl⟩
abbrev main_c_157 : Ref sig .tc := ⟨.hbm, 1493, rfl⟩
abbrev main_v912 : Ref sig .tc := ⟨.hbm, 1494, rfl⟩
abbrev main_v913 : Ref sig .tc := ⟨.hbm, 1495, rfl⟩
abbrev main_v914 : Ref sig .tc := ⟨.hbm, 1496, rfl⟩
abbrev main_c_158 : Ref sig .tc := ⟨.hbm, 1497, rfl⟩
abbrev main_v915 : Ref sig .tc := ⟨.hbm, 1498, rfl⟩
abbrev main_v916 : Ref sig .tc := ⟨.hbm, 1499, rfl⟩
abbrev main_v917 : Ref sig .tc := ⟨.hbm, 1500, rfl⟩
abbrev main_v918 : Ref sig .tc := ⟨.hbm, 1501, rfl⟩
abbrev main_c_159 : Ref sig .tc := ⟨.hbm, 1502, rfl⟩
abbrev main_v919 : Ref sig .tc := ⟨.hbm, 1503, rfl⟩
abbrev main_v920 : Ref sig .tc := ⟨.hbm, 1504, rfl⟩
abbrev main_c_160 : Ref sig .tc := ⟨.hbm, 1505, rfl⟩
abbrev main_v921 : Ref sig .tc := ⟨.hbm, 1506, rfl⟩
abbrev main_v922 : Ref sig .tc := ⟨.hbm, 1507, rfl⟩
abbrev main_c_161 : Ref sig .tc := ⟨.hbm, 1508, rfl⟩
abbrev main_v923 : Ref sig .tc := ⟨.hbm, 1509, rfl⟩
abbrev main_v924 : Ref sig .tc := ⟨.hbm, 1510, rfl⟩
abbrev main_c_162 : Ref sig .tc := ⟨.hbm, 1511, rfl⟩
abbrev main_v925 : Ref sig .tc := ⟨.hbm, 1512, rfl⟩
abbrev main_v926 : Ref sig .tc := ⟨.hbm, 1513, rfl⟩
abbrev main_v927 : Ref sig .tc := ⟨.hbm, 1514, rfl⟩
abbrev main_c_163 : Ref sig .tc := ⟨.hbm, 1515, rfl⟩
abbrev main_v928 : Ref sig .tc := ⟨.hbm, 1516, rfl⟩
abbrev main_v929 : Ref sig .tc := ⟨.hbm, 1517, rfl⟩
abbrev main_v930 : Ref sig .tc := ⟨.hbm, 1518, rfl⟩
abbrev main_c_164 : Ref sig .tc := ⟨.hbm, 1519, rfl⟩
abbrev main_v931 : Ref sig .tc := ⟨.hbm, 1520, rfl⟩
abbrev main_v932 : Ref sig .tc := ⟨.hbm, 1521, rfl⟩
abbrev main_v933 : Ref sig .tc := ⟨.hbm, 1522, rfl⟩
abbrev main_v934 : Ref sig .tc := ⟨.hbm, 1523, rfl⟩
abbrev main_c_165 : Ref sig .tc := ⟨.hbm, 1524, rfl⟩
abbrev main_v935 : Ref sig .tc := ⟨.hbm, 1525, rfl⟩
abbrev main_v936 : Ref sig .tc := ⟨.hbm, 1526, rfl⟩
abbrev main_c_166 : Ref sig .tc := ⟨.hbm, 1527, rfl⟩
abbrev main_v937 : Ref sig .tc := ⟨.hbm, 1528, rfl⟩
abbrev main_v938 : Ref sig .tc := ⟨.hbm, 1529, rfl⟩
abbrev main_c_167 : Ref sig .tc := ⟨.hbm, 1530, rfl⟩
abbrev main_v939 : Ref sig .tc := ⟨.hbm, 1531, rfl⟩
abbrev main_v940 : Ref sig .tc := ⟨.hbm, 1532, rfl⟩
abbrev main_c_168 : Ref sig .tc := ⟨.hbm, 1533, rfl⟩
abbrev main_v941 : Ref sig .tc := ⟨.hbm, 1534, rfl⟩
abbrev main_v942 : Ref sig .tc := ⟨.hbm, 1535, rfl⟩
abbrev main_v943 : Ref sig .tc := ⟨.hbm, 1536, rfl⟩
abbrev main_c_169 : Ref sig .tc := ⟨.hbm, 1537, rfl⟩
abbrev main_v944 : Ref sig .tc := ⟨.hbm, 1538, rfl⟩
abbrev main_v945 : Ref sig .tc := ⟨.hbm, 1539, rfl⟩
abbrev main_v946 : Ref sig .tc := ⟨.hbm, 1540, rfl⟩
abbrev main_c_170 : Ref sig .tc := ⟨.hbm, 1541, rfl⟩
abbrev main_v947 : Ref sig .tc := ⟨.hbm, 1542, rfl⟩
abbrev main_v948 : Ref sig .tc := ⟨.hbm, 1543, rfl⟩
abbrev main_v949 : Ref sig .tc := ⟨.hbm, 1544, rfl⟩
abbrev main_v950 : Ref sig .tc := ⟨.hbm, 1545, rfl⟩
abbrev main_c_171 : Ref sig .tc := ⟨.hbm, 1546, rfl⟩
abbrev main_v951 : Ref sig .tc := ⟨.hbm, 1547, rfl⟩
abbrev main_v952 : Ref sig .tc := ⟨.hbm, 1548, rfl⟩
abbrev main_c_172 : Ref sig .tc := ⟨.hbm, 1549, rfl⟩
abbrev main_v953 : Ref sig .tc := ⟨.hbm, 1550, rfl⟩
abbrev main_v954 : Ref sig .tc := ⟨.hbm, 1551, rfl⟩
abbrev main_c_173 : Ref sig .tc := ⟨.hbm, 1552, rfl⟩
abbrev main_v955 : Ref sig .tc := ⟨.hbm, 1553, rfl⟩
abbrev main_v956 : Ref sig .tc := ⟨.hbm, 1554, rfl⟩
abbrev main_c_174 : Ref sig .tc := ⟨.hbm, 1555, rfl⟩
abbrev main_v957 : Ref sig .tc := ⟨.hbm, 1556, rfl⟩
abbrev main_v958 : Ref sig .tc := ⟨.hbm, 1557, rfl⟩
abbrev main_v959 : Ref sig .tc := ⟨.hbm, 1558, rfl⟩
abbrev main_c_175 : Ref sig .tc := ⟨.hbm, 1559, rfl⟩
abbrev main_v960 : Ref sig .tc := ⟨.hbm, 1560, rfl⟩
abbrev main_v961 : Ref sig .tc := ⟨.hbm, 1561, rfl⟩
abbrev main_v962 : Ref sig .tc := ⟨.hbm, 1562, rfl⟩
abbrev main_c_176 : Ref sig .tc := ⟨.hbm, 1563, rfl⟩
abbrev main_v963 : Ref sig .tc := ⟨.hbm, 1564, rfl⟩
abbrev main_v964 : Ref sig .tc := ⟨.hbm, 1565, rfl⟩
abbrev main_v965 : Ref sig .tc := ⟨.hbm, 1566, rfl⟩
abbrev main_v966 : Ref sig .tc := ⟨.hbm, 1567, rfl⟩
abbrev main_v967 : Ref sig .tc := ⟨.hbm, 1568, rfl⟩
abbrev main_v968 : Ref sig .tc := ⟨.hbm, 1569, rfl⟩
abbrev main_v969 : Ref sig .tc := ⟨.hbm, 1570, rfl⟩
abbrev main_v970 : Ref sig .tc := ⟨.hbm, 1571, rfl⟩
abbrev main_call48_c : Ref sig .tc := ⟨.hbm, 1572, rfl⟩
abbrev main_call48_v0 : Ref sig .tc := ⟨.hbm, 1573, rfl⟩
abbrev main_call48_v1 : Ref sig .tc := ⟨.hbm, 1574, rfl⟩
abbrev main_call48_c_0 : Ref sig .tc := ⟨.hbm, 1575, rfl⟩
abbrev main_call48_v2 : Ref sig .tc := ⟨.hbm, 1576, rfl⟩
abbrev main_call48_v3 : Ref sig .tc := ⟨.hbm, 1577, rfl⟩
abbrev main_call48_v4 : Ref sig .tc := ⟨.hbm, 1578, rfl⟩
abbrev main_call48_v5 : Ref sig .tc := ⟨.hbm, 1579, rfl⟩
abbrev main_call48_c_1 : Ref sig .tc := ⟨.hbm, 1580, rfl⟩
abbrev main_call48_c_2 : Ref sig .tc := ⟨.hbm, 1581, rfl⟩
abbrev main_call48_v6 : Ref sig .tc := ⟨.hbm, 1582, rfl⟩
abbrev main_call48_v7 : Ref sig .tc := ⟨.hbm, 1583, rfl⟩
abbrev main_call48_v8 : Ref sig .tc := ⟨.hbm, 1584, rfl⟩
abbrev main_call48_v9 : Ref sig .tc := ⟨.hbm, 1585, rfl⟩
abbrev main_call48_v10 : Ref sig .tc := ⟨.hbm, 1586, rfl⟩
abbrev main_call48_v11 : Ref sig .tc := ⟨.hbm, 1587, rfl⟩
abbrev main_call48_c_3 : Ref sig .tc := ⟨.hbm, 1588, rfl⟩
abbrev main_call48_v12 : Ref sig .tc := ⟨.hbm, 1589, rfl⟩
abbrev main_call48_v13 : Ref sig .tc := ⟨.hbm, 1590, rfl⟩
abbrev main_call48_c_4 : Ref sig .tc := ⟨.hbm, 1591, rfl⟩
abbrev main_call48_v14 : Ref sig .tc := ⟨.hbm, 1592, rfl⟩
abbrev main_v971 : Ref sig .tc := ⟨.hbm, 1593, rfl⟩
abbrev main_v972 : Ref sig .tc := ⟨.hbm, 1594, rfl⟩
abbrev main_v973 : Ref sig .tc := ⟨.hbm, 1595, rfl⟩
abbrev main_v974 : Ref sig .tc := ⟨.hbm, 1596, rfl⟩
abbrev main_v975 : Ref sig .tc := ⟨.hbm, 1597, rfl⟩
abbrev main_call49_v0 : Ref sig .tc := ⟨.hbm, 1598, rfl⟩
abbrev main_call49_v1 : Ref sig .tc := ⟨.hbm, 1599, rfl⟩
abbrev main_v976 : Ref sig .tc := ⟨.hbm, 1600, rfl⟩
abbrev main_v977 : Ref sig .tc := ⟨.hbm, 1601, rfl⟩
abbrev main_v978 : Ref sig .tc := ⟨.hbm, 1602, rfl⟩
abbrev main_call50_v0 : Ref sig .tc := ⟨.hbm, 1603, rfl⟩
abbrev main_call50_v1 : Ref sig .tc := ⟨.hbm, 1604, rfl⟩
abbrev main_v979 : Ref sig .tc := ⟨.hbm, 1605, rfl⟩
abbrev main_v980 : Ref sig .tc := ⟨.hbm, 1606, rfl⟩
abbrev main_v981 : Ref sig .tc := ⟨.hbm, 1607, rfl⟩
abbrev main_call51_v0 : Ref sig .tc := ⟨.hbm, 1608, rfl⟩
abbrev main_call51_v1 : Ref sig .tc := ⟨.hbm, 1609, rfl⟩
abbrev main_v982 : Ref sig .tc := ⟨.hbm, 1610, rfl⟩
abbrev main_v983 : Ref sig .tc := ⟨.hbm, 1611, rfl⟩
abbrev main_v984 : Ref sig .tc := ⟨.hbm, 1612, rfl⟩
abbrev main_v985 : Ref sig .tc := ⟨.hbm, 1613, rfl⟩
abbrev main_v986 : Ref sig .tc := ⟨.hbm, 1614, rfl⟩
abbrev main_v987 : Ref sig .tc := ⟨.hbm, 1615, rfl⟩
abbrev main_v988 : Ref sig .tc := ⟨.hbm, 1616, rfl⟩
abbrev main_v989 : Ref sig .tc := ⟨.hbm, 1617, rfl⟩
abbrev main_v990 : Ref sig .tc := ⟨.hbm, 1618, rfl⟩
abbrev main_v991 : Ref sig .tc := ⟨.hbm, 1619, rfl⟩
abbrev main_v992 : Ref sig .tc := ⟨.hbm, 1620, rfl⟩
abbrev main_v993 : Ref sig .tc := ⟨.hbm, 1621, rfl⟩
abbrev main_v994 : Ref sig .tc := ⟨.hbm, 1622, rfl⟩
abbrev main_v995 : Ref sig .tc := ⟨.hbm, 1623, rfl⟩
abbrev main_v996 : Ref sig .tc := ⟨.hbm, 1624, rfl⟩
abbrev main_v997 : Ref sig .tc := ⟨.hbm, 1625, rfl⟩
abbrev main_v998 : Ref sig .tc := ⟨.hbm, 1626, rfl⟩
abbrev main_v999 : Ref sig .tc := ⟨.hbm, 1627, rfl⟩
abbrev main_v1000 : Ref sig .tc := ⟨.hbm, 1628, rfl⟩
abbrev main_c_177 : Ref sig .tc := ⟨.hbm, 1629, rfl⟩
abbrev main_v1001 : Ref sig .tc := ⟨.hbm, 1630, rfl⟩
abbrev main_v1002 : Ref sig .tc := ⟨.hbm, 1631, rfl⟩
abbrev main_c_178 : Ref sig .tc := ⟨.hbm, 1632, rfl⟩
abbrev main_v1003 : Ref sig .tc := ⟨.hbm, 1633, rfl⟩
abbrev main_v1004 : Ref sig .tc := ⟨.hbm, 1634, rfl⟩
abbrev main_c_179 : Ref sig .tc := ⟨.hbm, 1635, rfl⟩
abbrev main_v1005 : Ref sig .tc := ⟨.hbm, 1636, rfl⟩
abbrev main_v1006 : Ref sig .tc := ⟨.hbm, 1637, rfl⟩
abbrev main_c_180 : Ref sig .tc := ⟨.hbm, 1638, rfl⟩
abbrev main_v1007 : Ref sig .tc := ⟨.hbm, 1639, rfl⟩
abbrev main_v1008 : Ref sig .tc := ⟨.hbm, 1640, rfl⟩
abbrev main_v1009 : Ref sig .tc := ⟨.hbm, 1641, rfl⟩
abbrev main_c_181 : Ref sig .tc := ⟨.hbm, 1642, rfl⟩
abbrev main_v1010 : Ref sig .tc := ⟨.hbm, 1643, rfl⟩
abbrev main_v1011 : Ref sig .tc := ⟨.hbm, 1644, rfl⟩
abbrev main_v1012 : Ref sig .tc := ⟨.hbm, 1645, rfl⟩
abbrev main_c_182 : Ref sig .tc := ⟨.hbm, 1646, rfl⟩
abbrev main_v1013 : Ref sig .tc := ⟨.hbm, 1647, rfl⟩
abbrev main_v1014 : Ref sig .tc := ⟨.hbm, 1648, rfl⟩
abbrev main_v1015 : Ref sig .tc := ⟨.hbm, 1649, rfl⟩
abbrev main_v1016 : Ref sig .tc := ⟨.hbm, 1650, rfl⟩
abbrev main_c_183 : Ref sig .tc := ⟨.hbm, 1651, rfl⟩
abbrev main_v1017 : Ref sig .tc := ⟨.hbm, 1652, rfl⟩
abbrev main_v1018 : Ref sig .tc := ⟨.hbm, 1653, rfl⟩
abbrev main_c_184 : Ref sig .tc := ⟨.hbm, 1654, rfl⟩
abbrev main_v1019 : Ref sig .tc := ⟨.hbm, 1655, rfl⟩
abbrev main_v1020 : Ref sig .tc := ⟨.hbm, 1656, rfl⟩
abbrev main_c_185 : Ref sig .tc := ⟨.hbm, 1657, rfl⟩
abbrev main_v1021 : Ref sig .tc := ⟨.hbm, 1658, rfl⟩
abbrev main_v1022 : Ref sig .tc := ⟨.hbm, 1659, rfl⟩
abbrev main_c_186 : Ref sig .tc := ⟨.hbm, 1660, rfl⟩
abbrev main_v1023 : Ref sig .tc := ⟨.hbm, 1661, rfl⟩
abbrev main_v1024 : Ref sig .tc := ⟨.hbm, 1662, rfl⟩
abbrev main_v1025 : Ref sig .tc := ⟨.hbm, 1663, rfl⟩
abbrev main_c_187 : Ref sig .tc := ⟨.hbm, 1664, rfl⟩
abbrev main_v1026 : Ref sig .tc := ⟨.hbm, 1665, rfl⟩
abbrev main_v1027 : Ref sig .tc := ⟨.hbm, 1666, rfl⟩
abbrev main_v1028 : Ref sig .tc := ⟨.hbm, 1667, rfl⟩
abbrev main_c_188 : Ref sig .tc := ⟨.hbm, 1668, rfl⟩
abbrev main_v1029 : Ref sig .tc := ⟨.hbm, 1669, rfl⟩
abbrev main_v1030 : Ref sig .tc := ⟨.hbm, 1670, rfl⟩
abbrev main_v1031 : Ref sig .tc := ⟨.hbm, 1671, rfl⟩
abbrev main_v1032 : Ref sig .tc := ⟨.hbm, 1672, rfl⟩
abbrev main_c_189 : Ref sig .tc := ⟨.hbm, 1673, rfl⟩
abbrev main_v1033 : Ref sig .tc := ⟨.hbm, 1674, rfl⟩
abbrev main_v1034 : Ref sig .tc := ⟨.hbm, 1675, rfl⟩
abbrev main_c_190 : Ref sig .tc := ⟨.hbm, 1676, rfl⟩
abbrev main_v1035 : Ref sig .tc := ⟨.hbm, 1677, rfl⟩
abbrev main_v1036 : Ref sig .tc := ⟨.hbm, 1678, rfl⟩
abbrev main_c_191 : Ref sig .tc := ⟨.hbm, 1679, rfl⟩
abbrev main_v1037 : Ref sig .tc := ⟨.hbm, 1680, rfl⟩
abbrev main_v1038 : Ref sig .tc := ⟨.hbm, 1681, rfl⟩
abbrev main_c_192 : Ref sig .tc := ⟨.hbm, 1682, rfl⟩
abbrev main_v1039 : Ref sig .tc := ⟨.hbm, 1683, rfl⟩
abbrev main_v1040 : Ref sig .tc := ⟨.hbm, 1684, rfl⟩
abbrev main_v1041 : Ref sig .tc := ⟨.hbm, 1685, rfl⟩
abbrev main_c_193 : Ref sig .tc := ⟨.hbm, 1686, rfl⟩
abbrev main_v1042 : Ref sig .tc := ⟨.hbm, 1687, rfl⟩
abbrev main_v1043 : Ref sig .tc := ⟨.hbm, 1688, rfl⟩
abbrev main_v1044 : Ref sig .tc := ⟨.hbm, 1689, rfl⟩
abbrev main_c_194 : Ref sig .tc := ⟨.hbm, 1690, rfl⟩
abbrev main_v1045 : Ref sig .tc := ⟨.hbm, 1691, rfl⟩
abbrev main_v1046 : Ref sig .tc := ⟨.hbm, 1692, rfl⟩
abbrev main_v1047 : Ref sig .tc := ⟨.hbm, 1693, rfl⟩
abbrev main_v1048 : Ref sig .tc := ⟨.hbm, 1694, rfl⟩
abbrev main_c_195 : Ref sig .tc := ⟨.hbm, 1695, rfl⟩
abbrev main_v1049 : Ref sig .tc := ⟨.hbm, 1696, rfl⟩
abbrev main_v1050 : Ref sig .tc := ⟨.hbm, 1697, rfl⟩
abbrev main_c_196 : Ref sig .tc := ⟨.hbm, 1698, rfl⟩
abbrev main_v1051 : Ref sig .tc := ⟨.hbm, 1699, rfl⟩
abbrev main_v1052 : Ref sig .tc := ⟨.hbm, 1700, rfl⟩
abbrev main_c_197 : Ref sig .tc := ⟨.hbm, 1701, rfl⟩
abbrev main_v1053 : Ref sig .tc := ⟨.hbm, 1702, rfl⟩
abbrev main_v1054 : Ref sig .tc := ⟨.hbm, 1703, rfl⟩
abbrev main_c_198 : Ref sig .tc := ⟨.hbm, 1704, rfl⟩
abbrev main_v1055 : Ref sig .tc := ⟨.hbm, 1705, rfl⟩
abbrev main_v1056 : Ref sig .tc := ⟨.hbm, 1706, rfl⟩
abbrev main_v1057 : Ref sig .tc := ⟨.hbm, 1707, rfl⟩
abbrev main_c_199 : Ref sig .tc := ⟨.hbm, 1708, rfl⟩
abbrev main_v1058 : Ref sig .tc := ⟨.hbm, 1709, rfl⟩
abbrev main_v1059 : Ref sig .tc := ⟨.hbm, 1710, rfl⟩
abbrev main_v1060 : Ref sig .tc := ⟨.hbm, 1711, rfl⟩
abbrev main_c_200 : Ref sig .tc := ⟨.hbm, 1712, rfl⟩
abbrev main_v1061 : Ref sig .tc := ⟨.hbm, 1713, rfl⟩
abbrev main_v1062 : Ref sig .tc := ⟨.hbm, 1714, rfl⟩
abbrev main_v1063 : Ref sig .tc := ⟨.hbm, 1715, rfl⟩
abbrev main_v1064 : Ref sig .tc := ⟨.hbm, 1716, rfl⟩
abbrev main_v1065 : Ref sig .tc := ⟨.hbm, 1717, rfl⟩
abbrev main_v1066 : Ref sig .tc := ⟨.hbm, 1718, rfl⟩
abbrev main_v1067 : Ref sig .tc := ⟨.hbm, 1719, rfl⟩
abbrev main_v1068 : Ref sig .tc := ⟨.hbm, 1720, rfl⟩
abbrev main_call52_c : Ref sig .tc := ⟨.hbm, 1721, rfl⟩
abbrev main_call52_v0 : Ref sig .tc := ⟨.hbm, 1722, rfl⟩
abbrev main_call52_v1 : Ref sig .tc := ⟨.hbm, 1723, rfl⟩
abbrev main_call52_c_0 : Ref sig .tc := ⟨.hbm, 1724, rfl⟩
abbrev main_call52_v2 : Ref sig .tc := ⟨.hbm, 1725, rfl⟩
abbrev main_call52_v3 : Ref sig .tc := ⟨.hbm, 1726, rfl⟩
abbrev main_call52_v4 : Ref sig .tc := ⟨.hbm, 1727, rfl⟩
abbrev main_call52_v5 : Ref sig .tc := ⟨.hbm, 1728, rfl⟩
abbrev main_call52_c_1 : Ref sig .tc := ⟨.hbm, 1729, rfl⟩
abbrev main_call52_c_2 : Ref sig .tc := ⟨.hbm, 1730, rfl⟩
abbrev main_call52_v6 : Ref sig .tc := ⟨.hbm, 1731, rfl⟩
abbrev main_call52_v7 : Ref sig .tc := ⟨.hbm, 1732, rfl⟩
abbrev main_call52_v8 : Ref sig .tc := ⟨.hbm, 1733, rfl⟩
abbrev main_call52_v9 : Ref sig .tc := ⟨.hbm, 1734, rfl⟩
abbrev main_call52_v10 : Ref sig .tc := ⟨.hbm, 1735, rfl⟩
abbrev main_call52_v11 : Ref sig .tc := ⟨.hbm, 1736, rfl⟩
abbrev main_call52_c_3 : Ref sig .tc := ⟨.hbm, 1737, rfl⟩
abbrev main_call52_v12 : Ref sig .tc := ⟨.hbm, 1738, rfl⟩
abbrev main_call52_v13 : Ref sig .tc := ⟨.hbm, 1739, rfl⟩
abbrev main_call52_c_4 : Ref sig .tc := ⟨.hbm, 1740, rfl⟩
abbrev main_call52_v14 : Ref sig .tc := ⟨.hbm, 1741, rfl⟩
abbrev main_v1069 : Ref sig .tc := ⟨.hbm, 1742, rfl⟩
abbrev main_v1070 : Ref sig .tc := ⟨.hbm, 1743, rfl⟩
abbrev main_v1071 : Ref sig .tc := ⟨.hbm, 1744, rfl⟩
abbrev main_v1072 : Ref sig .tc := ⟨.hbm, 1745, rfl⟩
abbrev main_v1073 : Ref sig .tc := ⟨.hbm, 1746, rfl⟩
abbrev main_call53_v0 : Ref sig .tc := ⟨.hbm, 1747, rfl⟩
abbrev main_call53_v1 : Ref sig .tc := ⟨.hbm, 1748, rfl⟩
abbrev main_v1074 : Ref sig .tc := ⟨.hbm, 1749, rfl⟩
abbrev main_v1075 : Ref sig .tc := ⟨.hbm, 1750, rfl⟩
abbrev main_v1076 : Ref sig .tc := ⟨.hbm, 1751, rfl⟩
abbrev main_call54_v0 : Ref sig .tc := ⟨.hbm, 1752, rfl⟩
abbrev main_call54_v1 : Ref sig .tc := ⟨.hbm, 1753, rfl⟩
abbrev main_v1077 : Ref sig .tc := ⟨.hbm, 1754, rfl⟩
abbrev main_v1078 : Ref sig .tc := ⟨.hbm, 1755, rfl⟩
abbrev main_v1079 : Ref sig .tc := ⟨.hbm, 1756, rfl⟩
abbrev main_call55_v0 : Ref sig .tc := ⟨.hbm, 1757, rfl⟩
abbrev main_call55_v1 : Ref sig .tc := ⟨.hbm, 1758, rfl⟩
abbrev main_v1080 : Ref sig .tc := ⟨.hbm, 1759, rfl⟩
abbrev main_v1081 : Ref sig .tc := ⟨.hbm, 1760, rfl⟩
abbrev main_v1082 : Ref sig .tc := ⟨.hbm, 1761, rfl⟩
abbrev main_v1083 : Ref sig .tc := ⟨.hbm, 1762, rfl⟩
abbrev main_v1084 : Ref sig .tc := ⟨.hbm, 1763, rfl⟩
abbrev main_v1085 : Ref sig .tc := ⟨.hbm, 1764, rfl⟩
abbrev main_v1086 : Ref sig .tc := ⟨.hbm, 1765, rfl⟩
abbrev main_v1087 : Ref sig .tc := ⟨.hbm, 1766, rfl⟩
abbrev main_v1088 : Ref sig .tc := ⟨.hbm, 1767, rfl⟩
abbrev main_v1089 : Ref sig .tc := ⟨.hbm, 1768, rfl⟩
abbrev main_v1090 : Ref sig .tc := ⟨.hbm, 1769, rfl⟩
abbrev main_v1091 : Ref sig .tc := ⟨.hbm, 1770, rfl⟩
abbrev main_v1092 : Ref sig .tc := ⟨.hbm, 1771, rfl⟩
abbrev main_v1093 : Ref sig .tc := ⟨.hbm, 1772, rfl⟩
abbrev main_v1094 : Ref sig .tc := ⟨.hbm, 1773, rfl⟩
abbrev main_v1095 : Ref sig .tc := ⟨.hbm, 1774, rfl⟩
abbrev main_v1096 : Ref sig .tc := ⟨.hbm, 1775, rfl⟩
abbrev main_v1097 : Ref sig .tc := ⟨.hbm, 1776, rfl⟩
abbrev main_v1098 : Ref sig .tc := ⟨.hbm, 1777, rfl⟩
abbrev main_c_201 : Ref sig .tc := ⟨.hbm, 1778, rfl⟩
abbrev main_v1099 : Ref sig .tc := ⟨.hbm, 1779, rfl⟩
abbrev main_v1100 : Ref sig .tc := ⟨.hbm, 1780, rfl⟩
abbrev main_c_202 : Ref sig .tc := ⟨.hbm, 1781, rfl⟩
abbrev main_v1101 : Ref sig .tc := ⟨.hbm, 1782, rfl⟩
abbrev main_v1102 : Ref sig .tc := ⟨.hbm, 1783, rfl⟩
abbrev main_c_203 : Ref sig .tc := ⟨.hbm, 1784, rfl⟩
abbrev main_v1103 : Ref sig .tc := ⟨.hbm, 1785, rfl⟩
abbrev main_v1104 : Ref sig .tc := ⟨.hbm, 1786, rfl⟩
abbrev main_c_204 : Ref sig .tc := ⟨.hbm, 1787, rfl⟩
abbrev main_v1105 : Ref sig .tc := ⟨.hbm, 1788, rfl⟩
abbrev main_v1106 : Ref sig .tc := ⟨.hbm, 1789, rfl⟩
abbrev main_v1107 : Ref sig .tc := ⟨.hbm, 1790, rfl⟩
abbrev main_c_205 : Ref sig .tc := ⟨.hbm, 1791, rfl⟩
abbrev main_v1108 : Ref sig .tc := ⟨.hbm, 1792, rfl⟩
abbrev main_v1109 : Ref sig .tc := ⟨.hbm, 1793, rfl⟩
abbrev main_v1110 : Ref sig .tc := ⟨.hbm, 1794, rfl⟩
abbrev main_c_206 : Ref sig .tc := ⟨.hbm, 1795, rfl⟩
abbrev main_v1111 : Ref sig .tc := ⟨.hbm, 1796, rfl⟩
abbrev main_v1112 : Ref sig .tc := ⟨.hbm, 1797, rfl⟩
abbrev main_v1113 : Ref sig .tc := ⟨.hbm, 1798, rfl⟩
abbrev main_v1114 : Ref sig .tc := ⟨.hbm, 1799, rfl⟩
abbrev main_c_207 : Ref sig .tc := ⟨.hbm, 1800, rfl⟩
abbrev main_v1115 : Ref sig .tc := ⟨.hbm, 1801, rfl⟩
abbrev main_v1116 : Ref sig .tc := ⟨.hbm, 1802, rfl⟩
abbrev main_c_208 : Ref sig .tc := ⟨.hbm, 1803, rfl⟩
abbrev main_v1117 : Ref sig .tc := ⟨.hbm, 1804, rfl⟩
abbrev main_v1118 : Ref sig .tc := ⟨.hbm, 1805, rfl⟩
abbrev main_c_209 : Ref sig .tc := ⟨.hbm, 1806, rfl⟩
abbrev main_v1119 : Ref sig .tc := ⟨.hbm, 1807, rfl⟩
abbrev main_v1120 : Ref sig .tc := ⟨.hbm, 1808, rfl⟩
abbrev main_c_210 : Ref sig .tc := ⟨.hbm, 1809, rfl⟩
abbrev main_v1121 : Ref sig .tc := ⟨.hbm, 1810, rfl⟩
abbrev main_v1122 : Ref sig .tc := ⟨.hbm, 1811, rfl⟩
abbrev main_v1123 : Ref sig .tc := ⟨.hbm, 1812, rfl⟩
abbrev main_c_211 : Ref sig .tc := ⟨.hbm, 1813, rfl⟩
abbrev main_v1124 : Ref sig .tc := ⟨.hbm, 1814, rfl⟩
abbrev main_v1125 : Ref sig .tc := ⟨.hbm, 1815, rfl⟩
abbrev main_v1126 : Ref sig .tc := ⟨.hbm, 1816, rfl⟩
abbrev main_c_212 : Ref sig .tc := ⟨.hbm, 1817, rfl⟩
abbrev main_v1127 : Ref sig .tc := ⟨.hbm, 1818, rfl⟩
abbrev main_v1128 : Ref sig .tc := ⟨.hbm, 1819, rfl⟩
abbrev main_v1129 : Ref sig .tc := ⟨.hbm, 1820, rfl⟩
abbrev main_v1130 : Ref sig .tc := ⟨.hbm, 1821, rfl⟩
abbrev main_c_213 : Ref sig .tc := ⟨.hbm, 1822, rfl⟩
abbrev main_v1131 : Ref sig .tc := ⟨.hbm, 1823, rfl⟩
abbrev main_v1132 : Ref sig .tc := ⟨.hbm, 1824, rfl⟩
abbrev main_c_214 : Ref sig .tc := ⟨.hbm, 1825, rfl⟩
abbrev main_v1133 : Ref sig .tc := ⟨.hbm, 1826, rfl⟩
abbrev main_v1134 : Ref sig .tc := ⟨.hbm, 1827, rfl⟩
abbrev main_c_215 : Ref sig .tc := ⟨.hbm, 1828, rfl⟩
abbrev main_v1135 : Ref sig .tc := ⟨.hbm, 1829, rfl⟩
abbrev main_v1136 : Ref sig .tc := ⟨.hbm, 1830, rfl⟩
abbrev main_c_216 : Ref sig .tc := ⟨.hbm, 1831, rfl⟩
abbrev main_v1137 : Ref sig .tc := ⟨.hbm, 1832, rfl⟩
abbrev main_v1138 : Ref sig .tc := ⟨.hbm, 1833, rfl⟩
abbrev main_v1139 : Ref sig .tc := ⟨.hbm, 1834, rfl⟩
abbrev main_c_217 : Ref sig .tc := ⟨.hbm, 1835, rfl⟩
abbrev main_v1140 : Ref sig .tc := ⟨.hbm, 1836, rfl⟩
abbrev main_v1141 : Ref sig .tc := ⟨.hbm, 1837, rfl⟩
abbrev main_v1142 : Ref sig .tc := ⟨.hbm, 1838, rfl⟩
abbrev main_c_218 : Ref sig .tc := ⟨.hbm, 1839, rfl⟩
abbrev main_v1143 : Ref sig .tc := ⟨.hbm, 1840, rfl⟩
abbrev main_v1144 : Ref sig .tc := ⟨.hbm, 1841, rfl⟩
abbrev main_v1145 : Ref sig .tc := ⟨.hbm, 1842, rfl⟩
abbrev main_v1146 : Ref sig .tc := ⟨.hbm, 1843, rfl⟩
abbrev main_c_219 : Ref sig .tc := ⟨.hbm, 1844, rfl⟩
abbrev main_v1147 : Ref sig .tc := ⟨.hbm, 1845, rfl⟩
abbrev main_v1148 : Ref sig .tc := ⟨.hbm, 1846, rfl⟩
abbrev main_c_220 : Ref sig .tc := ⟨.hbm, 1847, rfl⟩
abbrev main_v1149 : Ref sig .tc := ⟨.hbm, 1848, rfl⟩
abbrev main_v1150 : Ref sig .tc := ⟨.hbm, 1849, rfl⟩
abbrev main_c_221 : Ref sig .tc := ⟨.hbm, 1850, rfl⟩
abbrev main_v1151 : Ref sig .tc := ⟨.hbm, 1851, rfl⟩
abbrev main_v1152 : Ref sig .tc := ⟨.hbm, 1852, rfl⟩
abbrev main_c_222 : Ref sig .tc := ⟨.hbm, 1853, rfl⟩
abbrev main_v1153 : Ref sig .tc := ⟨.hbm, 1854, rfl⟩
abbrev main_v1154 : Ref sig .tc := ⟨.hbm, 1855, rfl⟩
abbrev main_v1155 : Ref sig .tc := ⟨.hbm, 1856, rfl⟩
abbrev main_c_223 : Ref sig .tc := ⟨.hbm, 1857, rfl⟩
abbrev main_v1156 : Ref sig .tc := ⟨.hbm, 1858, rfl⟩
abbrev main_v1157 : Ref sig .tc := ⟨.hbm, 1859, rfl⟩
abbrev main_v1158 : Ref sig .tc := ⟨.hbm, 1860, rfl⟩
abbrev main_c_224 : Ref sig .tc := ⟨.hbm, 1861, rfl⟩
abbrev main_v1159 : Ref sig .tc := ⟨.hbm, 1862, rfl⟩
abbrev main_v1160 : Ref sig .tc := ⟨.hbm, 1863, rfl⟩
abbrev main_v1161 : Ref sig .tc := ⟨.hbm, 1864, rfl⟩
abbrev main_v1162 : Ref sig .tc := ⟨.hbm, 1865, rfl⟩
abbrev main_v1163 : Ref sig .tc := ⟨.hbm, 1866, rfl⟩
abbrev main_v1164 : Ref sig .tc := ⟨.hbm, 1867, rfl⟩
abbrev main_v1165 : Ref sig .tc := ⟨.hbm, 1868, rfl⟩
abbrev main_v1166 : Ref sig .tc := ⟨.hbm, 1869, rfl⟩
abbrev main_call56_c : Ref sig .tc := ⟨.hbm, 1870, rfl⟩
abbrev main_call56_v0 : Ref sig .tc := ⟨.hbm, 1871, rfl⟩
abbrev main_call56_v1 : Ref sig .tc := ⟨.hbm, 1872, rfl⟩
abbrev main_call56_c_0 : Ref sig .tc := ⟨.hbm, 1873, rfl⟩
abbrev main_call56_v2 : Ref sig .tc := ⟨.hbm, 1874, rfl⟩
abbrev main_call56_v3 : Ref sig .tc := ⟨.hbm, 1875, rfl⟩
abbrev main_call56_v4 : Ref sig .tc := ⟨.hbm, 1876, rfl⟩
abbrev main_call56_v5 : Ref sig .tc := ⟨.hbm, 1877, rfl⟩
abbrev main_call56_c_1 : Ref sig .tc := ⟨.hbm, 1878, rfl⟩
abbrev main_call56_c_2 : Ref sig .tc := ⟨.hbm, 1879, rfl⟩
abbrev main_call56_v6 : Ref sig .tc := ⟨.hbm, 1880, rfl⟩
abbrev main_call56_v7 : Ref sig .tc := ⟨.hbm, 1881, rfl⟩
abbrev main_call56_v8 : Ref sig .tc := ⟨.hbm, 1882, rfl⟩
abbrev main_call56_v9 : Ref sig .tc := ⟨.hbm, 1883, rfl⟩
abbrev main_call56_v10 : Ref sig .tc := ⟨.hbm, 1884, rfl⟩
abbrev main_call56_v11 : Ref sig .tc := ⟨.hbm, 1885, rfl⟩
abbrev main_call56_c_3 : Ref sig .tc := ⟨.hbm, 1886, rfl⟩
abbrev main_call56_v12 : Ref sig .tc := ⟨.hbm, 1887, rfl⟩
abbrev main_call56_v13 : Ref sig .tc := ⟨.hbm, 1888, rfl⟩
abbrev main_call56_c_4 : Ref sig .tc := ⟨.hbm, 1889, rfl⟩
abbrev main_call56_v14 : Ref sig .tc := ⟨.hbm, 1890, rfl⟩
abbrev main_v1167 : Ref sig .tc := ⟨.hbm, 1891, rfl⟩
abbrev main_v1168 : Ref sig .tc := ⟨.hbm, 1892, rfl⟩
abbrev main_v1169 : Ref sig .tc := ⟨.hbm, 1893, rfl⟩
abbrev main_v1170 : Ref sig .tc := ⟨.hbm, 1894, rfl⟩
abbrev main_v1171 : Ref sig .tc := ⟨.hbm, 1895, rfl⟩
abbrev main_call57_v0 : Ref sig .tc := ⟨.hbm, 1896, rfl⟩
abbrev main_call57_v1 : Ref sig .tc := ⟨.hbm, 1897, rfl⟩
abbrev main_v1172 : Ref sig .tc := ⟨.hbm, 1898, rfl⟩
abbrev main_v1173 : Ref sig .tc := ⟨.hbm, 1899, rfl⟩
abbrev main_v1174 : Ref sig .tc := ⟨.hbm, 1900, rfl⟩
abbrev main_call58_v0 : Ref sig .tc := ⟨.hbm, 1901, rfl⟩
abbrev main_call58_v1 : Ref sig .tc := ⟨.hbm, 1902, rfl⟩
abbrev main_v1175 : Ref sig .tc := ⟨.hbm, 1903, rfl⟩
abbrev main_v1176 : Ref sig .tc := ⟨.hbm, 1904, rfl⟩
abbrev main_v1177 : Ref sig .tc := ⟨.hbm, 1905, rfl⟩
abbrev main_call59_v0 : Ref sig .tc := ⟨.hbm, 1906, rfl⟩
abbrev main_call59_v1 : Ref sig .tc := ⟨.hbm, 1907, rfl⟩
abbrev main_v1178 : Ref sig .tc := ⟨.hbm, 1908, rfl⟩
abbrev main_v1179 : Ref sig .tc := ⟨.hbm, 1909, rfl⟩
abbrev main_v1180 : Ref sig .tc := ⟨.hbm, 1910, rfl⟩
abbrev main_v1181 : Ref sig .tc := ⟨.hbm, 1911, rfl⟩
abbrev main_v1182 : Ref sig .tc := ⟨.hbm, 1912, rfl⟩
abbrev main_v1183 : Ref sig .tc := ⟨.hbm, 1913, rfl⟩
abbrev main_v1184 : Ref sig .tc := ⟨.hbm, 1914, rfl⟩
abbrev main_v1185 : Ref sig .tc := ⟨.hbm, 1915, rfl⟩
abbrev main_v1186 : Ref sig .tc := ⟨.hbm, 1916, rfl⟩

abbrev nD : Nat := 1
abbrev τ : Topo := Topo.v7x

variable {F : FTy → Type} [FloatOps F]
-- ==== Proof.Spec.lean ====
/-
  AES-128 of one block on 32-bit words, each holding a byte: the key schedule, the rounds and the result, as plain
  functions of the table, the round constants, the key and the block. Bytes stay bytes throughout.
-/
module

public import Mathlib.Data.Fintype.Basic
public import Mathlib.Tactic.FinCases
public import Mathlib.Data.Fin.VecNotation

@[expose] public section

namespace Cert.Proof.Aes

/-- A machine word; every word here holds a byte. -/
abbrev W : Type := BitVec 32
/-- Sixteen words: a block (column after column) or a round key. -/
abbrev Block : Type := Fin 16 → W

/-- The word is a byte. -/
def IsByte (x : W) : Prop := x.toNat < 256
/-- Every word of the block is a byte. -/
def Bytes (s : Block) : Prop := ∀ i, IsByte (s i)

/-- The product by two in the field of bytes. -/
def dbl (x : W) : W := ((x <<< 1) ^^^ ((x.sshiftRight 7 &&& 1#32) * 27#32)) &&& 255#32

/-- Where the row shift reads position `i` from. -/
def perm (i : Fin 16) : Fin 16 := ⟨(i.val + 4 * (i.val % 4)) % 16, Nat.mod_lt _ (by decide)⟩

/-- Substitution and row shift. -/
def sub (T : W → W) (s : Block) : Block := fun i => T (s (perm i))

/-- One word of a mixed column, from the column's words: the word itself, its successor, the column's sum. -/
def mixWord (a b t : W) : W := (a ^^^ t) ^^^ dbl (a ^^^ b)

/-- Position `r` of the column `i` lies in. -/
def inCol (i : Fin 16) (r : Nat) : Fin 16 := ⟨i.val / 4 * 4 + r % 4, by omega⟩

/-- The sum of the column `i` lies in. -/
def colSum (b : Block) (i : Fin 16) : W := ((b (inCol i 0) ^^^ b (inCol i 1)) ^^^ b (inCol i 2)) ^^^ b (inCol i 3)

/-- The mixed columns. -/
def mix (b : Block) : Block := fun i => mixWord (b i) (b (inCol i (i.val + 1))) (colSum b i)

/-- The column fed into a round key's first one: the last column, turned and substituted, the constant on its head. -/
def turned (T : W → W) (c : W) (k : Block) : Fin 4 → W := ![T (k 13) ^^^ c, T (k 14), T (k 15), T (k 12)]

/-- Column `j` of the next round key. -/
def keyCol (T : W → W) (c : W) (k : Block) : Nat → Fin 4 → W
  | 0, r => k ⟨r.val, by omega⟩ ^^^ turned T c k r
  | j + 1, r => keyCol T c k j r ^^^ k ⟨(4 * (j + 1) + r.val) % 16, by omega⟩

/-- The next round key. -/
def nextKey (T : W → W) (c : W) (k : Block) : Block := fun i => keyCol T c k (i.val / 4) ⟨i.val % 4, by omega⟩

/-- One full round under round key `k`. -/
def round (T : W → W) (k s : Block) : Block := fun i => mix (sub T s) i ^^^ k i

/-- Round key `n`. -/
def rkAt (T : W → W) (rc : Nat → W) (key : Block) : Nat → Block
  | 0 => key
  | n + 1 => nextKey T (rc n) (rkAt T rc key n)

/-- The state after `n` full rounds. -/
def stAt (T : W → W) (rc : Nat → W) (key pt : Block) : Nat → Block
  | 0 => fun i => pt i ^^^ key i
  | n + 1 => round T (rkAt T rc key (n + 1)) (stAt T rc key pt n)

/-- The encrypted block: nine full rounds, then one without the mixing. -/
def aes (T : W → W) (rc : Nat → W) (key pt : Block) : Block :=
  fun i => sub T (stAt T rc key pt 9) i ^^^ rkAt T rc key 10 i

/-! ## Bytes stay bytes -/

/-- The sum of two bytes is a byte. -/
theorem IsByte.xor {x y : W} (hx : IsByte x) (hy : IsByte y) : IsByte (x ^^^ y) := by
  unfold IsByte at *
  rw [BitVec.toNat_xor]
  exact Nat.xor_lt_two_pow (n := 8) hx hy

/-- A word masked to its low eight bits is a byte. -/
theorem IsByte.mask (x : W) : IsByte (x &&& 255#32) := by
  unfold IsByte
  rw [BitVec.toNat_and]
  exact lt_of_le_of_lt Nat.and_le_right (by decide)

/-- Masking a byte changes nothing. -/
theorem IsByte.mask_eq {x : W} (hx : IsByte x) : x &&& 255#32 = x := by
  apply BitVec.eq_of_toNat_eq
  rw [BitVec.toNat_and]
  exact (Nat.and_two_pow_sub_one_eq_mod x.toNat 8).trans (Nat.mod_eq_of_lt hx)

/-- A doubled word is a byte. -/
theorem IsByte.dbl (x : W) : IsByte (dbl x) := IsByte.mask _

section
variable {T : W → W} {rc : Nat → W} (hT : ∀ w, IsByte (T w))
include hT

/-- Substituted words are bytes. -/
theorem Bytes.sub (s : Block) : Bytes (sub T s) := fun _ => hT _

omit hT in
/-- A mixed column's words are bytes. -/
theorem Bytes.mix {b : Block} (hb : Bytes b) : Bytes (mix b) := fun i =>
  ((hb i).xor ((((hb _).xor (hb _)).xor (hb _)).xor (hb _))).xor (IsByte.dbl _)

/-- The turned column's words are bytes. -/
theorem turned_byte {c : W} (hc : IsByte c) (k : Block) (r : Fin 4) : IsByte (turned T c k r) := by
  fin_cases r
  · exact (hT _).xor hc
  · exact hT _
  · exact hT _
  · exact hT _

/-- A round key's columns are bytes. -/
theorem keyCol_byte {c : W} (hc : IsByte c) {k : Block} (hk : Bytes k) (j : Nat) (r : Fin 4) : IsByte (keyCol T c k j r) := by
  induction j with
  | zero => exact (hk _).xor (turned_byte hT hc k r)
  | succ j ih => exact ih.xor (hk _)

/-- Round keys are bytes. -/
theorem rkAt_bytes (hrc : ∀ n, IsByte (rc n)) {key : Block} (hk : Bytes key) (n : Nat) : Bytes (rkAt T rc key n) := by
  induction n with
  | zero => exact hk
  | succ n ih => exact fun _ => keyCol_byte hT (hrc n) ih _ _

/-- States are bytes. -/
theorem stAt_bytes (hrc : ∀ n, IsByte (rc n)) {key pt : Block} (hk : Bytes key) (hp : Bytes pt) (n : Nat) :
    Bytes (stAt T rc key pt n) := by
  cases n with
  | zero => exact fun i => (hp i).xor (hk i)
  | succ n => exact fun i => (Bytes.mix (Bytes.sub hT _) i).xor (rkAt_bytes hT hrc hk (n + 1) i)

end

end Cert.Proof.Aes

end
-- ==== Proof.Arrays.lean ====
/-
  The arrays the kernel and the reference hold, read as words: the table as a function of a word, the constants by
  number, the key and the block as sixteen words.
-/
module

public import Idealize.ShloMosaic.PureOps
public import Idealize.ShloMosaic.Signature
public import proofs.«01_k».proof.Proof.Spec

@[expose] public section

namespace Cert.Proof.Aes

open Idealize.ShloMosaic

/-- The shape of an array of `n` words. -/
abbrev Sh (n : Nat) : Shape := ⟨1, ![n]⟩

/-- Position `i` of an array of `n` words (around the end, for a position that is none). -/
def pos (n : Nat) (hn : 0 < n) (i : Nat) : (Sh n).Idx := fun | 0 => ⟨i % n, Nat.mod_lt _ hn⟩

/-- The table's word at `w`. -/
def tbl (f : (Sh 256).Idx → W) (w : W) : W := f (pos 256 (by decide) w.toNat)
/-- The round constant number `n`. -/
def con (f : (Sh 10).Idx → W) (n : Nat) : W := f (pos 10 (by decide) n)
/-- The sixteen words. -/
def blk (f : (Sh 16).Idx → W) : Block := fun i => f (pos 16 (by decide) i.val)

/-- Sixteen words as an array. -/
def arr (b : Block) : (Sh 16).Idx → W := fun x => b (x 0)

/-- A position in bounds is itself. -/
theorem pos_eq {n : Nat} (hn : 0 < n) (x : (Sh n).Idx) : pos n hn (x 0).val = x := by
  funext a
  match a with
  | 0 => exact Fin.ext (Nat.mod_eq_of_lt (x 0).isLt)

theorem blk_arr (b : Block) : blk (arr b) = b := by
  funext i
  exact congrArg b (Fin.ext (Nat.mod_eq_of_lt i.isLt))

theorem arr_blk (f : (Sh 16).Idx → W) : arr (blk f) = f := by
  funext x
  exact congrArg f (pos_eq (by decide) x)

/-- The one position of a one-element window is the one its offset names. -/
theorem window_pos {n : Nat} (hn : 0 < n) (off : Fin 1 → Nat) (inb : ∀ a, off a + (![1] : Fin 1 → Nat) a ≤ (Sh n).size a) (x) :
    (Rect.unit (s := Sh n) off ![1] inb).emb x = pos n hn (off 0) := by
  funext a
  match a with
  | 0 =>
    apply Fin.ext
    have h0 := inb 0
    have hx : (x 0).val < 1 := (x 0).isLt
    show off 0 + 1 * (x 0).val = off 0 % n
    change off 0 + 1 ≤ n at h0
    rw [Nat.mod_eq_of_lt (by omega)]; omega

end Cert.Proof.Aes

end
-- ==== Proof.Bytes.lean ====
/-
  What the precondition says: every word of the four arguments is a byte.
-/
module

public import proofs.«01_k».proof.Proof.Gen.Pre_in_bytes
public import Idealize.ShloMosaic.Lib.ReduceAll
public import proofs.«01_k».proof.Proof.Arrays

@[expose] public section

namespace Cert.Proof.Aes

open Idealize.ShloMosaic

/-- A word that is at least zero and below 256 is a byte. -/
theorem byte_of_mask {w : W} (h : IntOp.andi (IntOp.cmpi .sge w 0#32) (IntOp.cmpi .slt w 256#32) = 1#1) : IsByte w := by
  obtain ⟨h0, h1⟩ := IntOp.andi_eq_one.1 h
  have h0 := IntOp.cmpi_sge.1 h0
  have h1 := IntOp.cmpi_slt.1 h1
  rw [BitVec.toInt_eq_toNat_cond, BitVec.toInt_eq_toNat_cond] at h0 h1
  simp only [BitVec.toNat_ofNat] at h0 h1
  unfold IsByte
  split at h0 <;> omega

instance : Subsingleton (Cert.Pre_in_bytes.S_).Idx := ⟨fun _ _ => funext fun a => a.elim0⟩

/-- Arguments that meet the precondition are bytes throughout. -/
theorem bytes_of_pre {F : FTy → Type} [FloatOps F] {p k : IVec (Sh 16) 32} {s : IVec (Sh 256) 32} {r : IVec (Sh 10) 32}
    (h : Cert.Pre_in_bytes.fn (F := F) p k s r = fun _ => 1#1) :
    (∀ i, IsByte (p i)) ∧ (∀ i, IsByte (k i)) ∧ (∀ i, IsByte (s i)) ∧ ∀ i, IsByte (r i) := by
  have e := congrFun h fun a => a.elim0
  obtain ⟨e, hr⟩ := IntOp.andi_eq_one.1 e
  obtain ⟨e, hs⟩ := IntOp.andi_eq_one.1 e
  obtain ⟨hp, hk⟩ := IntOp.andi_eq_one.1 e
  exact ⟨fun i => byte_of_mask (Host.reduce_andi_all _ _ _ _ _ hp i), fun i => byte_of_mask (Host.reduce_andi_all _ _ _ _ _ hk i),
    fun i => byte_of_mask (Host.reduce_andi_all _ _ _ _ _ hs i), fun i => byte_of_mask (Host.reduce_andi_all _ _ _ _ _ hr i)⟩

end Cert.Proof.Aes

end
-- ==== Proof.Body.lean ====
/-
  The kernel on its SparseCore's sequencer: the table, the constants, the block and the key copied into scalar memory,
  the nine full rounds of the counted loop, the last round's words stored and copied out.
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Batch
public import Idealize.ShloMosaic.Lib.CellWrites
public import Idealize.ShloMosaic.Lib.Tactic
public import proofs.«01_k».proof.Proof.Gen.KernelIdeal
public import proofs.«01_k».proof.Proof.Gen.KernelIdeal.Skeleton
public import proofs.«01_k».proof.Proof.Arrays

@[expose] public section

noncomputable section

namespace Cert.Proof.Aes

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's side facts about this program's signature. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

/-- The handshakes' rounds, the left factor. -/
abbrev EH : Emb UH (MT nD τ sig (HIx 1) (Elt F) ℕ UU ℕ) := embL

/-! ## The launch memory and the buffers -/

variable (m : (ℓ : Loc nD τ sig) → Buf (Elt F) ℓ) (ρ : Dev nD → PrngReg)

local notation "ptW" => (Memref.whole Cert.KernelIdeal.main_arg0_scs : Memref Cert.KernelIdeal.sig Kind.scScalar Space.hbm Cert.KernelIdeal.S16 EltTy.i32)
local notation "keW" => (Memref.whole Cert.KernelIdeal.main_arg1_scs : Memref Cert.KernelIdeal.sig Kind.scScalar Space.hbm Cert.KernelIdeal.S16 EltTy.i32)
local notation "sbW" => (Memref.whole Cert.KernelIdeal.main_arg2_scs : Memref Cert.KernelIdeal.sig Kind.scScalar Space.hbm Cert.KernelIdeal.S256 EltTy.i32)
local notation "rcW" => (Memref.whole Cert.KernelIdeal.main_arg3_scs : Memref Cert.KernelIdeal.sig Kind.scScalar Space.hbm Cert.KernelIdeal.S10 EltTy.i32)
local notation "ouW" => (Memref.whole Cert.KernelIdeal.main_v0_scs : Memref Cert.KernelIdeal.sig Kind.scScalar Space.hbm Cert.KernelIdeal.S16 EltTy.i32)
local notation "sbS" => (Memref.whole Cert.KernelIdeal.cc0_scratch0 : Memref Cert.KernelIdeal.sig Kind.scScalar Space.smem Cert.KernelIdeal.S256 EltTy.i32)
local notation "rcS" => (Memref.whole Cert.KernelIdeal.cc0_scratch1 : Memref Cert.KernelIdeal.sig Kind.scScalar Space.smem Cert.KernelIdeal.S10 EltTy.i32)
local notation "ioS" => (Memref.whole Cert.KernelIdeal.cc0_scratch2 : Memref Cert.KernelIdeal.sig Kind.scScalar Space.smem Cert.KernelIdeal.S16 EltTy.i32)
local notation "keS" => (Memref.whole Cert.KernelIdeal.cc0_scratch3 : Memref Cert.KernelIdeal.sig Kind.scScalar Space.smem Cert.KernelIdeal.S16 EltTy.i32)

abbrev ptLoc (d : Dev nD) : Loc nD τ sig := (SparseCore.T d).loc main_arg0
abbrev keLoc (d : Dev nD) : Loc nD τ sig := (SparseCore.T d).loc main_arg1
abbrev sbLoc (d : Dev nD) : Loc nD τ sig := (SparseCore.T d).loc main_arg2
abbrev rcLoc (d : Dev nD) : Loc nD τ sig := (SparseCore.T d).loc main_arg3
abbrev ouLoc (d : Dev nD) : Loc nD τ sig := (SparseCore.T d).loc main_v0
/-- SparseCore `c`'s scratch, in its sequencer's scalar memory. -/
abbrev s0Loc (d : Dev nD) (c : Fin τ.nSC) : Loc nD τ sig := (S d c).loc cc0_scratch0
abbrev s1Loc (d : Dev nD) (c : Fin τ.nSC) : Loc nD τ sig := (S d c).loc cc0_scratch1
abbrev s2Loc (d : Dev nD) (c : Fin τ.nSC) : Loc nD τ sig := (S d c).loc cc0_scratch2
abbrev s3Loc (d : Dev nD) (c : Fin τ.nSC) : Loc nD τ sig := (S d c).loc cc0_scratch3

/-- The table, the constants, the key and the block at launch. -/
abbrev T₀ (d : Dev nD) : W → W := tbl (m (sbLoc d))
abbrev rc₀ (d : Dev nD) : Nat → W := con (m (rcLoc d))
abbrev key₀ (d : Dev nD) : Block := blk (m (keLoc d))
abbrev pt₀ (d : Dev nD) : Block := blk (m (ptLoc d))

/-- Every word of the four arguments is a byte. -/
structure InBytes (d : Dev nD) : Prop where
  pt : ∀ i, IsByte (m (ptLoc d) i)
  key : ∀ i, IsByte (m (keLoc d) i)
  sb : ∀ i, IsByte (m (sbLoc d) i)
  rc : ∀ i, IsByte (m (rcLoc d) i)

/-- The result: the block encrypted. -/
def out₀ (d : Dev nD) : Buf (Elt F) (ouLoc d) := arr (aes (T₀ m d) (rc₀ m d) (key₀ m d) (pt₀ m d))

/-- The state and the round key carried into trip `n`. -/
abbrev st₀ (d : Dev nD) (n : Nat) : Block := stAt (T₀ m d) (rc₀ m d) (key₀ m d) (pt₀ m d) n
abbrev rk₀ (d : Dev nD) (n : Nat) : Block := rkAt (T₀ m d) (rc₀ m d) (key₀ m d) n

variable [FloatOps F]

/-! ## The counted loop -/

section Body

variable (d : Dev nD)

/-- The grid's coordinates at core `c`. -/
def coordsS (c : Fin (grid0.bound 0)) : grid0.Coords := fun | 0 => c | ⟨_ + 1, h⟩ => absurd h (Nat.not_lt.2 (Nat.le_add_left _ _))

/-- SparseCore 0's sequencer thread. -/
abbrev S0 (h : 0 < grid0.bound 0) : Thread nD τ := S d ((⟨0, h⟩ : Fin (grid0.bound 0)).castLE hcore0)

omit [FloatOps F] in
/-- One word loaded from the table's copy. -/
theorem read_sb (f : (Sh 256).Idx → W) (off : Fin 1 → Nat) (inb : ∀ a, off a + (![1] : Fin 1 → Nat) a ≤ (Sh 256).size a) (x) :
    View.readAt (Elt F) (View.whole cc0_scratch0) (Rect.unit (s := Sh 256) off ![1] inb).toLoadRect f x = f (pos 256 (by decide) (off 0)) :=
  congrArg f (window_pos (by decide) off inb x)

omit [FloatOps F] in
/-- One word loaded from the constants' copy. -/
theorem read_rc (f : (Sh 10).Idx → W) (off : Fin 1 → Nat) (inb : ∀ a, off a + (![1] : Fin 1 → Nat) a ≤ (Sh 10).size a) (x) :
    View.readAt (Elt F) (View.whole cc0_scratch1) (Rect.unit (s := Sh 10) off ![1] inb).toLoadRect f x = f (pos 10 (by decide) (off 0)) :=
  congrArg f (window_pos (by decide) off inb x)

omit [FloatOps F] in
/-- One word loaded from the block's copy. -/
theorem read_io (f : (Sh 16).Idx → W) (off : Fin 1 → Nat) (inb : ∀ a, off a + (![1] : Fin 1 → Nat) a ≤ (Sh 16).size a) (x) :
    View.readAt (Elt F) (View.whole cc0_scratch2) (Rect.unit (s := Sh 16) off ![1] inb).toLoadRect f x = f (pos 16 (by decide) (off 0)) :=
  congrArg f (window_pos (by decide) off inb x)

omit [FloatOps F] in
/-- One word loaded from the key's copy. -/
theorem read_ke (f : (Sh 16).Idx → W) (off : Fin 1 → Nat) (inb : ∀ a, off a + (![1] : Fin 1 → Nat) a ≤ (Sh 16).size a) (x) :
    View.readAt (Elt F) (View.whole cc0_scratch3) (Rect.unit (s := Sh 16) off ![1] inb).toLoadRect f x = f (pos 16 (by decide) (off 0)) :=
  congrArg f (window_pos (by decide) off inb x)

/-- The carried words: the state, then the round key. -/
abbrev tup (s k : Block) : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × Elt F .i32 × Elt F .i32 × Elt F .i32 × Elt F .i32 × Elt F .i32 × Elt F .i32 × Elt F .i32 × Elt F .i32 × Elt F .i32 × Elt F .i32 × Elt F .i32 × Elt F .i32 × Elt F .i32 × Elt F .i32 × Elt F .i32 × Elt F .i32 :=
  (s 0, s 1, s 2, s 3, s 4, s 5, s 6, s 7, s 8, s 9, s 10, s 11, s 12, s 13, s 14, s 15,
    k 0, k 1, k 2, k 3, k 4, k 5, k 6, k 7, k 8, k 9, k 10, k 11, k 12, k 13, k 14, k 15)

/-- Before trip `n`: the carried words are the state and the round key number `n`; the table and the constants are in
    scalar memory. -/
def inv (h : 0 < grid0.bound 0) (n : Nat) (x : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × Elt F .i32 × Elt F .i32 × Elt F .i32 × Elt F .i32 × Elt F .i32 × Elt F .i32 × Elt F .i32 × Elt F .i32 × Elt F .i32 × Elt F .i32 × Elt F .i32 × Elt F .i32 × Elt F .i32 × Elt F .i32 × Elt F .i32 × Elt F .i32) : sProp 𝕄 :=
  iprop(⌜x = tup (F := F) (st₀ m d n) (rk₀ m d n)⌝
    ∗ ((sbS).view.loc (S0 d h) ↦{fullShare} (m (sbLoc d)))
    ∗ ((rcS).view.loc (S0 d h) ↦{fullShare} (m (rcLoc d))))

omit [FloatOps F] in
theorem st_byte (hb : InBytes m d) (n : Nat) (i : Fin 16) : (st₀ m d n i).toNat + 1 ≤ 256 :=
  stAt_bytes (fun _ => hb.sb _) (fun _ => hb.rc _) (fun _ => hb.key _) (fun _ => hb.pt _) n i
omit [FloatOps F] in
theorem rk_byte (hb : InBytes m d) (n : Nat) (i : Fin 16) : (rk₀ m d n i).toNat + 1 ≤ 256 :=
  rkAt_bytes (fun _ => hb.sb _) (fun _ => hb.rc _) (fun _ => hb.key _) n i

/-- One trip: a full round under the next round key. -/
theorem trip (hb : InBytes m d) (h : 0 < grid0.bound 0) (k : Fin k0_t1_loop.trips)
    (v1 v3 v5 v7 v9 v11 v13 v15 v17 v19 v21 v23 v25 v27 v29 v31 v34 v37 v40 v43 v46 v49 v52 v55 v58 v61 v64 v67 v70 v73 v76 v78 : BitVec 32)
    (x : BitVec 32 × BitVec 32 × BitVec 32 × BitVec 32 × BitVec 32 × BitVec 32 × BitVec 32 × BitVec 32 × BitVec 32 × BitVec 32 × BitVec 32 × BitVec 32 × BitVec 32 × BitVec 32 × BitVec 32 × BitVec 32 × Elt F .i32 × Elt F .i32 × Elt F .i32 × Elt F .i32 × Elt F .i32 × Elt F .i32 × Elt F .i32 × Elt F .i32 × Elt F .i32 × Elt F .i32 × Elt F .i32 × Elt F .i32 × Elt F .i32 × Elt F .i32 × Elt F .i32 × Elt F .i32) :
    inv m d h k.val x ⊢
      wp Idealize.ShloMosaic.frame (wpE (defs₀ (F := F)) 𝒱₀ (S0 d h) none) Set.univ
        (k0_t1_body (coordsS ⟨0, h⟩) ptW (Memref.isWhole_whole _) keW (Memref.isWhole_whole _) sbW (Memref.isWhole_whole _)
          rcW (Memref.isWhole_whole _) ouW (Memref.isWhole_whole _) sbS (Memref.isWhole_whole _) rcS (Memref.isWhole_whole _)
          ioS (Memref.isWhole_whole _) keS (Memref.isWhole_whole _) cc0_scratch4 cc0_scratch5 cc0_scratch6 cc0_scoped0
          v1 v3 v5 v7 v9 v11 v13 v15 v17 v19 v21 v23 v25 v27 v29 v31 v34 v37 v40 v43 v46 v49 v52 v55 v58 v61 v64 v67 v70 v73 v76 v78
          k x)
        fun x => inv m d h (k.val + 1) x := by
  have hs := st_byte m d hb k.val
  have hr := rk_byte m d hb k.val
  unfold inv
  iintro ⟨%hx, Hs, Hr⟩
  subst hx
  sl_unfold [k0_t1_body]
  sl_exec (disch := first | exact (fun | 0 => hs _) | exact (fun | 0 => hr _))
  sl_step
  isplitr [Hs Hr]
  · ipureintro
    repeat' refine Prod.ext ?_ ?_
    all_goals
      dsimp only
      sl_unfold_run_names
      simp only [read_sb, read_rc, k0_off1_eq]
      rfl
  · isplitl [Hs] <;> iassumption

/-- The cell counting the block's and the key's copies. -/
abbrev semIn : DmaSem sig := ⟨0, by decide⟩
/-- The cell counting the table's copy. -/
abbrev semTbl : DmaSem sig := ⟨1, by decide⟩
/-- The cell counting the round constants' copy. -/
abbrev semRcon : DmaSem sig := ⟨2, by decide⟩
/-- The cell counting the result's copy. -/
abbrev semOut : DmaSem sig := ⟨3, by decide⟩
/-- The four cells at zero. -/
abbrev cells0 (c : Fin τ.nSC) : sProp 𝕄 :=
  iprop(semVal (S d c, SemLoc.dma semIn) 0 ∗ semVal (S d c, SemLoc.dma semTbl) 0
    ∗ semVal (S d c, SemLoc.dma semRcon) 0 ∗ semVal (S d c, SemLoc.dma semOut) 0)

/-- One copy's count on cell 0. -/
abbrev N16 : ℕ := (ioS).view.amount (SemLoc.dma semIn)

/-- What the two copies counted on cell 0 hand back: the block, then the key, each landed, and its source. -/
abbrev deliv (h : 0 < grid0.bound 0) (f2 : Buf (Elt F) ((ioS).view.loc (S0 d h))) (f3 : Buf (Elt F) ((keS).view.loc (S0 d h))) :
    Fin 2 → sProp 𝕄
  | 0 => iprop(((ioS).view.loc (S0 d h) ↦{fullShare} (ioS).view.write (Elt F) f2 (ReadAs.same.apply ((ptW).view.read (Elt F) (m (ptLoc d)))) Finset.univ)
      ∗ ((ptW).view.loc (S0 d h) ↦[(ptW).view.set]{fullShare} m (ptLoc d)))
  | 1 => iprop(((keS).view.loc (S0 d h) ↦{fullShare} (keS).view.write (Elt F) f3 (ReadAs.same.apply ((keW).view.read (Elt F) (m (keLoc d)))) Finset.univ)
      ∗ ((keW).view.loc (S0 d h) ↦[(keW).view.set]{fullShare} m (keLoc d)))

instance deliv_storable (h : 0 < grid0.bound 0) (f2 : Buf (Elt F) ((ioS).view.loc (S0 d h))) (f3 : Buf (Elt F) ((keS).view.loc (S0 d h)))
    (t : Fin 2) : BI.Storable (upEmb : UEmb _ 𝕄) (deliv m d h f2 f3 t) := by
  match t with
  | 0 => unfold deliv; infer_instance
  | 1 => unfold deliv; infer_instance

omit [FloatOps F] in
/-- A buffer copied into whole holds what was copied. -/
theorem landed (t : Thread nD τ) (b : Ref sig t.2.kind) (f w v : b.ty.Contents (Elt F)) (hw : w = v) :
    (((View.whole b).loc t ↦{fullShare} (View.whole b).write (Elt F) f w Finset.univ) : sProp 𝕄) ⊢ (View.whole b).loc t ↦{fullShare} v := by
  rw [View.write_whole_univ, hw]

/-- The body on SparseCore 0's sequencer: the result is the block encrypted, the arguments unchanged, the four cells back
    at zero. -/
theorem aes_run (hb : InBytes m d) (h : 0 < grid0.bound 0) (O : CellTallies nD τ sig (HIx 1)) (W : Waits sig (HIx 1))
    (fo : Buf (Elt F) ((ouW).view.loc (S0 d h))) (f0 : Buf (Elt F) ((sbS).view.loc (S0 d h))) (f1 : Buf (Elt F) ((rcS).view.loc (S0 d h)))
    (f2 : Buf (Elt F) ((ioS).view.loc (S0 d h))) (f3 : Buf (Elt F) ((keS).view.loc (S0 d h))) :
    (iprop(Transfers.MayWaits (S0 d h) (none : HIx 1) O
        ∗ ((ptW).view.loc (S0 d h) ↦{fullShare} m (ptLoc d))
        ∗ ((keW).view.loc (S0 d h) ↦{fullShare} m (keLoc d))
        ∗ ((sbW).view.loc (S0 d h) ↦{fullShare} m (sbLoc d))
        ∗ ((rcW).view.loc (S0 d h) ↦{fullShare} m (rcLoc d))
        ∗ ((ouW).view.loc (S0 d h) ↦{fullShare} fo)
        ∗ ((sbS).view.loc (S0 d h) ↦{fullShare} f0)
        ∗ ((rcS).view.loc (S0 d h) ↦{fullShare} f1)
        ∗ ((ioS).view.loc (S0 d h) ↦{fullShare} f2)
        ∗ ((keS).view.loc (S0 d h) ↦{fullShare} f3)
        ∗ cells0 d (((⟨0, h⟩ : Fin (grid0.bound 0))).castLE hcore0)
        ∗ owes (S0 d h) O W) : sProp 𝕄)
      ⊢ wp Idealize.ShloMosaic.frame (wpE (defs₀ (F := F)) 𝒱₀ (S0 d h) none) Set.univ
          (cc0__aes_scs (coordsS ⟨0, h⟩) ptW (Memref.isWhole_whole _) keW (Memref.isWhole_whole _) sbW (Memref.isWhole_whole _)
            rcW (Memref.isWhole_whole _) ouW (Memref.isWhole_whole _) sbS (Memref.isWhole_whole _) rcS (Memref.isWhole_whole _)
            ioS (Memref.isWhole_whole _) keS (Memref.isWhole_whole _) cc0_scratch4 cc0_scratch5 cc0_scratch6 cc0_scoped0)
          fun _ => iprop(((ptW).view.loc (S0 d h) ↦{fullShare} m (ptLoc d))
            ∗ ((keW).view.loc (S0 d h) ↦{fullShare} m (keLoc d))
            ∗ ((sbW).view.loc (S0 d h) ↦{fullShare} m (sbLoc d))
            ∗ ((rcW).view.loc (S0 d h) ↦{fullShare} m (rcLoc d))
            ∗ ((ouW).view.loc (S0 d h) ↦{fullShare} out₀ m d)
            ∗ (∃ f, (sbS).view.loc (S0 d h) ↦{fullShare} f)
            ∗ (∃ f, (rcS).view.loc (S0 d h) ↦{fullShare} f)
            ∗ (∃ f, (ioS).view.loc (S0 d h) ↦{fullShare} f)
            ∗ (∃ f, (keS).view.loc (S0 d h) ↦{fullShare} f)
            ∗ cells0 d (((⟨0, h⟩ : Fin (grid0.bound 0))).castLE hcore0)
            ∗ ∃ W', ⌜∀ p ∈ W', p ∈ W ∨ p.2 = none⌝ ∗ owes (S0 d h) O W') := by
  iintro ⟨#Hmw, Hpt, Hke, Hsb, Hrc, Hou, HS0, HS1, HS2, HS3, ⟨Hc0, Hc1, Hc2, Hc3⟩, HO⟩
  iapply (fupd_wp Idealize.ShloMosaic.frame (wpE (defs₀ (F := F)) 𝒱₀ (S0 d h) none) Set.univ _ _)
  imod (Transfers.batch_alloc' (Lvl := ℕ) (countersEmb (U := UU)) (S0 d h) (none : HIx 1)
    N16 (deliv m d h f2 f3) (sm := .dma semIn) (E := Set.univ)) $$ Hc0 with HB
  imodintro
  sl_unfold [cc0__aes_scs]
  sl_exec
  sl_for (inv m d h) $$ [HS0 HS1]
  case region =>
    intro k x
    exact trip m d hb h k 0 0 0 0 0 0 0 0 0 0 0 0 0 0 0 0 0 0 0 0 0 0 0 0 0 0 0 0 0 0 0 0 x
  · unfold inv
    isplitr [HS0 HS1]
    · ipureintro
      repeat' refine Prod.ext ?_ ?_
      all_goals
        dsimp only
        sl_unfold_run_names
        simp only [read_io, read_ke, View.write_whole_univ]
        rfl
    isplitl [HS0]
    · iapply (landed (S0 d h) cc0_scratch0 f0 (aes_run.sl.dma0 m d) (m (sbLoc d)) rfl) $$ HS0
    · iapply (landed (S0 d h) cc0_scratch1 f1 (aes_run.sl.dma0_1 m d) (m (rcLoc d)) rfl) $$ HS1
  iintro %x HI
  rw [show Scf.trips k0_t1_loop.lb k0_t1_loop.ub k0_t1_loop.st = 9 from rfl]
  unfold inv
  icases HI with ⟨%hx, HS0, HS1⟩
  obtain ⟨s, es⟩ : ∃ s : Block, s = st₀ m d 9 := ⟨_, rfl⟩
  obtain ⟨r, er⟩ : ∃ r : Block, r = rk₀ m d 9 := ⟨_, rfl⟩
  rw [← es, ← er] at hx
  subst hx
  have hs : ∀ i, (s i).toNat + 1 ≤ 256 := es ▸ st_byte m d hb 9
  have hr : ∀ i, (r i).toNat + 1 ≤ 256 := er ▸ rk_byte m d hb 9
  sl_exec (disch := first | exact (fun | 0 => hs _) | exact (fun | 0 => hr _))
  sl_step
  isplitl [Hpt]; · iexact Hpt
  isplitl [Hke]; · iexact Hke
  isplitl [Hsb]; · iexact Hsb
  isplitl [Hrc]; · iexact Hrc
  isplitl [Hou]
  · have e : aes_run.sl.dma53 m d h f2 s r hs hr = out₀ m d := by
      have e' : out₀ m d = arr fun i => sub (T₀ m d) s i ^^^ nextKey (T₀ m d) (rc₀ m d 9) r i := by rw [es, er]; rfl
      rw [e']
      sl_unfold_run_names
      funext y
      obtain ⟨i, rfl⟩ : ∃ i : Fin 16, y = pos 16 (by decide) i.val := ⟨y 0, (pos_eq _ y).symm⟩
      unfold ReadAs.apply
      simp only [read_sb, read_rc]
      fin_cases i <;> rfl
    rw [e]
    iapply (landed (S0 d h) main_v0_scs fo (out₀ m d) (out₀ m d) rfl) $$ Hou
  isplitl [HS0]; · iexists _; iexact HS0
  isplitl [HS1]; · iexists _; iexact HS1
  isplitl [HB_dst0]; · iexists _; iexact HB_dst0
  isplitl [HB_dst1]; · iexists _; iexact HB_dst1
  isplitl [HB Hc1 Hc2 Hc3]
  · isplitl [HB]; · iexact HB
    isplitl [Hc1]; · iexact Hc1
    isplitl [Hc2] <;> iassumption
  iexists _
  isplitr
  rotate_left
  · iexact HO
  · ipureintro
    intro p hp
    simp only [Finset.mem_insert] at hp
    rcases hp with hp | hp | hp | hp | hp | hp
    · exact .inr (hp ▸ rfl)
    · exact .inr (hp ▸ rfl)
    · exact .inr (hp ▸ rfl)
    · exact .inr (hp ▸ rfl)
    · exact .inr (hp ▸ rfl)
    · exact .inl hp

end Body

end Cert.Proof.Aes

end
-- ==== Proof.Launch.lean ====
/-
  The launch: the call hands the four arguments and the result's array to SparseCore 0's sequencer and takes them back,
  the result holding the block encrypted. The whole program's run, over any float values.
-/
module

public import proofs.«01_k».proof.Proof.Body

@[expose] public section

noncomputable section

namespace Cert.Proof.Aes

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

local notation "ptW" => (Memref.whole Cert.KernelIdeal.main_arg0_scs : Memref Cert.KernelIdeal.sig Kind.scScalar Space.hbm Cert.KernelIdeal.S16 EltTy.i32)
local notation "keW" => (Memref.whole Cert.KernelIdeal.main_arg1_scs : Memref Cert.KernelIdeal.sig Kind.scScalar Space.hbm Cert.KernelIdeal.S16 EltTy.i32)
local notation "sbW" => (Memref.whole Cert.KernelIdeal.main_arg2_scs : Memref Cert.KernelIdeal.sig Kind.scScalar Space.hbm Cert.KernelIdeal.S256 EltTy.i32)
local notation "rcW" => (Memref.whole Cert.KernelIdeal.main_arg3_scs : Memref Cert.KernelIdeal.sig Kind.scScalar Space.hbm Cert.KernelIdeal.S10 EltTy.i32)
local notation "ouW" => (Memref.whole Cert.KernelIdeal.main_v0_scs : Memref Cert.KernelIdeal.sig Kind.scScalar Space.hbm Cert.KernelIdeal.S16 EltTy.i32)
local notation "sbS" => (Memref.whole Cert.KernelIdeal.cc0_scratch0 : Memref Cert.KernelIdeal.sig Kind.scScalar Space.smem Cert.KernelIdeal.S256 EltTy.i32)
local notation "rcS" => (Memref.whole Cert.KernelIdeal.cc0_scratch1 : Memref Cert.KernelIdeal.sig Kind.scScalar Space.smem Cert.KernelIdeal.S10 EltTy.i32)
local notation "ioS" => (Memref.whole Cert.KernelIdeal.cc0_scratch2 : Memref Cert.KernelIdeal.sig Kind.scScalar Space.smem Cert.KernelIdeal.S16 EltTy.i32)
local notation "keS" => (Memref.whole Cert.KernelIdeal.cc0_scratch3 : Memref Cert.KernelIdeal.sig Kind.scScalar Space.smem Cert.KernelIdeal.S16 EltTy.i32)

/-! ## What the call carries -/

/-- The four arguments at their launch contents. -/
abbrev argPts (d : Dev nD) : sProp 𝕄 :=
  iprop((ptLoc d ↦{fullShare} m (ptLoc d)) ∗ (keLoc d ↦{fullShare} m (keLoc d)) ∗ (sbLoc d ↦{fullShare} m (sbLoc d))
    ∗ (rcLoc d ↦{fullShare} m (rcLoc d)))
/-- The result's array at `f`. -/
abbrev ouPts (d : Dev nD) (f : Buf (Elt F) (ouLoc d)) : sProp 𝕄 := ouLoc d ↦{fullShare} f

/-- The call takes the arguments and the result's array at anything, and hands back the arguments and the block encrypted. -/
def P : (K (F := F)).Pay (nD := nD) (Val := Elt F) (Name := ℕ) (U := UU) where
  st := fun _ d _ => iprop(argPts m d ∗ ∃ f, ouPts d f)
  dn := fun _ d _ => iprop(argPts m d ∗ ouPts d (out₀ m d))
  go := fun _ _ _ _ => iprop(emp)
  td := fun _ _ _ _ => iprop(emp)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The sequencer's own cells and buffers -/

section Own

variable (d : Dev nD)

/-- The body's cells as a family. -/
abbrev dcell (c : Fin τ.nSC) (k : Fin 4) : GSem nD τ sig := (S d c, .dma ⟨k.val, k.isLt⟩)

/-- Each is the sequencer's own. -/
theorem dcell_mem (c : Fin τ.nSC) (k : Fin 4) : dcell d c k ∈ ownCells (S d c) :=
  mem_ownCells.mpr ⟨rfl, (show ∀ s : DmaSem sig, (SemLoc.dma s : SemLoc sig).isScoped .scScalar = true by decide) _⟩

/-- The sequencer's own cells at zero: the four the body names, and the rest. -/
theorem ownSems0_S (c : Fin τ.nSC) :
    (ownSems0 (S d c) : sProp 𝕄)
      = iprop(cells0 d c ∗ bigSep ((ownCells (S d c)) \ Finset.univ.image (dcell d c)) fun g => semVal g 0) := by
  unfold SparseCore.Cfg.ownSems0
  rw [SparseCore.bigSep_sdiff_split' (t := Finset.univ.image (dcell d c)) (Finset.image_subset_iff.mpr fun k _ => dcell_mem d c k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 4)) = {0, 1, 2, 3} by decide,
    SparseCore.bigSep_insert' (by decide), SparseCore.bigSep_insert' (by decide), SparseCore.bigSep_insert' (by decide), bigSep_singleton]
  rfl

/-- The four scratch buffers as a family. -/
abbrev sref (c : Fin τ.nSC) : Fin 4 → DevRef τ sig
  | 0 => (Proc.scScalar c).devRef cc0_scratch0
  | 1 => (Proc.scScalar c).devRef cc0_scratch1
  | 2 => (Proc.scScalar c).devRef cc0_scratch2
  | 3 => (Proc.scScalar c).devRef cc0_scratch3

/-- Each is the sequencer's own. -/
theorem sref_mem (c : Fin τ.nSC) (k : Fin 4) : sref c k ∈ ownRefs (τ := τ) (sig := sig) (.scScalar c) := by
  match k with
  | 0 | 1 | 2 | 3 => exact (mem_ownRefs (p := Proc.scScalar c)).mpr rfl

theorem sref_inj (c : Fin τ.nSC) : Function.Injective (sref c) := by
  revert c; decide

/-- The sequencer's own buffers: the four the body names, each at some contents, and the rest. -/
theorem ownBufs_S (c : Fin τ.nSC) :
    (ownBufs (S d c) : sProp 𝕄)
      = iprop(((∃ f, s0Loc d c ↦{fullShare} f) ∗ (∃ f, s1Loc d c ↦{fullShare} f) ∗ (∃ f, s2Loc d c ↦{fullShare} f) ∗ (∃ f, s3Loc d c ↦{fullShare} f))
          ∗ bigSep ((ownRefs (τ := τ) (.scScalar c)) \ Finset.univ.image (sref c)) fun b => iprop(∃ f, ((d, b) : Loc nD τ sig) ↦{fullShare} f)) := by
  unfold SparseCore.Cfg.ownBufs
  rw [SparseCore.bigSep_sdiff_split' (t := Finset.univ.image (sref c)) (Finset.image_subset_iff.mpr fun k _ => sref_mem c k),
    SparseCore.bigSep_image_of_injOn (fun a _ b _ h => sref_inj c h)]
  rw [show (Finset.univ : Finset (Fin 4)) = {0, 1, 2, 3} by decide,
    SparseCore.bigSep_insert' (by decide), SparseCore.bigSep_insert' (by decide), SparseCore.bigSep_insert' (by decide), bigSep_singleton]

/-! An array named through the sequencer's memref is the TensorCore's array; a scratch buffer is itself. -/

theorem pts_pt (c : Fin τ.nSC) (f : Buf (Elt F) (ptLoc d)) : ((ptW).view.loc (S d c) ↦{fullShare} f : sProp 𝕄) = ptLoc d ↦{fullShare} f := by
  simp only [Memref.view_whole, View.set_whole]
theorem pts_ke (c : Fin τ.nSC) (f : Buf (Elt F) (keLoc d)) : ((keW).view.loc (S d c) ↦{fullShare} f : sProp 𝕄) = keLoc d ↦{fullShare} f := by
  simp only [Memref.view_whole, View.set_whole]
theorem pts_sb (c : Fin τ.nSC) (f : Buf (Elt F) (sbLoc d)) : ((sbW).view.loc (S d c) ↦{fullShare} f : sProp 𝕄) = sbLoc d ↦{fullShare} f := by
  simp only [Memref.view_whole, View.set_whole]
theorem pts_rc (c : Fin τ.nSC) (f : Buf (Elt F) (rcLoc d)) : ((rcW).view.loc (S d c) ↦{fullShare} f : sProp 𝕄) = rcLoc d ↦{fullShare} f := by
  simp only [Memref.view_whole, View.set_whole]
theorem pts_ou (c : Fin τ.nSC) (f : Buf (Elt F) (ouLoc d)) : ((ouW).view.loc (S d c) ↦{fullShare} f : sProp 𝕄) = ouLoc d ↦{fullShare} f := by
  simp only [Memref.view_whole, View.set_whole]
theorem pts_s0 (c : Fin τ.nSC) (f : Buf (Elt F) (s0Loc d c)) : ((sbS).view.loc (S d c) ↦{fullShare} f : sProp 𝕄) = s0Loc d c ↦{fullShare} f := by
  simp only [Memref.view_whole, View.set_whole]
theorem pts_s1 (c : Fin τ.nSC) (f : Buf (Elt F) (s1Loc d c)) : ((rcS).view.loc (S d c) ↦{fullShare} f : sProp 𝕄) = s1Loc d c ↦{fullShare} f := by
  simp only [Memref.view_whole, View.set_whole]
theorem pts_s2 (c : Fin τ.nSC) (f : Buf (Elt F) (s2Loc d c)) : ((ioS).view.loc (S d c) ↦{fullShare} f : sProp 𝕄) = s2Loc d c ↦{fullShare} f := by
  simp only [Memref.view_whole, View.set_whole]
theorem pts_s3 (c : Fin τ.nSC) (f : Buf (Elt F) (s3Loc d c)) : ((keS).view.loc (S d c) ↦{fullShare} f : sProp 𝕄) = s3Loc d c ↦{fullShare} f := by
  simp only [Memref.view_whole, View.set_whole]

end Own

variable [FloatOps F]

/-! ## The sequencer's task -/

/-- SparseCore 0's sequencer does its task: from what the launch deals it, the body's run, and all of it back. -/
theorem body₀ (d : Dev nD) (hb : InBytes m d) (hF : (K (F := F)).Facts) (h : 0 < grid0.bound 0) (O : CellTallies nD τ sig (HIx 1))
    (W : Waits sig (HIx 1)) (hO : ∀ g, O g none = 0) :
    iprop(levAts (K (F := F)).L (K (F := F)).lev ∗ emp ∗ (argPts m d ∗ ∃ f, ouPts d f)
        ∗ scopedBufs (S0 d h) ∗ scopedSems0 (S0 d h) ∗ owes (S0 d h) O W)
      ⊢ wp Idealize.ShloMosaic.frame (wpE (defs₀ (F := F)) 𝒱₀ (S0 d h) none) Set.univ
          (cc0__aes_scs (coordsS ⟨0, h⟩) ptW (Memref.isWhole_whole _) keW (Memref.isWhole_whole _) sbW (Memref.isWhole_whole _)
            rcW (Memref.isWhole_whole _) ouW (Memref.isWhole_whole _) sbS (Memref.isWhole_whole _) rcS (Memref.isWhole_whole _)
            ioS (Memref.isWhole_whole _) keS (Memref.isWhole_whole _) cc0_scratch4 cc0_scratch5 cc0_scratch6 cc0_scoped0)
          fun _ => iprop((argPts m d ∗ ouPts d (out₀ m d)) ∗ scopedBufs (S0 d h) ∗ scopedSems0 (S0 d h)
            ∗ ∃ W', ⌜∀ p ∈ W', p ∈ W ∨ p.2 = none ∨ p.2 = some (0 : Fin 1)⌝ ∗ owes (S0 d h) O W') := by
  rw [(K (F := F)).scopedBufs_S hF d _, SparseCore.Cfg.scopedSems0_S (Val := Elt F) d _, ownSems0_S, ownBufs_S]
  iintro ⟨#Hlv, -, ⟨⟨Hpt, Hke, Hsb, Hrc⟩, %fo, Hou⟩, ⟨⟨⟨⟨%f0, H0⟩, ⟨%f1, H1⟩, ⟨%f2, H2⟩, %f3, H3⟩, Hbufs⟩, Htiles⟩, ⟨⟨HC, Hsems⟩, HtileSems⟩, HO⟩
  ihave Hmw := ((K (F := F)).mayWaits_none (thr := S0 d h) hO) $$ Hlv
  ihave Hpt := (Entails.of_eq (pts_pt (F := F) d _ _).symm) $$ Hpt
  ihave Hke := (Entails.of_eq (pts_ke (F := F) d _ _).symm) $$ Hke
  ihave Hsb := (Entails.of_eq (pts_sb (F := F) d _ _).symm) $$ Hsb
  ihave Hrc := (Entails.of_eq (pts_rc (F := F) d _ _).symm) $$ Hrc
  ihave Hou := (Entails.of_eq (pts_ou (F := F) d _ _).symm) $$ Hou
  ihave H0 := (Entails.of_eq (pts_s0 (F := F) d _ _).symm) $$ H0
  ihave H1 := (Entails.of_eq (pts_s1 (F := F) d _ _).symm) $$ H1
  ihave H2 := (Entails.of_eq (pts_s2 (F := F) d _ _).symm) $$ H2
  ihave H3 := (Entails.of_eq (pts_s3 (F := F) d _ _).symm) $$ H3
  iapply (wp_wand_r Idealize.ShloMosaic.frame (wpE (defs₀ (F := F)) 𝒱₀ (S0 d h) none) Set.univ)
  isplitl [Hpt Hke Hsb Hrc Hou H0 H1 H2 H3 HC HO]
  · iapply (aes_run m d hb h O W _ _ _ _ _)
    isplitr; · iexact Hmw
    isplitl [Hpt]; · iexact Hpt
    isplitl [Hke]; · iexact Hke
    isplitl [Hsb]; · iexact Hsb
    isplitl [Hrc]; · iexact Hrc
    isplitl [Hou]; · iexact Hou
    isplitl [H0]; · iexact H0
    isplitl [H1]; · iexact H1
    isplitl [H2]; · iexact H2
    isplitl [H3]; · iexact H3
    isplitl [HC]; · iexact HC
    iexact HO
  iintro %_ ⟨Hpt, Hke, Hsb, Hrc, Hou, ⟨%g0, H0⟩, ⟨%g1, H1⟩, ⟨%g2, H2⟩, ⟨%g3, H3⟩, HC, %W', %hW', HO⟩
  isplitl [Hpt Hke Hsb Hrc Hou]
  · isplitl [Hpt Hke Hsb Hrc]
    · isplitl [Hpt]; · iapply (Entails.of_eq (pts_pt (F := F) d _ _)); iexact Hpt
      isplitl [Hke]; · iapply (Entails.of_eq (pts_ke (F := F) d _ _)); iexact Hke
      isplitl [Hsb]; · iapply (Entails.of_eq (pts_sb (F := F) d _ _)); iexact Hsb
      iapply (Entails.of_eq (pts_rc (F := F) d _ _)); iexact Hrc
    iapply (Entails.of_eq (pts_ou (F := F) d _ _)); iexact Hou
  isplitl [H0 H1 H2 H3 Hbufs Htiles]
  · isplitl [H0 H1 H2 H3 Hbufs]
    · isplitl [H0 H1 H2 H3]
      · isplitl [H0]; · iexists _; iapply (Entails.of_eq (pts_s0 (F := F) d _ _)); iexact H0
        isplitl [H1]; · iexists _; iapply (Entails.of_eq (pts_s1 (F := F) d _ _)); iexact H1
        isplitl [H2]; · iexists _; iapply (Entails.of_eq (pts_s2 (F := F) d _ _)); iexact H2
        iexists _; iapply (Entails.of_eq (pts_s3 (F := F) d _ _)); iexact H3
      iexact Hbufs
    iexact Htiles
  isplitl [HC Hsems HtileSems]
  · isplitl [HC Hsems]
    · isplitl [HC]; · iexact HC
      iexact Hsems
    iexact HtileSems
  iexists W'; isplitr
  · ipureintro; exact fun p hp => (hW' p hp).imp_right Or.inl
  · iexact HO

theorem defs₀_scalar (c : Fin τ.nSC) :
    defs₀ (F := F) (.scScalar c) 0 ()
      = SparseCore.onCore hcore0 (fun c => cc0__aes_scs (coordsS c) ptW (Memref.isWhole_whole _) keW (Memref.isWhole_whole _)
          sbW (Memref.isWhole_whole _) rcW (Memref.isWhole_whole _) ouW (Memref.isWhole_whole _) sbS (Memref.isWhole_whole _)
          rcS (Memref.isWhole_whole _) ioS (Memref.isWhole_whole _) keS (Memref.isWhole_whole _) cc0_scratch4 cc0_scratch5
          cc0_scratch6 cc0_scoped0) ⟨⟩ c := rfl

/-- The launch theorem's obligation for the one call. -/
theorem scalarObl (hb : ∀ d, InBytes m d) : (K (F := F)).ScalarObl (D (F := F)) 𝒱 (P m) v₀ 0 := by
  intro d c O W hO _ _
  simp only [show (P m).ox = fun _ _ => 0 from rfl, add_zero]
  change _ ⊢ wp _ _ _ (Pipeline.liftProg (defs₀ (F := F) (.scScalar ((K (F := F)).core 0 c)) 0 ())) _
  refine BI.Entails.trans ?_ (Pipeline.wp_liftProg (D (F := F)) (Pipeline.defs_kernel pcfgs defs₀) 𝒱₀ _ Set.univ none _ _)
  have hc : ((K (F := F)).core 0 c).val < grid0.bound 0 := c.isLt
  rw [defs₀_scalar]; simp only [SparseCore.onCore, hc, ↓reduceDIte]
  match c with
  | ⟨0, h⟩ => exact body₀ m d (hb d) facts h O W hO

/-! ## The launch element: the handshakes' rounds -/

/-- The rounds of the handshakes; nothing of the kernel's own. -/
def u₀ : UU := (initOf (K (F := F)).hsCells (K (F := F)).hsToks, 1)

omit [FloatOps F] in
theorem bigSep_none {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_none]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_none]
  iempintro

/-! ## The host's program -/

omit [FloatOps F] in
/-- The TensorCore's arrays: the four arguments and the result. -/
theorem unscopedBufs_eq (d : Dev nD) (W : (b : Ref sig .tc) → Buf (Elt F) ((d.tc : Thread nD τ).loc b)) :
    (unscopedBufs d W : sProp 𝕄) = iprop((ptLoc d ↦{fullShare} W main_arg0) ∗ (keLoc d ↦{fullShare} W main_arg1)
      ∗ (sbLoc d ↦{fullShare} W main_arg2) ∗ (rcLoc d ↦{fullShare} W main_arg3) ∗ (ouLoc d ↦{fullShare} W main_v0)) := by
  unfold unscopedBufs
  rw [show (Finset.univ.filter fun b : Ref sig .tc => ¬ b.isScoped) = {main_arg0, main_arg1, main_arg2, main_arg3, main_v0} by decide,
    SparseCore.bigSep_insert' (by decide), SparseCore.bigSep_insert' (by decide), SparseCore.bigSep_insert' (by decide),
    SparseCore.bigSep_insert' (by decide), bigSep_singleton]

/-- What the call takes for its one SparseCore, -/
theorem st0_eq (d : Dev nD) : (bigSep Finset.univ fun c : Fin ((K (F := F)).nCore 0) => (P m).st 0 d c) = iprop(argPts m d ∗ ∃ f, ouPts d f) :=
  bigSep_univ_of_subsingleton (0 : Fin 1)
/-- and what it hands back. -/
theorem dn0_eq (d : Dev nD) : (bigSep Finset.univ fun c : Fin ((K (F := F)).nCore 0) => (P m).dn 0 d c) = iprop(argPts m d ∗ ouPts d (out₀ m d)) :=
  bigSep_univ_of_subsingleton (0 : Fin 1)

/-- What the program ends with: the arguments unchanged, the result the block encrypted. -/
abbrev FIN (d : Dev nD) : sProp 𝕄 := iprop(argPts m d ∗ ouPts d (out₀ m d))

/-- The host's program on one device: the call, and nothing more. -/
theorem hmain (κ : GSem nD τ sig → ℕ) (d : Dev nD) :
    iprop((K (F := F)).ctx EH (P m) κ ∗ (K (F := F)).tcSt EH d 0 ∗ (K (F := F)).tcRes m ρ d ∗ emp)
      ⊢ wp Idealize.ShloMosaic.frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hpt, Hke, Hsb, Hrc, Hou⟩, Hts, -⟩, -⟩
  iapply ((K (F := F)).wp_run (D (F := F)) 𝒱 (EH := EH) (P := P m) κ d 0) $$ [Hst Hpt Hke Hsb Hrc Hou Hb Hts]
  isplitr; · iexact Hctx
  isplitl [Hst]; · iexact Hst
  isplitl [Hpt Hke Hsb Hrc Hou]
  · rw [st0_eq]
    isplitl [Hpt Hke Hsb Hrc]
    · isplitl [Hpt]; · iexact Hpt
      isplitl [Hke]; · iexact Hke
      isplitl [Hsb] <;> iassumption
    iexists _; iexact Hou
  iintro ⟨Hst, Hdn⟩
  ihave Hdn := (Entails.of_eq (dn0_eq m d)) $$ Hdn
  imodintro
  isplitl [Hst]; · iexact Hst
  isplitl [Hdn]; · iexact Hdn
  isplitl [Hb] <;> iassumption

/-- Device `d`'s memory at the end. -/
def fq (d : Dev nD) (s' : Phys nD τ sig (Elt F)) : Prop :=
  s'.mem.mem (ouLoc d) = out₀ m d ∧ s'.mem.mem (ptLoc d) = m (ptLoc d) ∧ s'.mem.mem (keLoc d) = m (keLoc d)
    ∧ s'.mem.mem (sbLoc d) = m (sbLoc d) ∧ s'.mem.mem (rcLoc d) = m (rcLoc d)

/-- What the program ends with is so in memory. -/
theorem hfin (d : Dev nD) (s' : Phys nD τ sig (Elt F)) : iprop(FIN m d ∗ SI s') ⊢ (⌜fq m d s'⌝ : sProp 𝕄) := by
  iintro ⟨⟨⟨Hpt, Hke, Hsb, Hrc⟩, Hou⟩, HSI⟩
  icombine HSI Hou gives %ho
  icombine HSI Hpt gives %hp
  icombine HSI Hke gives %hk
  icombine HSI Hsb gives %hs
  icombine HSI Hrc gives %hr
  ipureintro
  exact ⟨funext fun i => ho i (Finset.mem_univ i), funext fun i => hp i (Finset.mem_univ i), funext fun i => hk i (Finset.mem_univ i),
    funext fun i => hs i (Finset.mem_univ i), funext fun i => hr i (Finset.mem_univ i)⟩

/-! ## The program's run -/

/-- What every run ends with: on every device the result is the block encrypted and the arguments are unchanged, and every
    semaphore counter is at zero. -/
def QC : PUnit × MemSt nD τ sig (Elt F) → Prop := fun r =>
  (∀ c : Dev nD, r.2.mem (ouLoc c) = out₀ m c ∧ r.2.mem (ptLoc c) = m (ptLoc c) ∧ r.2.mem (keLoc c) = m (keLoc c)
    ∧ r.2.mem (sbLoc c) = m (sbLoc c) ∧ r.2.mem (rcLoc c) = m (rcLoc c)) ∧ r.2.sem = fun _ => 0

/-- From bytes, every run of the program terminates so. -/
theorem run_main [∀ e, Nonempty (Elt F e)] (hb : ∀ d, InBytes m d) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q _ => match q with | 0 => scalarObl m hb)
    (fun q hq => match q with | 0 => nomatch hq)
    (fun q hq => match q with | 0 => nomatch hq)
    m ρ main (fun _ => iprop(emp)) (FIN m) (u₀ (F := F)) (sep_elim_left.trans (hu₀ m)) (hmain m ρ) (fq m) (hfin m) (QC m) (fun _ h hz => ⟨h, hz⟩)

end Cert.Proof.Aes

end
-- ==== Proof.Frames.lean ====
/-
  The kernel's runs, of the program as printed and of its idealization: both are one text, so one run serves both.
-/
module

public import proofs.«01_k».proof.Defs
public import proofs.«01_k».proof.Proof.Gen.Kernel
public import proofs.«01_k».proof.Proof.Gen.KernelIdeal
public import proofs.«01_k».proof.Proof.Bytes
public import proofs.«01_k».proof.Proof.Launch

@[expose] public section

noncomputable section

namespace Cert.Proof.Aes

open Idealize.ShloMosaic Idealize.SL.Sem

/-- The kernel's precondition says its arguments are bytes. -/
theorem kernel_bytes {m} (h : Cert.Pre_Kernel m) (d) : InBytes (F := Bits) m d :=
  have e := bytes_of_pre (h d)
  ⟨e.1, e.2.1, e.2.2.1, e.2.2.2⟩

/-- The idealized kernel's precondition says its arguments are bytes. -/
theorem kernelIdeal_bytes {m} (h : Cert.Pre_KernelIdeal m) (d) : InBytes (F := Ideal) m d :=
  have e := bytes_of_pre (h d)
  ⟨e.1, e.2.1, e.2.2.1, e.2.2.2⟩

/-- The kernel runs to its end, the arguments unchanged and every counter at zero. -/
theorem frame_kernel : Cert.quiescent_Kernel := fun m ρ hp =>
  (θ_run Cert.KernelIdeal.defs _ _).mono (fun _ h => ⟨fun c => (h.1 c).2, h.2⟩) (run_main (F := Bits) m ρ (kernel_bytes hp))

/-- The idealized kernel runs so too. -/
theorem frame_kernelIdeal : Cert.quiescent_KernelIdeal := fun m ρ hp =>
  (θ_run Cert.KernelIdeal.defs _ _).mono (fun _ h => ⟨fun c => (h.1 c).2, h.2⟩) (run_main (F := Ideal) m ρ (kernelIdeal_bytes hp))

end Cert.Proof.Aes

end
-- ==== Proof.Host.lean ====
/-
  The reference's steps as functions of words: the substitution through the table, the row shift, the column mix, the
  next round key. Each is the chain of host operations the reference runs, and each is shown to be the step of
  the specification on a block kept as a four by four matrix.
-/
module

public import proofs.«01_k».proof.Proof.Gen.ReferenceIdeal
public import Idealize.ShloMosaic.Lib.PointwiseCore
public import Idealize.ShloMosaic.Lib.ReduceAll
public import proofs.«01_k».proof.Proof.Arrays

@[expose] public section

set_option maxRecDepth 16384

noncomputable section

namespace Cert.Proof.Aes.Host

open Cert.ReferenceIdeal Cert.ReferenceIdeal.Gen Idealize.ShloMosaic

/-- A block as a matrix: row `r`, column `c` is word `4 c + r`. -/
def mat (b : Block) : IVec S4x4 32 := fun j => b ⟨(4 * (j 1).val + (j 0).val) % 16, Nat.mod_lt _ (by decide)⟩

/-- Four words as an array. -/
def vec (v : Fin 4 → W) : IVec S4 32 := fun j => v (j 0)

/-- Arrays of four words with equal words are equal. -/
theorem vec_ext {f g : IVec S4 32} (h : ∀ i : Fin 4, f (ix1 i) = g (ix1 i)) : f = g := by
  funext x; rw [eq_ix1 x]; exact h _

/-- Matrices with equal words are equal. -/
theorem mat_ext {f g : IVec S4x4 32} (h : ∀ r c : Fin 4, f (ix2 r c) = g (ix2 r c)) : f = g := by
  funext x; rw [eq_ix2 x]; exact h _ _

/-- The sixteen words laid out as a matrix. -/
def toMat (x : IVec S16 32) : IVec S4x4 32 :=
  transpose S4x4 [1, 0] (shapeCast _ x shapeCasts_S16_S4x4) transposes_S4x4_S4x4_1_0

theorem toMat_eq (x : IVec S16 32) : toMat x = mat (blk x) := by
  refine mat_ext fun r c => ?_
  fin_cases r <;> fin_cases c <;> exact congrArg x (funext fun | 0 => rfl)

/-- Column `j` of a matrix. -/
def takeCol (j : Nat) (h : S4x4.Slices ![0, j] S4x1) (x : IVec S4x4 32) : IVec S4 32 :=
  shapeCast _ (extractStridedSlice S4x1 ![0, j] x h) shapeCasts_S4x1_S4

theorem takeCol_mat (j : Nat) (hj : j < 4) (h : S4x4.Slices ![0, j] S4x1) (b : Block) :
    takeCol j h (mat b) = vec fun r => b ⟨4 * j + r.val, by omega⟩ := by
  refine vec_ext fun i => ?_
  interval_cases j <;> fin_cases i <;> rfl

/-! ## The table -/

/-- A byte is not below zero. -/
theorem byte_slt {w : W} (hw : IsByte w) : IntOp.cmpi .slt w 0#32 = 0#1 := by
  have h : w.slt 0#32 = false := by
    unfold IsByte at hw
    simp only [BitVec.slt, BitVec.toInt_eq_toNat_cond, decide_eq_false_iff_not, BitVec.toNat_ofNat]
    split <;> omega
  show BitVec.ofBool (w.slt 0#32) = _
  rw [h]; rfl

/-- A byte is at least zero. -/
theorem byte_sge {w : W} (hw : IsByte w) : IntOp.cmpi .sge w 0#32 = 1#1 := by
  have h : (0#32).sle w = true := by
    unfold IsByte at hw
    simp only [BitVec.sle, BitVec.toInt_eq_toNat_cond, decide_eq_true_eq, BitVec.toNat_ofNat]
    split <;> omega
  show BitVec.ofBool ((0#32).sle w) = _
  rw [h]; rfl

/-- A byte is at most 255. -/
theorem byte_sle {w : W} (hw : IsByte w) : IntOp.cmpi .sle w 255#32 = 1#1 := by
  have h : w.sle 255#32 = true := by
    unfold IsByte at hw
    simp only [BitVec.sle, BitVec.toInt_eq_toNat_cond, decide_eq_true_eq, BitVec.toNat_ofNat]
    split <;> omega
  show BitVec.ofBool (w.sle 255#32) = _
  rw [h]; rfl

/-- A byte read as a signed number is its value. -/
theorem byte_toInt {w : W} (hw : IsByte w) : min w.toInt.toNat 255 = w.toNat % 256 := by
  unfold IsByte at hw
  rw [BitVec.toInt_eq_toNat_cond]
  split <;> omega

/-- The places four words name in the table, as the reference forms them. -/
def places4 (v : IVec S4 32) : IVec S4x1 32 :=
  broadcastInDim S4x1 ![0] bcast_S4_S4x1_0
    (select (cmpi .slt v (broadcastInDim S4 ![] bcast_S_S4 (constantI S_ 32 0#32)))
      (addi v (broadcastInDim S4 ![] bcast_S_S4 (constantI S_ 32 256#32))) v)

/-- Four words looked up in the table. -/
def take4 (tb : IVec S256 32) (v : IVec S4 32) : IVec S4 32 :=
  select
    (Host.reduce IntOp.andi
      (andi (cmpi .sge (places4 v) (broadcastInDim S4x1 ![] bcast_S_S4x1 (constantI S_ 32 0#32)))
        (cmpi .sle (places4 v)
          (broadcastInDim S4x1 ![0, 1] bcast_S1x1_S4x1_0_1 (broadcastInDim S1x1 ![1] bcast_S1_S1x1_1 (constantI S1 32 255#32)))))
      (constantI S_ 1 1#1) reducesTo_S4x1_S4_d1 h_S_)
    (Host.gather gather_S256_S4x1_S4_n_0_n_n_0_1_1 tb (places4 v))
    (broadcastInDim S4 ![] bcast_S_S4 (constantI S_ 32 2147483648#32))

/-- The choice between a word below zero and its wrapped place: a byte is the place. -/
theorem select_byte {w : W} (hw : IsByte w) (a b : W) : Scalar.select (IntOp.cmpi .slt w 0#32) a b = b := by
  rw [byte_slt hw]; rfl

/-- A byte is a place of the table. -/
theorem mask_byte {w : W} (hw : IsByte w) : IntOp.andi (IntOp.cmpi .sge w 0#32) (IntOp.cmpi .sle w 255#32) = 1#1 := by
  rw [byte_sge hw, byte_sle hw]; rfl

theorem places4_byte {v : IVec S4 32} (hv : ∀ i, IsByte (v i)) :
    places4 v = broadcastInDim S4x1 ![0] bcast_S4_S4x1_0 v := by
  unfold places4
  congr 1
  funext x
  exact select_byte (hv x) _ _

/-- Four bytes are looked up word by word. -/
theorem take4_byte (tb : IVec S256 32) {v : Fin 4 → W} (hv : ∀ i, IsByte (v i)) :
    take4 tb (vec v) = vec fun i => tbl tb (v i) := by
  unfold take4
  rw [places4_byte (v := vec v) fun i => hv (i 0)]
  refine vec_ext fun i => ?_
  refine (congrArg (fun b => Scalar.select b _ _) (Host.reduce_andi_one _ _ _ _ _ rfl fun j => mask_byte (hv _))).trans ?_
  refine congrArg tb (funext fun | 0 => Fin.ext ?_)
  refine Eq.trans ?_ (byte_toInt (hv i))
  fin_cases i <;> rfl

/-- The places a matrix of words names in the table, as the reference forms them. -/
def places16 (x : IVec S4x4 32) : IVec S4x4x1 32 :=
  broadcastInDim S4x4x1 ![0, 1] bcast_S4x4_S4x4x1_0_1
    (select (cmpi .slt x (broadcastInDim S4x4 ![] bcast_S_S4x4 (constantI S_ 32 0#32)))
      (addi x (broadcastInDim S4x4 ![] bcast_S_S4x4 (constantI S_ 32 256#32))) x)

/-- A matrix of words looked up in the table. -/
def take16 (tb : IVec S256 32) (x : IVec S4x4 32) : IVec S4x4 32 :=
  select
    (Host.reduce IntOp.andi
      (andi (cmpi .sge (places16 x) (broadcastInDim S4x4x1 ![] bcast_S_S4x4x1 (constantI S_ 32 0#32)))
        (cmpi .sle (places16 x)
          (broadcastInDim S4x4x1 ![0, 1, 2] bcast_S1x1x1_S4x4x1_0_1_2
            (broadcastInDim S1x1x1 ![2] bcast_S1_S1x1x1_2 (constantI S1 32 255#32)))))
      (constantI S_ 1 1#1) reducesTo_S4x4x1_S4x4_d2 h_S_)
    (Host.gather gather_S256_S4x4x1_S4x4_n_0_n_n_0_2_1 tb (places16 x))
    (broadcastInDim S4x4 ![] bcast_S_S4x4 (constantI S_ 32 2147483648#32))

theorem places16_byte {x : IVec S4x4 32} (hx : ∀ i, IsByte (x i)) :
    places16 x = broadcastInDim S4x4x1 ![0, 1] bcast_S4x4_S4x4x1_0_1 x := by
  unfold places16
  congr 1
  funext i
  exact select_byte (hx i) _ _

/-- A matrix of bytes is looked up word by word. -/
theorem take16_byte (tb : IVec S256 32) {b : Block} (hb : Bytes b) : take16 tb (mat b) = mat fun i => tbl tb (b i) := by
  unfold take16
  rw [places16_byte (x := mat b) fun i => hb _]
  refine mat_ext fun r c => ?_
  refine (congrArg (fun b => Scalar.select b _ _) (Host.reduce_andi_one _ _ _ _ _ rfl fun j => mask_byte (hb _))).trans ?_
  refine congrArg tb (funext fun | 0 => Fin.ext ?_)
  refine Eq.trans ?_ (byte_toInt (hb ⟨(4 * c.val + r.val) % 16, Nat.mod_lt _ (by decide)⟩))
  fin_cases r <;> fin_cases c <;> rfl

/-! ## The round key -/

/-- Three words and one word, end to end. -/
def turn (v : IVec S4 32) : IVec S4 32 :=
  concatenate S4 0 [⟨S3, extractStridedSlice S3 ![1] v slices_S4_S3_1⟩, ⟨S1, extractStridedSlice S1 ![0] v slices_S4_S1_0⟩]
    concatenates_S3_S1_S4_d0

/-- The turned words: each the next one, the last the first. -/
theorem turn_vec (v : Fin 4 → W) : turn (vec v) = vec ![v 1, v 2, v 3, v 0] := by
  refine vec_ext fun i => ?_
  fin_cases i <;> rfl

/-- Word `n` of an array, as a scalar. -/
def word {s : Nat} (n : Nat) (x : IVec (Sh s) 32) (h : (Sh s).Slices ![n] S1) : IVec S_ 32 :=
  shapeCast _ (extractStridedSlice S1 ![n] x h) shapeCasts_S1_S_

/-- The scalar is the word. -/
theorem word_eq {s : Nat} (hs : 0 < s) (n : Nat) (hn : n < s) (x : IVec (Sh s) 32) (h : (Sh s).Slices ![n] S1) (j : S_.Idx) :
    word n x h j = x (pos s hs n) := by
  refine congrArg x (funext fun | 0 => Fin.ext ?_)
  have hb : (Shape.reshapeEquiv shapeCasts_S1_S_ j 0).val < 1 := (Shape.reshapeEquiv shapeCasts_S1_S_ j 0).isLt
  show n + (Shape.reshapeEquiv shapeCasts_S1_S_ j 0).val = n % s
  rw [Nat.mod_eq_of_lt hn]; omega

/-- The first word replaced by its sum with round constant `n`. -/
def addCon (n : Nat) (h : S10.Slices ![n] S1) (rc : IVec S10 32) (v : IVec S4 32) : IVec S4 32 :=
  Host.scatter scatter_S4_S1_S__n_0_0_0 (fun _ b => b) v (broadcastInDim S1 ![] bcast_S_S1 (constantI S_ 32 0#32))
    (xori (word 0 v slices_S4_S1_0) (word n rc h))

/-- The first word is summed with the constant, the others stay. -/
theorem addCon_vec (n : Nat) (hn : n < 10) (h : S10.Slices ![n] S1) (rc : IVec S10 32) (v : Fin 4 → W) :
    addCon n h rc (vec v) = vec ![v 0 ^^^ con rc n, v 1, v 2, v 3] := by
  refine vec_ext fun i => ?_
  match i with
  | 0 =>
    exact congrArg₂ IntOp.xori (word_eq (by decide) 0 (by decide) (vec v) slices_S4_S1_0 (S_.rowMajor.symm ⟨0, by decide⟩))
      (word_eq (by decide) n hn rc h (S_.rowMajor.symm ⟨0, by decide⟩))
  | 1 => rfl
  | 2 => rfl
  | 3 => rfl

/-- Four columns side by side. -/
def join (a b c d : IVec S4 32) : IVec S4x4 32 :=
  concatenate S4x4 1
    [⟨S4x1, broadcastInDim S4x1 ![0] bcast_S4_S4x1_0 a⟩, ⟨S4x1, broadcastInDim S4x1 ![0] bcast_S4_S4x1_0 b⟩,
      ⟨S4x1, broadcastInDim S4x1 ![0] bcast_S4_S4x1_0 c⟩, ⟨S4x1, broadcastInDim S4x1 ![0] bcast_S4_S4x1_0 d⟩]
    concatenates_S4x1_S4x1_S4x1_S4x1_S4x4_d1

/-- The columns joined are the block whose columns they are. -/
theorem join_vec (v : Fin 4 → Fin 4 → W) :
    join (vec (v 0)) (vec (v 1)) (vec (v 2)) (vec (v 3)) = mat fun i => v ⟨i.val / 4, by omega⟩ ⟨i.val % 4, by omega⟩ := by
  refine mat_ext fun r c => ?_
  fin_cases r <;> fin_cases c <;> rfl

/-- Sums of arrays of four words are taken word by word. -/
theorem xori_vec (a b : Fin 4 → W) : xori (vec a) (vec b) = vec fun r => a r ^^^ b r := rfl

/-- Sums of matrices are taken word by word. -/
theorem xori_mat (a b : Block) : xori (mat a) (mat b) = mat fun i => a i ^^^ b i := rfl

/-- The next round key's first column. -/
def keyCol0 (n : Nat) (h : S10.Slices ![n] S1) (tb : IVec S256 32) (rc : IVec S10 32) (k : IVec S4x4 32) : IVec S4 32 :=
  xori (takeCol 0 slices_S4x4_S4x1_0_0 k) (addCon n h rc (take4 tb (turn (takeCol 3 slices_S4x4_S4x1_0_3 k))))
/-- Its second column. -/
def keyCol1 (n : Nat) (h : S10.Slices ![n] S1) (tb : IVec S256 32) (rc : IVec S10 32) (k : IVec S4x4 32) : IVec S4 32 :=
  xori (keyCol0 n h tb rc k) (takeCol 1 slices_S4x4_S4x1_0_1 k)
/-- Its third column. -/
def keyCol2 (n : Nat) (h : S10.Slices ![n] S1) (tb : IVec S256 32) (rc : IVec S10 32) (k : IVec S4x4 32) : IVec S4 32 :=
  xori (keyCol1 n h tb rc k) (takeCol 2 slices_S4x4_S4x1_0_2 k)
/-- The next round key. -/
def keyStep (n : Nat) (h : S10.Slices ![n] S1) (tb : IVec S256 32) (rc : IVec S10 32) (k : IVec S4x4 32) : IVec S4x4 32 :=
  join (keyCol0 n h tb rc k) (keyCol1 n h tb rc k) (keyCol2 n h tb rc k)
    (xori (keyCol2 n h tb rc k) (takeCol 3 slices_S4x4_S4x1_0_3 k))

/-- The next round key's first column is the specification's. -/
theorem keyCol0_mat (n : Nat) (hn : n < 10) (h : S10.Slices ![n] S1) (tb : IVec S256 32) (rc : IVec S10 32) {k : Block} (hk : Bytes k) :
    keyCol0 n h tb rc (mat k) = vec (keyCol (tbl tb) (con rc n) k 0) := by
  unfold keyCol0
  rw [takeCol_mat 0 (by decide), takeCol_mat 3 (by decide), turn_vec, take4_byte tb (v := ![_, _, _, _]) (fun i => by fin_cases i <;> exact hk _),
    addCon_vec n hn, xori_vec]
  refine vec_ext fun i => ?_
  fin_cases i <;> rfl

/-- The next round key is the specification's. -/
theorem keyStep_mat (n : Nat) (hn : n < 10) (h : S10.Slices ![n] S1) (tb : IVec S256 32) (rc : IVec S10 32) {k : Block} (hk : Bytes k) :
    keyStep n h tb rc (mat k) = mat (nextKey (tbl tb) (con rc n) k) := by
  unfold keyStep keyCol2 keyCol1
  rw [keyCol0_mat n hn h tb rc hk, takeCol_mat 1 (by decide), takeCol_mat 2 (by decide), takeCol_mat 3 (by decide),
    xori_vec, xori_vec, xori_vec]
  refine Eq.trans ?_ (join_vec fun j => keyCol (tbl tb) (con rc n) k j.val)
  refine mat_ext fun r c => ?_
  fin_cases r <;> fin_cases c <;> rfl

/-! ## The row shift and the mixed columns -/

/-- Row `n` of a matrix. -/
def takeRow (n : Nat) (h : S4x4.Slices ![n, 0] S1x4) (x : IVec S4x4 32) : IVec S4 32 :=
  shapeCast _ (extractStridedSlice S1x4 ![n, 0] x h) shapeCasts_S1x4_S4

/-- The words of a row. -/
theorem takeRow_mat (n : Nat) (hn : n < 4) (h : S4x4.Slices ![n, 0] S1x4) (b : Block) :
    takeRow n h (mat b) = vec fun c => b ⟨4 * c.val + n, by omega⟩ := by
  refine vec_ext fun i => ?_
  interval_cases n <;> fin_cases i <;> rfl

/-- Four rows under one another. -/
def pile (a b c d : IVec S4 32) : IVec S4x4 32 :=
  concatenate S4x4 0
    [⟨S1x4, broadcastInDim S1x4 ![1] bcast_S4_S1x4_1 a⟩, ⟨S1x4, broadcastInDim S1x4 ![1] bcast_S4_S1x4_1 b⟩,
      ⟨S1x4, broadcastInDim S1x4 ![1] bcast_S4_S1x4_1 c⟩, ⟨S1x4, broadcastInDim S1x4 ![1] bcast_S4_S1x4_1 d⟩]
    concatenates_S1x4_S1x4_S1x4_S1x4_S4x4_d0

/-- The rows, row `n` turned by `n`. -/
def shift (x : IVec S4x4 32) : IVec S4x4 32 :=
  pile (takeRow 0 slices_S4x4_S1x4_0_0 x) (turn (takeRow 1 slices_S4x4_S1x4_1_0 x))
    (concatenate S4 0
      [⟨S2, extractStridedSlice S2 ![2] (takeRow 2 slices_S4x4_S1x4_2_0 x) slices_S4_S2_2⟩,
        ⟨S2, extractStridedSlice S2 ![0] (takeRow 2 slices_S4x4_S1x4_2_0 x) slices_S4_S2_0⟩]
      concatenates_S2_S2_S4_d0)
    (concatenate S4 0
      [⟨S1, extractStridedSlice S1 ![3] (takeRow 3 slices_S4x4_S1x4_3_0 x) slices_S4_S1_3⟩,
        ⟨S3, extractStridedSlice S3 ![0] (takeRow 3 slices_S4x4_S1x4_3_0 x) slices_S4_S3_0⟩]
      concatenates_S1_S3_S4_d0)

/-- The shifted rows, as a block. -/
theorem shift_mat (b : Block) : shift (mat b) = mat fun i => b (perm i) := by
  unfold shift
  rw [takeRow_mat 0 (by decide), takeRow_mat 1 (by decide), takeRow_mat 2 (by decide), takeRow_mat 3 (by decide), turn_vec]
  refine mat_ext fun r c => ?_
  fin_cases r <;> fin_cases c <;> with_unfolding_all rfl

/-- Substitution and row shift are the specification's. -/
theorem shift_take (tb : IVec S256 32) {b : Block} (hb : Bytes b) : shift (take16 tb (mat b)) = mat (sub (tbl tb) b) := by
  rw [take16_byte tb hb, shift_mat]; rfl

/-- The number `w` four times. -/
def four (w : W) : IVec S4 32 := broadcastInDim S4 ![] bcast_S_S4 (constantI S_ 32 w)

/-- Four words doubled. -/
def twice (x : IVec S4 32) : IVec S4 32 :=
  andi (xori (Host.shli x (four 1#32)) (muli (andi (Host.shrsi x (four 7#32)) (four 1#32)) (four 27#32))) (four 255#32)

/-- A row of mixed words, from the row, the columns' sums, and the row's sum with the next one. -/
def mixRow (e t x : IVec S4 32) : IVec S4 32 := andi (xori (xori e t) (twice x)) (four 255#32)

/-- The mixed columns, from the four rows. -/
def mixRows (a b c d : IVec S4 32) : IVec S4x4 32 :=
  let t := xori (xori (xori a b) c) d
  pile (mixRow a t (xori a b)) (mixRow b t (xori b c)) (mixRow c t (xori c d)) (mixRow d t (xori d a))

/-- The mixed columns. -/
def mixAll (x : IVec S4x4 32) : IVec S4x4 32 :=
  mixRows (takeRow 0 slices_S4x4_S1x4_0_0 x) (takeRow 1 slices_S4x4_S1x4_1_0 x) (takeRow 2 slices_S4x4_S1x4_2_0 x)
    (takeRow 3 slices_S4x4_S1x4_3_0 x)

/-- A row of mixed bytes is the specification's, word by word. -/
theorem mixRow_vec {a b t : Fin 4 → W} (ha : ∀ c, IsByte (a c)) (ht : ∀ c, IsByte (t c)) :
    mixRow (vec a) (vec t) (xori (vec a) (vec b)) = vec fun c => mixWord (a c) (b c) (t c) := by
  funext x
  exact IsByte.mask_eq (((ha (x 0)).xor (ht (x 0))).xor (IsByte.dbl (a (x 0) ^^^ b (x 0))))

/-- The rows piled up are the block whose rows they are. -/
theorem pile_vec (v : Fin 4 → Fin 4 → W) :
    pile (vec (v 0)) (vec (v 1)) (vec (v 2)) (vec (v 3)) = mat fun i => v ⟨i.val % 4, by omega⟩ ⟨i.val / 4, by omega⟩ := by
  refine mat_ext fun r c => ?_
  fin_cases r <;> fin_cases c <;> rfl

/-- The mixed columns are the specification's. -/
theorem mixAll_mat {b : Block} (hb : Bytes b) : mixAll (mat b) = mat (mix b) := by
  let e (n : Fin 4) (c : Fin 4) : W := b ⟨4 * c.val + n.val, by omega⟩
  let t (c : Fin 4) : W := ((e 0 c ^^^ e 1 c) ^^^ e 2 c) ^^^ e 3 c
  have he (n c : Fin 4) : IsByte (e n c) := hb _
  have ht (c : Fin 4) : IsByte (t c) := (((hb _).xor (hb _)).xor (hb _)).xor (hb _)
  unfold mixAll
  rw [takeRow_mat 0 (by decide), takeRow_mat 1 (by decide), takeRow_mat 2 (by decide), takeRow_mat 3 (by decide)]
  change pile (mixRow (vec (e 0)) (vec t) (xori (vec (e 0)) (vec (e 1))))
    (mixRow (vec (e 1)) (vec t) (xori (vec (e 1)) (vec (e 2))))
    (mixRow (vec (e 2)) (vec t) (xori (vec (e 2)) (vec (e 3))))
    (mixRow (vec (e 3)) (vec t) (xori (vec (e 3)) (vec (e 0)))) = _
  rw [mixRow_vec (he 0) ht, mixRow_vec (he 1) ht, mixRow_vec (he 2) ht, mixRow_vec (he 3) ht]
  refine (pile_vec fun n c => mixWord (e n c) (e ⟨(n.val + 1) % 4, by omega⟩ c) (t c)).trans (congrArg mat (funext fun i => ?_))
  fin_cases i <;> rfl

/-- One full round. -/
def roundStep (tb : IVec S256 32) (k x : IVec S4x4 32) : IVec S4x4 32 := xori (mixAll (shift (take16 tb x))) k

/-- A round is the specification's. -/
theorem roundStep_mat (tb : IVec S256 32) (ht : ∀ w, IsByte (tbl tb w)) (k : Block) {s : Block} (hs : Bytes s) :
    roundStep tb (mat k) (mat s) = mat (round (tbl tb) k s) := by
  unfold roundStep
  rw [shift_take tb hs, mixAll_mat (Bytes.sub ht s), xori_mat]; rfl

/-- A matrix read back as sixteen words. -/
def flat (x : IVec S4x4 32) : IVec S16 32 :=
  shapeCast _ (transpose S4x4 [1, 0] x transposes_S4x4_S4x4_1_0) shapeCasts_S4x4_S16

/-- The words read back are the block's. -/
theorem flat_mat (b : Block) : flat (mat b) = arr b := by
  funext x
  rw [eq_ix1 x]
  generalize (x 0 : Fin 16) = i
  fin_cases i <;> rfl

end Cert.Proof.Aes.Host

end
-- ==== Proof.Equation.lean ====
/-
  The reference's result, read off its operations: the key schedule and the rounds in turn, each the step of Host.lean,
  and so the block encrypted.
-/
module

public import proofs.«01_k».proof.Proof.Gen.ReferenceIdeal.Run
public import proofs.«01_k».proof.Proof.Host

@[expose] public section

set_option maxRecDepth 16384

noncomputable section

namespace Cert.Proof.Aes.Host

open Cert.ReferenceIdeal Cert.ReferenceIdeal.Gen Cert.ReferenceIdeal.Value Idealize.ShloMosaic Idealize.ShloMosaic.StableHlo

variable {F : FTy → Type} [FloatOps F] (V : Valuation τ sig (Elt F))

/-- The four arguments: the block, the key, the table and the round constants. -/
abbrev ptA : IVec S16 32 := V (Proc.devRef .tc main_arg0)
abbrev keA : IVec S16 32 := V (Proc.devRef .tc main_arg1)
abbrev sbA : IVec S256 32 := V (Proc.devRef .tc main_arg2)
abbrev rcA : IVec S10 32 := V (Proc.devRef .tc main_arg3)

/-- Every word of the four arguments is a byte. -/
structure RefBytes : Prop where
  pt : ∀ i, IsByte (ptA V i)
  key : ∀ i, IsByte (keA V i)
  sb : ∀ i, IsByte (sbA V i)
  rc : ∀ i, IsByte (rcA V i)

/-- The specification's round keys and states of the arguments. -/
abbrev rk (n : Nat) : Block := rkAt (tbl (sbA V)) (con (rcA V)) (blk (keA V)) n
abbrev st (n : Nat) : Block := stAt (tbl (sbA V)) (con (rcA V)) (blk (keA V)) (blk (ptA V)) n

variable {V}

/-- The round keys and the states are bytes. -/
theorem rk_bytes (hb : RefBytes V) (n : Nat) : Bytes (rk V n) :=
  rkAt_bytes (fun _ => hb.sb _) (fun _ => hb.rc _) (fun _ => hb.key _) n
theorem st_bytes (hb : RefBytes V) (n : Nat) : Bytes (st V n) :=
  stAt_bytes (fun _ => hb.sb _) (fun _ => hb.rc _) (fun _ => hb.key _) (fun _ => hb.pt _) n

/-- One step of the key schedule: a round key from the one before. -/
theorem key_step (hb : RefBytes V) {n : Nat} (hn : n < 10) (h : S10.Slices ![n] S1) {a b : IVec S4x4 32}
    (e : b = keyStep n h (sbA V) (rcA V) a) (ha : a = mat (rk V n)) : b = mat (rk V (n + 1)) := by
  rw [e, ha, keyStep_mat n hn h _ _ (rk_bytes hb n)]; rfl

/-- One round: a state from the one before and the round's key. -/
theorem state_step (hb : RefBytes V) {n : Nat} {k a b : IVec S4x4 32} (e : b = roundStep (sbA V) k a) (hk : k = mat (rk V (n + 1)))
    (ha : a = mat (st V n)) : b = mat (st V (n + 1)) := by
  rw [e, hk, ha, roundStep_mat _ (fun _ => hb.sb _) _ (st_bytes hb n)]; rfl

/-- The key laid out. -/
theorem key0 : res_main_v1 V = mat (rk V 0) := toMat_eq _

/-- The nine round keys after it. -/
theorem key1 (hb : RefBytes V) : res_main_v29 V = mat (rk V 1) :=
  key_step hb (by decide) slices_S10_S1_0 rfl key0
theorem key2 (hb : RefBytes V) : res_main_v57 V = mat (rk V 2) :=
  key_step hb (by decide) slices_S10_S1_1 rfl (key1 hb)
theorem key3 (hb : RefBytes V) : res_main_v85 V = mat (rk V 3) :=
  key_step hb (by decide) slices_S10_S1_2 rfl (key2 hb)
theorem key4 (hb : RefBytes V) : res_main_v113 V = mat (rk V 4) :=
  key_step hb (by decide) slices_S10_S1_3 rfl (key3 hb)
theorem key5 (hb : RefBytes V) : res_main_v141 V = mat (rk V 5) :=
  key_step hb (by decide) slices_S10_S1_4 rfl (key4 hb)
theorem key6 (hb : RefBytes V) : res_main_v169 V = mat (rk V 6) :=
  key_step hb (by decide) slices_S10_S1_5 rfl (key5 hb)
theorem key7 (hb : RefBytes V) : res_main_v197 V = mat (rk V 7) :=
  key_step hb (by decide) slices_S10_S1_6 rfl (key6 hb)
theorem key8 (hb : RefBytes V) : res_main_v225 V = mat (rk V 8) :=
  key_step hb (by decide) slices_S10_S1_7 rfl (key7 hb)
theorem key9 (hb : RefBytes V) : res_main_v253 V = mat (rk V 9) :=
  key_step hb (by decide) slices_S10_S1_8 rfl (key8 hb)

/-- The last round key. -/
theorem key10 (hb : RefBytes V) : join (res_main_v267 V) (res_main_v270 V) (res_main_v273 V)
    (xori (res_main_v273 V) (takeCol 3 slices_S4x4_S4x1_0_3 (res_main_v253 V))) = mat (rk V 10) :=
  key_step hb (by decide) slices_S10_S1_9 rfl (key9 hb)

/-- The block laid out, under the key. -/
theorem state0 : res_main_v284 V = mat (st V 0) := by
  refine Eq.trans (b := xori (toMat (ptA V)) (res_main_v1 V)) rfl ?_
  rw [toMat_eq, key0, xori_mat]; rfl

/-- The nine full rounds. -/
theorem state1 (hb : RefBytes V) : res_main_v382 V = mat (st V 1) :=
  state_step hb rfl (key1 hb) state0
theorem state2 (hb : RefBytes V) : res_main_v480 V = mat (st V 2) :=
  state_step hb rfl (key2 hb) (state1 hb)
theorem state3 (hb : RefBytes V) : res_main_v578 V = mat (st V 3) :=
  state_step hb rfl (key3 hb) (state2 hb)
theorem state4 (hb : RefBytes V) : res_main_v676 V = mat (st V 4) :=
  state_step hb rfl (key4 hb) (state3 hb)
theorem state5 (hb : RefBytes V) : res_main_v774 V = mat (st V 5) :=
  state_step hb rfl (key5 hb) (state4 hb)
theorem state6 (hb : RefBytes V) : res_main_v872 V = mat (st V 6) :=
  state_step hb rfl (key6 hb) (state5 hb)
theorem state7 (hb : RefBytes V) : res_main_v970 V = mat (st V 7) :=
  state_step hb rfl (key7 hb) (state6 hb)
theorem state8 (hb : RefBytes V) : res_main_v1068 V = mat (st V 8) :=
  state_step hb rfl (key8 hb) (state7 hb)
theorem state9 (hb : RefBytes V) : res_main_v1166 V = mat (st V 9) :=
  state_step hb rfl (key9 hb) (state8 hb)

/-- The last round, without the column mix, read back: the block encrypted. -/
theorem result (hb : RefBytes V) :
    flat (xori (shift (res_main_v1167 V)) (join (res_main_v267 V) (res_main_v270 V) (res_main_v273 V)
      (xori (res_main_v273 V) (takeCol 3 slices_S4x4_S4x1_0_3 (res_main_v253 V)))))
      = arr (aes (tbl (sbA V)) (con (rcA V)) (blk (keA V)) (blk (ptA V))) := by
  have e : shift (res_main_v1167 V) = mat (sub (tbl (sbA V)) (st V 9)) :=
    Eq.trans (b := shift (take16 (sbA V) (res_main_v1166 V))) rfl (by rw [state9 hb, shift_take _ (st_bytes hb 9)])
  rw [e, key10 hb, xori_mat, flat_mat]; rfl

end Cert.Proof.Aes.Host

end
-- ==== Proof.Printed.lean ====
/-
  The reference's runs: of its idealization, over any float values, and of the program as printed, whose text is the same.
-/
module

public import proofs.«01_k».proof.Proof.Equation
public import proofs.«01_k».proof.Proof.Gen.Reference
public import Idealize.ShloMosaic.PureOps.BitExact
public import Idealize.ShloMosaic.Adequacy
public import Idealize.ShloMosaic.Init

@[expose] public section

noncomputable section

namespace Cert.Proof.Aes

open Idealize.ShloMosaic Idealize.SL.Sem Idealize.ShloMosaic.StableHlo

section Ideal

open Cert.ReferenceIdeal

variable {F : FTy → Type} [FloatOps F]

/-- The reference runs to its end, on arguments that are bytes with the block encrypted; the arguments are unchanged and
    every counter (it has none) is at zero. -/
theorem reference_run (m : (ℓ : Loc nD τ sig) → Buf (Elt F) ℓ) (ρ : Dev nD → PrngReg) :
    θ_run (defs (F := F)) (onTc (τ := τ) (main (F := F))) ⟨m, fun _ => 0, ρ⟩ fun r => (∀ c : Dev nD,
      ((∀ i, IsByte (m ((c.tc : Thread nD τ).loc main_arg0) i)) → (∀ i, IsByte (m ((c.tc : Thread nD τ).loc main_arg1) i)) →
        (∀ i, IsByte (m ((c.tc : Thread nD τ).loc main_arg2) i)) → (∀ i, IsByte (m ((c.tc : Thread nD τ).loc main_arg3) i)) →
        r.2.mem ((c.tc : Thread nD τ).loc main_v1186)
          = arr (aes (tbl (m ((c.tc : Thread nD τ).loc main_arg2))) (con (m ((c.tc : Thread nD τ).loc main_arg3)))
            (blk (m ((c.tc : Thread nD τ).loc main_arg1))) (blk (m ((c.tc : Thread nD τ).loc main_arg0)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  (θ_run defs _ _).mono (fun r h => ⟨fun c => ⟨fun hp hk hs hr => (h c).1.trans (Host.result (V := launchContents m c) ⟨hp, hk, hs, hr⟩),
    (h c).2⟩, sem_eq_zero_of_no_sems (by decide) r.2⟩) (Value.run m ρ)

end Ideal

section Printed

open Cert.Reference

-- the two programs are compared operation by operation
set_option maxHeartbeats 0 in
/-- The reference as printed runs so. -/
theorem printed_run (m : (ℓ : Loc nD τ sig) → Buf (Elt Bits) ℓ) (ρ : Dev nD → PrngReg) :
    θ_run (defs (F := Bits)) (onTc (τ := τ) (main (F := Bits))) ⟨m, fun _ => 0, ρ⟩ fun r => (∀ c : Dev nD,
      ((∀ i, IsByte (m ((c.tc : Thread nD τ).loc main_arg0) i)) → (∀ i, IsByte (m ((c.tc : Thread nD τ).loc main_arg1) i)) →
        (∀ i, IsByte (m ((c.tc : Thread nD τ).loc main_arg2) i)) → (∀ i, IsByte (m ((c.tc : Thread nD τ).loc main_arg3) i)) →
        r.2.mem ((c.tc : Thread nD τ).loc main_v1186)
          = arr (aes (tbl (m ((c.tc : Thread nD τ).loc main_arg2))) (con (m ((c.tc : Thread nD τ).loc main_arg3)))
            (blk (m ((c.tc : Thread nD τ).loc main_arg1))) (blk (m ((c.tc : Thread nD τ).loc main_arg0)))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0 :=
  reference_run (F := Bits) m ρ

end Printed

end Cert.Proof.Aes

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Reference
public import proofs.«01_k».proof.Proof.Gen.Pre_in_bytes
public import proofs.«01_k».proof.Proof.Frames
public import proofs.«01_k».proof.Proof.Printed
public import Idealize.ShloMosaic.Adequacy
public import Idealize.ShloMosaic.Init

@[expose] public section

noncomputable section

namespace Cert.Proof

open Idealize.ShloMosaic Idealize.SL.Sem Idealize.ShloMosaic.StableHlo Cert.Proof.Aes

/-- The reference, as printed, runs to its end, the arguments unchanged and every counter at zero. -/
theorem frame_reference : Cert.quiescent_Reference := fun m ρ _ =>
  (θ_run Cert.Reference.defs _ _).mono (fun _ h => ⟨fun c => (h.1 c).2, h.2⟩) (printed_run m ρ)
/-- So does the idealized reference. -/
theorem frame_referenceIdeal : Cert.quiescent_ReferenceIdeal := fun m ρ _ =>
  (θ_run Cert.ReferenceIdeal.defs _ _).mono (fun _ h => ⟨fun c => (h.1 c).2, h.2⟩) (reference_run (F := Ideal) m ρ)
/-- And under the precondition too. -/
theorem frame_referenceIdeal_pre : Cert.quiescent_ReferenceIdeal_pre_in_bytes := fun m ρ _ =>
  (θ_run Cert.ReferenceIdeal.defs _ _).mono (fun _ h => ⟨fun c => (h.1 c).2, h.2⟩) (reference_run (F := Ideal) m ρ)

/-- A word equal to a byte is a byte. -/
theorem byte_of_eq {a b : W} (h : a = b) (hb : IsByte b) : IsByte a := h ▸ hb

/-- One argument array's words, read by either program, name one encryption. -/
theorem aes_eq {s s' : IVec (Sh 256) 32} {r r' : IVec (Sh 10) 32} {k k' p p' : IVec (Sh 16) 32} (hp : p' = p) (hk : k' = k)
    (hs : s' = s) (hr : r' = r) : arr (aes (tbl s') (con r') (blk k') (blk p')) = arr (aes (tbl s) (con r) (blk k) (blk p)) := by
  rw [hp, hk, hs, hr]

/-- The kernel and the reference end with one array: the block encrypted. -/
theorem algebraic : Cert.algebraic_KernelIdeal_ReferenceIdeal := by
  intro m ρ m' ρ' hp ha
  have hb := kernelIdeal_bytes hp
  refine ⟨fun c => out₀ (F := Ideal) m c, (θ_run Cert.KernelIdeal.defs _ _).mono (fun _ h => h.1) (run_main (F := Ideal) m ρ hb), ?_⟩
  exact (θ_run Cert.ReferenceIdeal.defs _ _).mono
    (fun _ h c => ⟨((h.1 c).1 (fun i => byte_of_eq (congrFun (ha c).1 i) ((hb c).pt i)) (fun i => byte_of_eq (congrFun (ha c).2.1 i) ((hb c).key i))
      (fun i => byte_of_eq (congrFun (ha c).2.2.1 i) ((hb c).sb i)) (fun i => byte_of_eq (congrFun (ha c).2.2.2 i) ((hb c).rc i))).trans
      (aes_eq (ha c).1 (ha c).2.1 (ha c).2.2.1 (ha c).2.2.2), (h.1 c).2⟩)
    (reference_run (F := Ideal) m' ρ')

/-- The same of the programs as printed. -/
theorem bitexact : Cert.bitexact_Kernel_Reference := by
  intro m ρ m' ρ' hp ha
  have hb := kernel_bytes hp
  refine ⟨fun c => out₀ (F := Bits) m c, (θ_run Cert.KernelIdeal.defs _ _).mono (fun _ h => h.1) (run_main (F := Bits) m ρ hb), ?_⟩
  exact (θ_run Cert.Reference.defs _ _).mono
    (fun _ h c => ⟨((h.1 c).1 (fun i => byte_of_eq (congrFun (ha c).1 i) ((hb c).pt i)) (fun i => byte_of_eq (congrFun (ha c).2.1 i) ((hb c).key i))
      (fun i => byte_of_eq (congrFun (ha c).2.2.1 i) ((hb c).sb i)) (fun i => byte_of_eq (congrFun (ha c).2.2.2 i) ((hb c).rc i))).trans
      (aes_eq (ha c).1 (ha c).2.1 (ha c).2.2.1 (ha c).2.2.2), (h.1 c).2⟩)
    (printed_run m' ρ')

/-- Every claim of the certificate. -/
theorem claim : Cert.Claim :=
  ⟨Cert.Kernel.Gen.facts, Cert.KernelIdeal.Gen.facts, Cert.ReferenceIdeal.Gen.facts, Cert.Reference.Gen.facts, Cert.Pre_in_bytes.Gen.facts,
    frame_kernel, frame_kernelIdeal, frame_referenceIdeal, frame_referenceIdeal_pre, frame_reference, trivial, algebraic, bitexact⟩

end Cert.Proof

end
